-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10)
      ∧ r.2.mem ((c.tc : Thread Cert.Qkv.nD Cert.Qkv.τ).loc Cert.Qkv.main_arg11) = m ((c.tc : Thread Cert.Qkv.nD Cert.Qkv.τ).loc Cert.Qkv.main_arg11)
      ∧ r.2.mem ((c.tc : Thread Cert.Qkv.nD Cert.Qkv.τ).loc Cert.Qkv.main_arg12) = m ((c.tc : Thread Cert.Qkv.nD Cert.Qkv.τ).loc Cert.Qkv.main_arg12))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
      ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11)
      ∧ r.2.mem ((c.tc : Thread Cert.QkvRefIdeal.nD Cert.QkvRefIdeal.τ).loc Cert.QkvRefIdeal.main_arg12) = m ((c.tc : Thread Cert.QkvRefIdeal.nD Cert.QkvRefIdeal.τ).loc Cert.QkvRefIdeal.main_arg12))
      ∧ r.2.sem = fun _ => 0)

def preserves_Attn_AttnIdeal : Prop :=
  IdealRules.named_const.Statement Cert.AttnIdeal.κ "log2e" .f32 0x3FB8AA3B#32 (((Real.log 2)⁻¹ : ℝ) : EReal)
  ∧ IdealRules.named_const.Statement Cert.AttnIdeal.κ "inv_127" .f32 0x3C010204#32 ((1 / 127 : ℝ) : EReal)

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v2_0)) (v1 : (c : Dev Cert.AttnIdeal.nD) → Buf (Elt Ideal) ((c.tc : Thread Cert.AttnIdeal.nD Cert.AttnIdeal.τ).loc Cert.AttnIdeal.main_v2_1)) (v2 : (c : Dev Cert.AttnIdeal.nD) → Buf (Elt Ideal) ((c.tc : Thread Cert.AttnIdeal.nD Cert.AttnIdeal.τ).loc Cert.AttnIdeal.main_v2_2)) (v3 : (c : Dev Cert.AttnIdeal.nD) → Buf (Elt Ideal) ((c.tc : Thread Cert.AttnIdeal.nD Cert.AttnIdeal.τ).loc Cert.AttnIdeal.main_v2_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2_0) = v0 c
          ∧ r.2.mem ((c.tc : Thread Cert.AttnIdeal.nD Cert.AttnIdeal.τ).loc Cert.AttnIdeal.main_v2_1) = v1 c
          ∧ r.2.mem ((c.tc : Thread Cert.AttnIdeal.nD Cert.AttnIdeal.τ).loc Cert.AttnIdeal.main_v2_2) = v2 c
          ∧ r.2.mem ((c.tc : Thread Cert.AttnIdeal.nD Cert.AttnIdeal.τ).loc Cert.AttnIdeal.main_v2_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v48) = v0 c
          ∧ r.2.mem ((c.tc : Thread Cert.AttnRefIdeal.nD Cert.AttnRefIdeal.τ).loc Cert.AttnRefIdeal.main_v49) = v1 c
          ∧ r.2.mem ((c.tc : Thread Cert.AttnRefIdeal.nD Cert.AttnRefIdeal.τ).loc Cert.AttnRefIdeal.main_v29) = v2 c
          ∧ r.2.mem ((c.tc : Thread Cert.AttnRefIdeal.nD Cert.AttnRefIdeal.τ).loc Cert.AttnRefIdeal.main_v22) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Qkv_QkvIdeal : Prop :=
  IdealRules.named_const.Statement Cert.QkvIdeal.κ "inv_127" .f32 0x3C010204#32 ((1 / 127 : ℝ) : EReal)

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)
      ∧ m' ((c.tc : Thread Cert.QkvRefIdeal.nD Cert.QkvRefIdeal.τ).loc Cert.QkvRefIdeal.main_arg11) = m ((c.tc : Thread Cert.QkvIdeal.nD Cert.QkvIdeal.τ).loc Cert.QkvIdeal.main_arg11)
      ∧ m' ((c.tc : Thread Cert.QkvRefIdeal.nD Cert.QkvRefIdeal.τ).loc Cert.QkvRefIdeal.main_arg12) = m ((c.tc : Thread Cert.QkvIdeal.nD Cert.QkvIdeal.τ).loc Cert.QkvIdeal.main_arg12)) →
    ∃ (v0 : (c : Dev Cert.QkvIdeal.nD) → Buf (Elt Ideal) ((c.tc : Thread Cert.QkvIdeal.nD Cert.QkvIdeal.τ).loc Cert.QkvIdeal.main_v7_0)) (v1 : (c : Dev Cert.QkvIdeal.nD) → Buf (Elt Ideal) ((c.tc : Thread Cert.QkvIdeal.nD Cert.QkvIdeal.τ).loc Cert.QkvIdeal.main_v7_1)) (v2 : (c : Dev Cert.QkvIdeal.nD) → Buf (Elt Ideal) ((c.tc : Thread Cert.QkvIdeal.nD Cert.QkvIdeal.τ).loc Cert.QkvIdeal.main_v7_2)) (v3 : (c : Dev Cert.QkvIdeal.nD) → Buf (Elt Ideal) ((c.tc : Thread Cert.QkvIdeal.nD Cert.QkvIdeal.τ).loc Cert.QkvIdeal.main_v7_3)) (v4 : (c : Dev Cert.QkvIdeal.nD) → Buf (Elt Ideal) ((c.tc : Thread Cert.QkvIdeal.nD Cert.QkvIdeal.τ).loc Cert.QkvIdeal.main_v7_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v7_0) = v0 c
          ∧ r.2.mem ((c.tc : Thread Cert.QkvIdeal.nD Cert.QkvIdeal.τ).loc Cert.QkvIdeal.main_v7_1) = v1 c
          ∧ r.2.mem ((c.tc : Thread Cert.QkvIdeal.nD Cert.QkvIdeal.τ).loc Cert.QkvIdeal.main_v7_2) = v2 c
          ∧ r.2.mem ((c.tc : Thread Cert.QkvIdeal.nD Cert.QkvIdeal.τ).loc Cert.QkvIdeal.main_v7_3) = v3 c
          ∧ r.2.mem ((c.tc : Thread Cert.QkvIdeal.nD Cert.QkvIdeal.τ).loc Cert.QkvIdeal.main_v7_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
          ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
          ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v41) = v0 c
          ∧ r.2.mem ((c.tc : Thread Cert.QkvRefIdeal.nD Cert.QkvRefIdeal.τ).loc Cert.QkvRefIdeal.main_v73) = v1 c
          ∧ r.2.mem ((c.tc : Thread Cert.QkvRefIdeal.nD Cert.QkvRefIdeal.τ).loc Cert.QkvRefIdeal.main_v72) = v2 c
          ∧ r.2.mem ((c.tc : Thread Cert.QkvRefIdeal.nD Cert.QkvRefIdeal.τ).loc Cert.QkvRefIdeal.main_v24) = v3 c
          ∧ r.2.mem ((c.tc : Thread Cert.QkvRefIdeal.nD Cert.QkvRefIdeal.τ).loc Cert.QkvRefIdeal.main_v17) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10)
          ∧ r.2.mem ((c.tc : Thread Cert.QkvRefIdeal.nD Cert.QkvRefIdeal.τ).loc Cert.QkvRefIdeal.main_arg11) = m' ((c.tc : Thread Cert.QkvRefIdeal.nD Cert.QkvRefIdeal.τ).loc Cert.QkvRefIdeal.main_arg11)
          ∧ r.2.mem ((c.tc : Thread Cert.QkvRefIdeal.nD Cert.QkvRefIdeal.τ).loc Cert.QkvRefIdeal.main_arg12) = m' ((c.tc : Thread Cert.QkvRefIdeal.nD Cert.QkvRefIdeal.τ).loc Cert.QkvRefIdeal.main_arg12))

def Claim : Prop :=
  ∃ (hAttn : Cert.Attn.Facts) (hAttnIdeal : Cert.AttnIdeal.Facts) (hAttnRefIdeal : Cert.AttnRefIdeal.Facts) (hQkv : Cert.Qkv.Facts) (hQkvIdeal : Cert.QkvIdeal.Facts) (hQkvRefIdeal : Cert.QkvRefIdeal.Facts),
    quiescent_Attn (hAttn := hAttn)
    ∧ quiescent_AttnIdeal (hAttnIdeal := hAttnIdeal)
    ∧ quiescent_AttnRefIdeal (hAttnRefIdeal := hAttnRefIdeal)
    ∧ quiescent_Qkv (hQkv := hQkv)
    ∧ quiescent_QkvIdeal (hQkvIdeal := hQkvIdeal)
    ∧ quiescent_QkvRefIdeal (hQkvRefIdeal := hQkvRefIdeal)
    ∧ preserves_Attn_AttnIdeal
    ∧ algebraic_AttnIdeal_AttnRefIdeal (hAttnIdeal := hAttnIdeal) (hAttnRefIdeal := hAttnRefIdeal)
    ∧ preserves_Qkv_QkvIdeal
    ∧ algebraic_QkvIdeal_QkvRefIdeal (hQkvIdeal := hQkvIdeal) (hQkvRefIdeal := hQkvRefIdeal)
-- ==== Attn.lean ====
abbrev S3x32768x512 : Shape := ⟨3, ![3, 32768, 512]⟩
abbrev S3x512x32768 : Shape := ⟨3, ![3, 512, 32768]⟩
abbrev S512x512 : Shape := ⟨2, ![512, 512]⟩
abbrev S512 : Shape := ⟨1, ![512]⟩
abbrev S1x512 : Shape := ⟨2, ![1, 512]⟩
abbrev S3x32768 : Shape := ⟨2, ![3, 32768]⟩
abbrev S1x1024x512 : Shape := ⟨3, ![1, 1024, 512]⟩
abbrev S1x512x1024 : Shape := ⟨3, ![1, 512, 1024]⟩
abbrev S3x1024 : Shape := ⟨2, ![3, 1024]⟩
abbrev S1024x128 : Shape := ⟨2, ![1024, 128]⟩
abbrev S1024x512 : Shape := ⟨2, ![1024, 512]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩
abbrev S128x1024 : Shape := ⟨2, ![128, 1024]⟩
abbrev S1x1024 : Shape := ⟨2, ![1, 1024]⟩

abbrev nBuf : Space → Nat
  | .hbm => 13
  | .vmem => 23
  | .smem => 0
  | _ => 0

abbrev bufTy : (tb : Table) → Fin (tcTables nBuf tb) → BufTy
  | .hbm, ⟨0, _⟩ => ⟨S3x32768x512, .bf16⟩
  | .hbm, ⟨1, _⟩ => ⟨S3x512x32768, .bf16⟩
  | .hbm, ⟨2, _⟩ => ⟨S3x32768x512, .bf16⟩
  | .hbm, ⟨3, _⟩ => ⟨S3x32768x512, .bf16⟩
  | .hbm, ⟨4, _⟩ => ⟨S512x512, .i8⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S1x512, .f32⟩
  | .hbm, ⟨9, _⟩ => ⟨S3x32768x512, .bf16⟩
  | .hbm, ⟨10, _⟩ => ⟨S3x32768x512, .bf16⟩
  | .hbm, ⟨11, _⟩ => ⟨S3x32768x512, .i8⟩
  | .hbm, ⟨12, _⟩ => ⟨S3x32768, .f32⟩
  | .local _ .vmem, ⟨0, _⟩ => ⟨S1x1024x512, .bf16⟩
  | .local _ .vmem, ⟨1, _⟩ => ⟨S1x1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S512x512, .i8⟩
  | .local _ .vmem, ⟨9, _⟩ => ⟨S1x512, .f32⟩
  | .local _ .vmem, ⟨10, _⟩ => ⟨S1x512, .f32⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .i8⟩
  | .local _ .vmem, ⟨16, _⟩ => ⟨S1x1024x512, .i8⟩
  | .local _ .vmem, ⟨17, _⟩ => ⟨S3x1024, .f32⟩
  | .local _ .vmem, ⟨18, _⟩ => ⟨S3x1024, .f32⟩
  | .local _ .vmem, ⟨19, _⟩ => ⟨S1024x128, .f32⟩
  | .local _ .vmem, ⟨20, _⟩ => ⟨S1024x128, .f32⟩
  | .local _ .vmem, ⟨21, _⟩ => ⟨S1024x512, .f32⟩
  | .local _ .vmem, ⟨22, _⟩ => ⟨S512x512, .bf16⟩
  | _, _ => ⟨S3x32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨3, ![32, 3, 64], ![false, false, false]⟩

def k0_cond4 (i : grid0.Coords) : BitVec 1 :=
  let arg2 : BitVec 32 := BitVec.ofNat 32 (i 2).val
  let c63_i32 : BitVec 32 := 63#32
  let v14 : BitVec 1 := Scalar.cmpi .eq arg2 c63_i32
  let v15 : BitVec 32 := Scalar.extui v14
  let c0_i32_9 : BitVec 32 := 0#32
  let v16 : BitVec 1 := Scalar.cmpi .ne v15 c0_i32_9
  v16

def k0_off1 (i : grid0.Coords) : Fin 2 → Nat :=
  let arg1 : BitVec 32 := BitVec.ofNat 32 (i 1).val
  let v42 : Index := Scalar.indexCast arg1
  let c0_21 : Index := 0#32
  ![v42.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.remsi arg2 c32_i32
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c0_i32_0 : BitVec 32 := 0#32
  let c0_i32_1 : BitVec 32 := 0#32
  ![arg1.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S512x512 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1024x512 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S3x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]
-- ==== AttnIdeal.lean ====
variable {F : FTy → Type} [FloatOps F] [Named F]
def κ : String → Option EReal := fun
  | "inv_127" => some ((1 / 127 : ℝ) : EReal)
  | "log2e" => some (((Real.log 2)⁻¹ : ℝ) : EReal)
  | _ => none
-- ==== AttnRefIdeal.lean ====
abbrev S3x32768x512 : Shape := ⟨3, ![3, 32768, 512]⟩
abbrev S3x512x32768 : Shape := ⟨3, ![3, 512, 32768]⟩
abbrev S512x512 : Shape := ⟨2, ![512, 512]⟩
abbrev S512 : Shape := ⟨1, ![512]⟩
abbrev S3x32768x32768 : Shape := ⟨3, ![3, 32768, 32768]⟩
abbrev S_ : Shape := ⟨0, ![]⟩
abbrev S3x32768 : Shape := ⟨2, ![3, 32768]⟩
abbrev S3x32768x1 : Shape := ⟨3, ![3, 32768, 1]⟩
abbrev S1x1x512 : Shape := ⟨3, ![1, 1, 512]⟩

abbrev nBuf : Space → Nat
  | .hbm => 74
  | .vmem => 0
  | .smem => 0
  | _ => 0

abbrev bufTy : (tb : Table) → Fin (tcTables nBuf tb) → BufTy
  | .hbm, ⟨0, _⟩ => ⟨S3x32768x512, .bf16⟩
  | .hbm, ⟨1, _⟩ => ⟨S3x512x32768, .bf16⟩
  | .hbm, ⟨2, _⟩ => ⟨S3x32768x512, .bf16⟩
  | .hbm, ⟨3, _⟩ => ⟨S3x32768x512, .bf16⟩
  | .hbm, ⟨4, _⟩ => ⟨S512x512, .i8⟩
  | .hbm, ⟨5, _⟩ => ⟨S512, .f32⟩
  | .hbm, ⟨6, _⟩ => ⟨S512, .f32⟩
  | .hbm, ⟨7, _⟩ => ⟨S3x32768x32768, .f32⟩
  | .hbm, ⟨8, _⟩ => ⟨S_, .f32⟩
  | .hbm, ⟨9, _⟩ => ⟨S3x32768x32768, .f32⟩
  | .hbm, ⟨10, _⟩ => ⟨S3x32768x32768, .f32⟩
  | .hbm, ⟨11, _⟩ => ⟨S_, .f32⟩
  | .hbm, ⟨12, _⟩ => ⟨S3x32768, .f32⟩
  | .hbm, ⟨13, _⟩ => ⟨S_, .f32⟩
  | .hbm, ⟨14, _⟩ => ⟨S3x32768, .f32⟩
  | .hbm, ⟨15, _⟩ => ⟨S3x32768, .f32⟩
  | .hbm, ⟨16, _⟩ => ⟨S3x32768x1, .f32⟩
  | .hbm, ⟨17, _⟩ => ⟨S3x32768x32768, .f32⟩
  | .hbm, ⟨18, _⟩ => ⟨S3x32768x32768, .f32⟩
  | .hbm, ⟨19, _⟩ => ⟨S3x32768x32768, .f32⟩
  | .hbm, ⟨20, _⟩ => ⟨S_, .f32⟩
  | .hbm, ⟨21, _⟩ => ⟨S3x32768, .f32⟩
  | .hbm, ⟨22, _⟩ => ⟨S3x32768x1, .f32⟩
  | .hbm, ⟨23, _⟩ => ⟨S3x32768x32768, .f32⟩
  | .hbm, ⟨24, _⟩ => ⟨S3x32768x32768, .f32⟩
  | .hbm, ⟨25, _⟩ => ⟨S3x32768x32768, .bf16⟩
  | .hbm, ⟨26, _⟩ => ⟨S3x32768x512, .f32⟩
  | .hbm, ⟨27, _⟩ => ⟨S3x32768x512, .f32⟩
  | .hbm, ⟨28, _⟩ => ⟨S_, .f32⟩
  | .hbm, ⟨29, _⟩ => ⟨S3x32768, .f32⟩
  | .hbm, ⟨30, _⟩ => ⟨S_, .f32⟩
  | .hbm, ⟨31, _⟩ => ⟨S3x32768, .f32⟩
  | .hbm, ⟨32, _⟩ => ⟨S3x32768, .i1⟩
  | .hbm, ⟨33, _⟩ => ⟨S_, .f32⟩
  | .hbm, ⟨34, _⟩ => ⟨S3x32768, .f32⟩
  | .hbm, ⟨35, _⟩ => ⟨S3x32768, .f32⟩
  | .hbm, ⟨36, _⟩ => ⟨S_, .f32⟩
  | .hbm, ⟨37, _⟩ => ⟨S_, .f32⟩
  | .hbm, ⟨38, _⟩ => ⟨S3x32768, .f32⟩
  | .hbm, ⟨39, _⟩ => ⟨S3x32768, .f32⟩
  | .hbm, ⟨40, _⟩ => ⟨S3x32768x1, .f32⟩
  | .hbm, ⟨41, _⟩ => ⟨S3x32768x512, .f32⟩
  | .hbm, ⟨42, _⟩ => ⟨S3x32768x512, .f32⟩
  | .hbm, ⟨43, _⟩ => ⟨S3x32768x512, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S3x32768x512, .f32⟩
  | .hbm, ⟨48, _⟩ => ⟨S3x32768x512, .f32⟩
  | .hbm, ⟨49, _⟩ => ⟨S_, .f32⟩
  | .hbm, ⟨50, _⟩ => ⟨S3x32768x512, .f32⟩
  | .hbm, ⟨51, _⟩ => ⟨S3x32768x512, .f32⟩
  | .hbm, ⟨52, _⟩ => ⟨S3x32768x512, .i32⟩
  | .hbm, ⟨53, _⟩ => ⟨S3x32768x512, .i8⟩
  | .hbm, ⟨54, _⟩ => ⟨S3x32768x512, .i32⟩
  | .hbm, ⟨55, _⟩ => ⟨S3x32768x512, .f32⟩
  | .hbm, ⟨56, _⟩ => ⟨S3x32768x512, .bf16⟩
  | .hbm, ⟨57, _⟩ => ⟨S512x512, .i32⟩
  | .hbm, ⟨58, _⟩ => ⟨S512x512, .f32⟩
  | .hbm, ⟨59, _⟩ => ⟨S512x512, .bf16⟩
  | .hbm, ⟨60, _⟩ => ⟨S3x32768x512, .f32⟩
  | .hbm, ⟨61, _⟩ => ⟨S3x32768x1, .f32⟩
  | .hbm, ⟨62, _⟩ => ⟨S3x32768x512, .f32⟩
  | .hbm, ⟨63, _⟩ => ⟨S3x32768x512, .f32⟩
  | .hbm, ⟨64, _⟩ => ⟨S1x1x512, .f32⟩
  | .hbm, ⟨65, _⟩ => ⟨S3x32768x512, .f32⟩
  | .hbm, ⟨66, _⟩ => ⟨S3x32768x512, .f32⟩
  | .hbm, ⟨67, _⟩ => ⟨S1x1x512, .f32⟩
  | .hbm, ⟨68, _⟩ => ⟨S3x32768x512, .f32⟩
  | .hbm, ⟨69, _⟩ => ⟨S3x32768x512, .f32⟩
  | .hbm, ⟨70, _⟩ => ⟨S3x32768x512, .f32⟩
  | .hbm, ⟨71, _⟩ => ⟨S3x32768x512, .f32⟩
  | .hbm, ⟨72, _⟩ => ⟨S3x32768x512, .bf16⟩
  | .hbm, ⟨73, _⟩ => ⟨S3x32768x512, .bf16⟩
  | _, _ => ⟨S3x32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_call0_v0 : Ref sig .tc := ⟨.hbm, 37, rfl⟩
abbrev main_call0_v1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_cst_8 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]
-- ==== Qkv.lean ====
abbrev S3x32768x512 : Shape := ⟨3, ![3, 32768, 512]⟩
abbrev S3x1x512 : Shape := ⟨3, ![3, 1, 512]⟩
abbrev S512 : Shape := ⟨1, ![512]⟩
abbrev S512x512 : Shape := ⟨2, ![512, 512]⟩
abbrev S1x512 : Shape := ⟨2, ![1, 512]⟩
abbrev S512x1 : Shape := ⟨2, ![512, 1]⟩
abbrev S3x512x32768 : Shape := ⟨3, ![3, 512, 32768]⟩
abbrev S3x32768 : Shape := ⟨2, ![3, 32768]⟩
abbrev S1x1024x512 : Shape := ⟨3, ![1, 1024, 512]⟩
abbrev S1x1x512 : Shape := ⟨3, ![1, 1, 512]⟩
abbrev S1x512x1024 : Shape := ⟨3, ![1, 512, 1024]⟩
abbrev S3x1024 : Shape := ⟨2, ![3, 1024]⟩
abbrev S1024x512 : Shape := ⟨2, ![1024, 512]⟩
abbrev S1024 : Shape := ⟨1, ![1024]⟩
abbrev S1024x1 : Shape := ⟨2, ![1024, 1]⟩
abbrev S1024x128 : Shape := ⟨2, ![1024, 128]⟩
abbrev S128x1024 : Shape := ⟨2, ![128, 1024]⟩
abbrev S1x1024 : Shape := ⟨2, ![1, 1024]⟩
abbrev S512x1024 : Shape := ⟨2, ![512, 1024]⟩

abbrev nBuf : Space → Nat
  | .hbm => 25
  | .vmem => 29
  | .smem => 0
  | _ => 0

abbrev bufTy : (tb : Table) → Fin (tcTables nBuf tb) → BufTy
  | .hbm, ⟨0, _⟩ => ⟨S3x32768x512, .bf16⟩
  | .hbm, ⟨1, _⟩ => ⟨S3x1x512, .f32⟩
  | .hbm, ⟨2, _⟩ => ⟨S3x1x512, .f32⟩
  | .hbm, ⟨3, _⟩ => ⟨S512, .f32⟩
  | .hbm, ⟨4, _⟩ => ⟨S512, .f32⟩
  | .hbm, ⟨5, _⟩ => ⟨S512x512, .i8⟩
  | .hbm, ⟨6, _⟩ => ⟨S512x512, .i8⟩
  | .hbm, ⟨7, _⟩ => ⟨S512x512, .i8⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S512x1, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S3x32768x512, .bf16⟩
  | .hbm, ⟨21, _⟩ => ⟨S3x512x32768, .bf16⟩
  | .hbm, ⟨22, _⟩ => ⟨S3x32768x512, .bf16⟩
  | .hbm, ⟨23, _⟩ => ⟨S3x32768x512, .i8⟩
  | .hbm, ⟨24, _⟩ => ⟨S3x32768, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x512, .f32⟩
  | .local _ .vmem, ⟨7, _⟩ => ⟨S1x512, .f32⟩
  | .local _ .vmem, ⟨8, _⟩ => ⟨S512x512, .i8⟩
  | .local _ .vmem, ⟨9, _⟩ => ⟨S512x512, .i8⟩
  | .local _ .vmem, ⟨10, _⟩ => ⟨S512x512, .i8⟩
  | .local _ .vmem, ⟨11, _⟩ => ⟨S1x512, .f32⟩
  | .local _ .vmem, ⟨12, _⟩ => ⟨S512x1, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x1024x512, .bf16⟩
  | .local _ .vmem, ⟨17, _⟩ => ⟨S1x1024x512, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .i8⟩
  | .local _ .vmem, ⟨23, _⟩ => ⟨S1x1024x512, .i8⟩
  | .local _ .vmem, ⟨24, _⟩ => ⟨S3x1024, .f32⟩
  | .local _ .vmem, ⟨25, _⟩ => ⟨S3x1024, .f32⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | _, _ => ⟨S3x32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev main_v7_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨2, ![32, 3], ![false, false]⟩

def k0_off1 (i : grid0.Coords) : Fin 2 → Nat :=
  let arg1 : BitVec 32 := BitVec.ofNat 32 (i 1).val
  let v48 : Index := Scalar.indexCast arg1
  let c0_22 : Index := 0#32
  ![v48.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S3x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== QkvIdeal.lean ====
variable {F : FTy → Type} [FloatOps F] [Named F]
def κ : String → Option EReal := fun
  | "inv_127" => some ((1 / 127 : ℝ) : EReal)
  | _ => none
-- ==== QkvRefIdeal.lean ====
abbrev S3x32768x512 : Shape := ⟨3, ![3, 32768, 512]⟩
abbrev S3x1x512 : Shape := ⟨3, ![3, 1, 512]⟩
abbrev S512 : Shape := ⟨1, ![512]⟩
abbrev S512x512 : Shape := ⟨2, ![512, 512]⟩
abbrev S1x1x512 : Shape := ⟨3, ![1, 1, 512]⟩
abbrev S_ : Shape := ⟨0, ![]⟩
abbrev S3x32768 : Shape := ⟨2, ![3, 32768]⟩
abbrev S3x32768x1 : Shape := ⟨3, ![3, 32768, 1]⟩
abbrev S3x512x32768 : Shape := ⟨3, ![3, 512, 32768]⟩

abbrev nBuf : Space → Nat
  | .hbm => 100
  | .vmem => 0
  | .smem => 0
  | _ => 0

abbrev bufTy : (tb : Table) → Fin (tcTables nBuf tb) → BufTy
  | .hbm, ⟨0, _⟩ => ⟨S3x32768x512, .bf16⟩
  | .hbm, ⟨1, _⟩ => ⟨S3x1x512, .f32⟩
  | .hbm, ⟨2, _⟩ => ⟨S3x1x512, .f32⟩
  | .hbm, ⟨3, _⟩ => ⟨S512, .f32⟩
  | .hbm, ⟨4, _⟩ => ⟨S512, .f32⟩
  | .hbm, ⟨5, _⟩ => ⟨S512x512, .i8⟩
  | .hbm, ⟨6, _⟩ => ⟨S512x512, .i8⟩
  | .hbm, ⟨7, _⟩ => ⟨S512x512, .i8⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S3x32768x512, .f32⟩
  | .hbm, ⟨14, _⟩ => ⟨S3x32768x512, .f32⟩
  | .hbm, ⟨15, _⟩ => ⟨S3x32768x512, .f32⟩
  | .hbm, ⟨16, _⟩ => ⟨S3x32768x512, .f32⟩
  | .hbm, ⟨17, _⟩ => ⟨S3x32768x512, .f32⟩
  | .hbm, ⟨18, _⟩ => ⟨S1x1x512, .f32⟩
  | .hbm, ⟨19, _⟩ => ⟨S3x32768x512, .f32⟩
  | .hbm, ⟨20, _⟩ => ⟨S3x32768x512, .f32⟩
  | .hbm, ⟨21, _⟩ => ⟨S1x1x512, .f32⟩
  | .hbm, ⟨22, _⟩ => ⟨S3x32768x512, .f32⟩
  | .hbm, ⟨23, _⟩ => ⟨S3x32768x512, .f32⟩
  | .hbm, ⟨24, _⟩ => ⟨S3x32768x512, .f32⟩
  | .hbm, ⟨25, _⟩ => ⟨S_, .f32⟩
  | .hbm, ⟨26, _⟩ => ⟨S3x32768, .f32⟩
  | .hbm, ⟨27, _⟩ => ⟨S_, .f32⟩
  | .hbm, ⟨28, _⟩ => ⟨S3x32768, .f32⟩
  | .hbm, ⟨29, _⟩ => ⟨S3x32768, .i1⟩
  | .hbm, ⟨30, _⟩ => ⟨S_, .f32⟩
  | .hbm, ⟨31, _⟩ => ⟨S3x32768, .f32⟩
  | .hbm, ⟨32, _⟩ => ⟨S3x32768, .f32⟩
  | .hbm, ⟨33, _⟩ => ⟨S_, .f32⟩
  | .hbm, ⟨34, _⟩ => ⟨S_, .f32⟩
  | .hbm, ⟨35, _⟩ => ⟨S3x32768, .f32⟩
  | .hbm, ⟨36, _⟩ => ⟨S3x32768, .f32⟩
  | .hbm, ⟨37, _⟩ => ⟨S3x32768x1, .f32⟩
  | .hbm, ⟨38, _⟩ => ⟨S3x32768x512, .f32⟩
  | .hbm, ⟨39, _⟩ => ⟨S3x32768x512, .f32⟩
  | .hbm, ⟨40, _⟩ => ⟨S3x32768x512, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S3x32768x512, .f32⟩
  | .hbm, ⟨45, _⟩ => ⟨S3x32768x512, .f32⟩
  | .hbm, ⟨46, _⟩ => ⟨S_, .f32⟩
  | .hbm, ⟨47, _⟩ => ⟨S3x32768x512, .f32⟩
  | .hbm, ⟨48, _⟩ => ⟨S3x32768x512, .f32⟩
  | .hbm, ⟨49, _⟩ => ⟨S3x32768x512, .i32⟩
  | .hbm, ⟨50, _⟩ => ⟨S3x32768x512, .i8⟩
  | .hbm, ⟨51, _⟩ => ⟨S3x32768x512, .i32⟩
  | .hbm, ⟨52, _⟩ => ⟨S3x32768x512, .f32⟩
  | .hbm, ⟨53, _⟩ => ⟨S3x32768x512, .bf16⟩
  | .hbm, ⟨54, _⟩ => ⟨S512x512, .i32⟩
  | .hbm, ⟨55, _⟩ => ⟨S512x512, .f32⟩
  | .hbm, ⟨56, _⟩ => ⟨S512x512, .bf16⟩
  | .hbm, ⟨57, _⟩ => ⟨S3x32768x512, .f32⟩
  | .hbm, ⟨58, _⟩ => ⟨S3x32768x1, .f32⟩
  | .hbm, ⟨59, _⟩ => ⟨S3x32768x512, .f32⟩
  | .hbm, ⟨60, _⟩ => ⟨S3x32768x512, .f32⟩
  | .hbm, ⟨61, _⟩ => ⟨S1x1x512, .f32⟩
  | .hbm, ⟨62, _⟩ => ⟨S3x32768x512, .f32⟩
  | .hbm, ⟨63, _⟩ => ⟨S3x32768x512, .f32⟩
  | .hbm, ⟨64, _⟩ => ⟨S1x1x512, .f32⟩
  | .hbm, ⟨65, _⟩ => ⟨S3x32768x512, .f32⟩
  | .hbm, ⟨66, _⟩ => ⟨S3x32768x512, .f32⟩
  | .hbm, ⟨67, _⟩ => ⟨S3x32768x512, .bf16⟩
  | .hbm, ⟨68, _⟩ => ⟨S3x32768x512, .i32⟩
  | .hbm, ⟨69, _⟩ => ⟨S3x32768x512, .f32⟩
  | .hbm, ⟨70, _⟩ => ⟨S3x32768x512, .bf16⟩
  | .hbm, ⟨71, _⟩ => ⟨S512x512, .i32⟩
  | .hbm, ⟨72, _⟩ => ⟨S512x512, .f32⟩
  | .hbm, ⟨73, _⟩ => ⟨S512x512, .bf16⟩
  | .hbm, ⟨74, _⟩ => ⟨S3x32768x512, .f32⟩
  | .hbm, ⟨75, _⟩ => ⟨S3x32768x1, .f32⟩
  | .hbm, ⟨76, _⟩ => ⟨S3x32768x512, .f32⟩
  | .hbm, ⟨77, _⟩ => ⟨S3x32768x512, .f32⟩
  | .hbm, ⟨78, _⟩ => ⟨S1x1x512, .f32⟩
  | .hbm, ⟨79, _⟩ => ⟨S3x32768x512, .f32⟩
  | .hbm, ⟨80, _⟩ => ⟨S3x32768x512, .f32⟩
  | .hbm, ⟨81, _⟩ => ⟨S3x32768x512, .bf16⟩
  | .hbm, ⟨82, _⟩ => ⟨S3x32768x512, .i32⟩
  | .hbm, ⟨83, _⟩ => ⟨S3x32768x512, .f32⟩
  | .hbm, ⟨84, _⟩ => ⟨S3x32768x512, .bf16⟩
  | .hbm, ⟨85, _⟩ => ⟨S512x512, .i32⟩
  | .hbm, ⟨86, _⟩ => ⟨S512x512, .f32⟩
  | .hbm, ⟨87, _⟩ => ⟨S512x512, .bf16⟩
  | .hbm, ⟨88, _⟩ => ⟨S3x32768x512, .f32⟩
  | .hbm, ⟨89, _⟩ => ⟨S3x32768x1, .f32⟩
  | .hbm, ⟨90, _⟩ => ⟨S3x32768x512, .f32⟩
  | .hbm, ⟨91, _⟩ => ⟨S3x32768x512, .f32⟩
  | .hbm, ⟨92, _⟩ => ⟨S1x1x512, .f32⟩
  | .hbm, ⟨93, _⟩ => ⟨S3x32768x512, .f32⟩
  | .hbm, ⟨94, _⟩ => ⟨S3x32768x512, .f32⟩
  | .hbm, ⟨95, _⟩ => ⟨S1x1x512, .f32⟩
  | .hbm, ⟨96, _⟩ => ⟨S3x32768x512, .f32⟩
  | .hbm, ⟨97, _⟩ => ⟨S3x32768x512, .f32⟩
  | .hbm, ⟨98, _⟩ => ⟨S3x32768x512, .bf16⟩
  | .hbm, ⟨99, _⟩ => ⟨S3x512x32768, .bf16⟩
  | _, _ => ⟨S3x32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_cst_4 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Proof.Given.Points.lean ====
module

public import proofs.«01_k».proof.Proof.Gen.Attn.Skeleton
public import proofs.«01_k».proof.Proof.Gen.Attn.Frame

/-! The grid points of the attention call: which branches of the body run at which point, the staging
memrefs the body is given there, and the scratch buffers it carries from point to point. -/

@[expose] public section

set_option maxRecDepth 16384

noncomputable section

namespace Cert.Attn.Hand

open Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 64) — by arithmetic of the point. -/
theorem hcond0_0 : ∀ t : Fin cfg0.N, cond0_0 (grid0.coords t) ↔ t.val % 64 = 0 :=
  (fun t => by
    have ht : t.val < 6144 := Nat.lt_of_lt_of_eq t.isLt N_0
    have e0 : (grid0.coords t 0).val = t.val / 192 % 32 := Pipeline.Grid.coords_val t 0 (by decide) rfl
    have e1 : (grid0.coords t 1).val = t.val / 64 % 3 := Pipeline.Grid.coords_val t 1 (by decide) rfl
    have e2 : (grid0.coords t 2).val = t.val / 1 % 64 := Pipeline.Grid.coords_val t 2 (by decide) rfl
    simp only [cond0_0, e0, e1, e2]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 2).val) 32#32)) 0#32) = 1#1
/-- It holds at the points whose coordinates have i2 ≤ 31 — decided over the grid. -/
theorem hcond0_1 : ∀ t : Fin cfg0.N, cond0_1 (grid0.coords t) ↔ t.val % 64 ≤ 31 :=
  (by decide +kernel : ∀ t : Fin grid0.N, cond0_1 (grid0.coords t) ↔ t.val % 64 ≤ 31)

/-- The condition of the body's `scf.if` 2 (`k0_h3`), from the grid coordinates (the skeleton's scalar
    chain substituted). -/
abbrev cond0_2 (i : grid0.Coords) : Prop := (Scalar.cmpi .ne (Scalar.extui (Scalar.cmpi .sge (BitVec.ofNat 32 (i 2).val) 32#32)) 0#32) = 1#1
/-- It holds at the points whose coordinates have 32 ≤ i2 — decided over the grid. -/
theorem hcond0_2 : ∀ t : Fin cfg0.N, cond0_2 (grid0.coords t) ↔ 32 ≤ t.val % 64 :=
  (by decide +kernel : ∀ t : Fin grid0.N, cond0_2 (grid0.coords t) ↔ 32 ≤ t.val % 64)

/-- The condition of the body's `scf.if` 3 (`k0_h4`), from the grid coordinates (the skeleton's scalar
    chain substituted). -/
abbrev cond0_3 (i : grid0.Coords) : Prop := k0_cond4 i = 1#1
/-- It holds at the points ≡ 63 (mod 64) — by arithmetic of the point. -/
theorem hcond0_3 : ∀ t : Fin cfg0.N, cond0_3 (grid0.coords t) ↔ t.val % 64 = 63 :=
  (fun t => by
    have ht : t.val < 6144 := Nat.lt_of_lt_of_eq t.isLt N_0
    have e0 : (grid0.coords t 0).val = t.val / 192 % 32 := Pipeline.Grid.coords_val t 0 (by decide) rfl
    have e1 : (grid0.coords t 1).val = t.val / 64 % 3 := Pipeline.Grid.coords_val t 1 (by decide) rfl
    have e2 : (grid0.coords t 2).val = t.val / 1 % 64 := Pipeline.Grid.coords_val t 2 (by decide) rfl
    simp only [cond0_3, k0_cond4, e0, e1, e2]
    word_cmp
   : ∀ t : Fin grid0.N, cond0_3 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x512 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x1024 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x128 .f32 := Memref.whole cc0_scratch0
abbrev scM0_1 : Memref sig .tc .vmem S1024x128 .f32 := Memref.whole cc0_scratch1
abbrev scM0_2 : Memref sig .tc .vmem S1024x512 .f32 := Memref.whole cc0_scratch2
abbrev scM0_3 : Memref sig .tc .vmem S512x512 .bf16 := Memref.whole cc0_scratch3

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Attn.Hand
-- ==== Proof.Given.Buffers.lean ====
module

public import Idealize.ShloMosaic.Lib.VecWindow
public import proofs.«01_k».proof.Proof.Given.Points

/-! The buffers one point of the attention call works on, named together with their contents. -/

@[expose] public section

set_option maxRecDepth 16384

noncomputable section

namespace Cert.Attn.Hand

open Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first column of a scratch that repeats one value per row over its columns. -/
def col0 (s : Vec F S1024x128 .f32) : Vec F S1024x1 .f32 :=
  VecWindow.window s ![0, 0] S1024x1.size inb_S1024x128_S1024x1_0_0

/-- The scale block with the row of the point's batch replaced. -/
def putScale (i : grid0.Coords) (y : Vec F S3x1024 .f32) (row : Vec F S1x1024 .f32) : Vec F S3x1024 .f32 :=
  VecWindow.put y (k0_off1 i) S1x1024.size row

/-! Loads and stores of a whole buffer, at the shapes of this call. -/

theorem load_S1024x128 {e : EltTy} {v : View sig .tc .vmem S1024x128 e} (f : v.ty.Contents (Elt F)) :
    v.readAt (Elt F) (Rect.unit (s := S1024x128) ![0, 0] S1024x128.size inb_S1024x128_S1024x128_0_0).toLoadRect f = v.read (Elt F) f :=
  View.readAt_full v f _

theorem store_S1024x128 {e : EltTy} {v : View sig .tc .vmem S1024x128 e} (f : v.ty.Contents (Elt F))
    (w : S1024x128.Idx → Elt F e) (L : List (View.Piece (Elt F) S1024x128 e)) :
    v.read (Elt F) (v.writes (Elt F) f (⟨Rect.unit (s := S1024x128) ![0, 0] S1024x128.size inb_S1024x128_S1024x128_0_0, w⟩ :: L)) = w :=
  View.read_writes_full v f _ w L

theorem load_S1024x512 {e : EltTy} {v : View sig .tc .vmem S1024x512 e} (f : v.ty.Contents (Elt F)) :
    v.readAt (Elt F) (Rect.unit (s := S1024x512) ![0, 0] S1024x512.size inb_S1024x512_S1024x512_0_0).toLoadRect f = v.read (Elt F) f :=
  View.readAt_full v f _

theorem store_S1024x512 {e : EltTy} {v : View sig .tc .vmem S1024x512 e} (f : v.ty.Contents (Elt F))
    (w : S1024x512.Idx → Elt F e) (L : List (View.Piece (Elt F) S1024x512 e)) :
    v.read (Elt F) (v.writes (Elt F) f (⟨Rect.unit (s := S1024x512) ![0, 0] S1024x512.size inb_S1024x512_S1024x512_0_0, w⟩ :: L)) = w :=
  View.read_writes_full v f _ w L

theorem load_S512x512 {e : EltTy} {v : View sig .tc .vmem S512x512 e} (f : v.ty.Contents (Elt F)) :
    v.readAt (Elt F) (Rect.unit (s := S512x512) ![0, 0] S512x512.size inb_S512x512_S512x512_0_0).toLoadRect f = v.read (Elt F) f :=
  View.readAt_full v f _

theorem store_S512x512 {e : EltTy} {v : View sig .tc .vmem S512x512 e} (f : v.ty.Contents (Elt F))
    (w : S512x512.Idx → Elt F e) (L : List (View.Piece (Elt F) S512x512 e)) :
    v.read (Elt F) (v.writes (Elt F) f (⟨Rect.unit (s := S512x512) ![0, 0] S512x512.size inb_S512x512_S512x512_0_0, w⟩ :: L)) = w :=
  View.read_writes_full v f _ w L

theorem load_S1x512 {e : EltTy} {v : View sig .tc .vmem S1x512 e} (f : v.ty.Contents (Elt F)) :
    v.readAt (Elt F) (Rect.unit (s := S1x512) ![0, 0] S1x512.size inb_S1x512_S1x512_0_0).toLoadRect f = v.read (Elt F) f :=
  View.readAt_full v f _

theorem store_S1x512 {e : EltTy} {v : View sig .tc .vmem S1x512 e} (f : v.ty.Contents (Elt F))
    (w : S1x512.Idx → Elt F e) (L : List (View.Piece (Elt F) S1x512 e)) :
    v.read (Elt F) (v.writes (Elt F) f (⟨Rect.unit (s := S1x512) ![0, 0] S1x512.size inb_S1x512_S1x512_0_0, w⟩ :: L)) = w :=
  View.read_writes_full v f _ w L

theorem load_S1x1024x512 {e : EltTy} {v : View sig .tc .vmem S1x1024x512 e} (f : v.ty.Contents (Elt F)) :
    v.readAt (Elt F) (Rect.unit (s := S1x1024x512) ![0, 0, 0] S1x1024x512.size inb_S1x1024x512_S1x1024x512_0_0_0).toLoadRect f = v.read (Elt F) f :=
  View.readAt_full v f _

theorem store_S1x1024x512 {e : EltTy} {v : View sig .tc .vmem S1x1024x512 e} (f : v.ty.Contents (Elt F))
    (w : S1x1024x512.Idx → Elt F e) (L : List (View.Piece (Elt F) S1x1024x512 e)) :
    v.read (Elt F) (v.writes (Elt F) f (⟨Rect.unit (s := S1x1024x512) ![0, 0, 0] S1x1024x512.size inb_S1x1024x512_S1x1024x512_0_0_0, w⟩ :: L)) = w :=
  View.read_writes_full v f _ w L

theorem load_S1x512x1024 {e : EltTy} {v : View sig .tc .vmem S1x512x1024 e} (f : v.ty.Contents (Elt F)) :
    v.readAt (Elt F) (Rect.unit (s := S1x512x1024) ![0, 0, 0] S1x512x1024.size inb_S1x512x1024_S1x512x1024_0_0_0).toLoadRect f = v.read (Elt F) f :=
  View.readAt_full v f _

theorem store_S1x512x1024 {e : EltTy} {v : View sig .tc .vmem S1x512x1024 e} (f : v.ty.Contents (Elt F))
    (w : S1x512x1024.Idx → Elt F e) (L : List (View.Piece (Elt F) S1x512x1024 e)) :
    v.read (Elt F) (v.writes (Elt F) f (⟨Rect.unit (s := S1x512x1024) ![0, 0, 0] S1x512x1024.size inb_S1x512x1024_S1x512x1024_0_0_0, w⟩ :: L)) = w :=
  View.read_writes_full v f _ w L

theorem load_col0 {v : View sig .tc .vmem S1024x128 .f32} (f : v.ty.Contents (Elt F)) :
    v.readAt (Elt F) (Rect.unit (s := S1024x128) ![0, 0] S1024x1.size inb_S1024x128_S1024x1_0_0).toLoadRect f
      = col0 (v.read (Elt F) f) := rfl

theorem store_scale (i : grid0.Coords) {v : View sig .tc .vmem S3x1024 .f32} (f : v.ty.Contents (Elt F))
    (h : ∀ a, k0_off1 i a + S1x1024.size a ≤ S3x1024.size a) (w : Vec F S1x1024 .f32) :
    v.read (Elt F) (v.writes (Elt F) f [⟨Rect.unit (s := S3x1024) (k0_off1 i) S1x1024.size h, w⟩])
      = putScale i (v.read (Elt F) f) w := by
  rw [View.read_writes_cons_put v f h w [] rfl]; rfl

/-- The body's buffers with their contents: the seven input blocks, the four output blocks and the four
    scratch buffers (running maximum, running sum, accumulator, converted weights). -/
def held (c : Dev nD)
    (arg3 : Memref sig .tc .vmem S1x1024x512 .bf16)
    (arg4 : Memref sig .tc .vmem S1x512x1024 .bf16)
    (arg5 : Memref sig .tc .vmem S1x1024x512 .bf16)
    (arg6 : Memref sig .tc .vmem S1x1024x512 .bf16)
    (arg7 : Memref sig .tc .vmem S512x512 .i8)
    (arg8 : Memref sig .tc .vmem S1x512 .f32)
    (arg9 : Memref sig .tc .vmem S1x512 .f32)
    (arg10 : Memref sig .tc .vmem S1x1024x512 .bf16)
    (arg11 : Memref sig .tc .vmem S1x1024x512 .bf16)
    (arg12 : Memref sig .tc .vmem S1x1024x512 .i8)
    (arg13 : Memref sig .tc .vmem S3x1024 .f32)
    (arg14 : Memref sig .tc .vmem S1024x128 .f32)
    (arg15 : Memref sig .tc .vmem S1024x128 .f32)
    (arg16 : Memref sig .tc .vmem S1024x512 .f32)
    (arg17 : Memref sig .tc .vmem S512x512 .bf16)
    (x0 : Vec F S1x1024x512 .bf16)
    (x1 : Vec F S1x512x1024 .bf16)
    (x2 : Vec F S1x1024x512 .bf16)
    (x3 : Vec F S1x1024x512 .bf16)
    (x4 : Vec F S512x512 .i8)
    (x5 : Vec F S1x512 .f32)
    (x6 : Vec F S1x512 .f32)
    (y7 : Vec F S1x1024x512 .bf16)
    (y8 : Vec F S1x1024x512 .bf16)
    (y9 : Vec F S1x1024x512 .i8)
    (y10 : Vec F S3x1024 .f32)
    (s0 : Vec F S1024x128 .f32)
    (s1 : Vec F S1024x128 .f32)
    (s2 : Vec F S1024x512 .f32)
    (s3 : Vec F S512x512 .bf16) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare s0 ∗ owns (c : Thread nD τ) arg15 fullShare s1 ∗ owns (c : Thread nD τ) arg16 fullShare s2 ∗ owns (c : Thread nD τ) arg17 fullShare s3)

end Cert.Attn.Hand
-- ==== Proof.Given.RunA.lean ====
module

public import proofs.«01_k».proof.Proof.Given.Buffers

/-! The first point of a row block: the scratches are started (maximum at minus infinity, sum and accumulator at zero, the weights converted) and the first column block enters the running maximum and sum. -/

@[expose] public section

set_option maxRecDepth 16384

noncomputable section

namespace Cert.Attn.Hand

open Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The first point of a row block: the scratches are started (maximum at minus infinity, sum and accumulator at zero, the weights converted) and the first column block enters the running maximum and sum. -/
theorem run_A (c : Dev nD) (i : grid0.Coords)
    (arg3 : Memref sig .tc .vmem S1x1024x512 .bf16) (harg3 : arg3.IsWhole)
    (arg4 : Memref sig .tc .vmem S1x512x1024 .bf16) (harg4 : arg4.IsWhole)
    (arg5 : Memref sig .tc .vmem S1x1024x512 .bf16) (harg5 : arg5.IsWhole)
    (arg6 : Memref sig .tc .vmem S1x1024x512 .bf16) (harg6 : arg6.IsWhole)
    (arg7 : Memref sig .tc .vmem S512x512 .i8) (harg7 : arg7.IsWhole)
    (arg8 : Memref sig .tc .vmem S1x512 .f32) (harg8 : arg8.IsWhole)
    (arg9 : Memref sig .tc .vmem S1x512 .f32) (harg9 : arg9.IsWhole)
    (arg10 : Memref sig .tc .vmem S1x1024x512 .bf16) (harg10 : arg10.IsWhole)
    (arg11 : Memref sig .tc .vmem S1x1024x512 .bf16) (harg11 : arg11.IsWhole)
    (arg12 : Memref sig .tc .vmem S1x1024x512 .i8) (harg12 : arg12.IsWhole)
    (arg13 : Memref sig .tc .vmem S3x1024 .f32) (harg13 : arg13.IsWhole)
    (arg14 : Memref sig .tc .vmem S1024x128 .f32) (harg14 : arg14.IsWhole)
    (arg15 : Memref sig .tc .vmem S1024x128 .f32) (harg15 : arg15.IsWhole)
    (arg16 : Memref sig .tc .vmem S1024x512 .f32) (harg16 : arg16.IsWhole)
    (arg17 : Memref sig .tc .vmem S512x512 .bf16) (harg17 : arg17.IsWhole)
    (hc0 : cond0_0 i) (hc1 : cond0_1 i) (hc2 : ¬cond0_2 i) (hc3 : ¬cond0_3 i)
    (x0 : Vec F S1x1024x512 .bf16)
    (x1 : Vec F S1x512x1024 .bf16)
    (x2 : Vec F S1x1024x512 .bf16)
    (x3 : Vec F S1x1024x512 .bf16)
    (x4 : Vec F S512x512 .i8)
    (x5 : Vec F S1x512 .f32)
    (x6 : Vec F S1x512 .f32)
    (y7 : Vec F S1x1024x512 .bf16)
    (y8 : Vec F S1x1024x512 .bf16)
    (y9 : Vec F S1x1024x512 .i8)
    (y10 : Vec F S3x1024 .f32)
    (s0 : Vec F S1024x128 .f32)
    (s1 : Vec F S1024x128 .f32)
    (s2 : Vec F S1024x512 .f32)
    (s3 : Vec F S512x512 .bf16) (E : Set ℕ) (K : PUnit → sProp 𝕄) :
    iprop(held c arg3 arg4 arg5 arg6 arg7 arg8 arg9 arg10 arg11 arg12 arg13 arg14 arg15 arg16 arg17 x0 x1 x2 x3 x4 x5 x6 y7 y8 y9 y10 s0 s1 s2 s3
        ∗ (held c arg3 arg4 arg5 arg6 arg7 arg8 arg9 arg10 arg11 arg12 arg13 arg14 arg15 arg16 arg17
            x0 x1 x2 x3 x4 x5 x6 y7 y8 y9 y10 (k0_pay8 x0 x1 k0_pay1) (k0_pay7 x0 x1 k0_pay1 k0_pay2) k0_pay3 (k0_pay4 x4) -∗ K ⟨⟩))
      ⊢ wp frame (wpE (defs₀ (F := F)) Variants.none c none) E (cc0_attention_out i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_attention_out_eq_skeleton]; unfold cc0_attention_out_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  sl_exec (disch := first | sl_exact hc0 | sl_exact hc1 | sl_exact hc2 | sl_exact hc3)
  sl_step
  have e17 : run_A.sl.v17 (F := F) c arg14 = k0_pay1 := by
    unfold run_A.sl.v17 run_A.sl.H14_1; exact View.readCov_full _ _ _ _ _
  have e36 : run_A.sl.v36 (F := F) c arg15 = k0_pay2 := by
    unfold run_A.sl.v36 run_A.sl.H15_1; exact View.readCov_full _ _ _ _ _
  iapply Hk
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact harg13.read_unread _
  isplitl [H14]
  · iexists _; isplitr; swap
    · iexact H14
    · ipureintro
      refine (store_S1024x128 _ _ _).trans ?_
      congr 1 <;> first
        | exact e17
        | exact e36
        | exact (load_S1024x128 _).trans (Memref.IsWhole.read_unread _ _)
        | exact (load_S1024x512 _).trans (Memref.IsWhole.read_unread _ _)
        | exact (load_S512x512 _).trans (Memref.IsWhole.read_unread _ _)
        | exact (load_S1x512 _).trans (Memref.IsWhole.read_unread _ _)
        | exact (load_S1x1024x512 _).trans (Memref.IsWhole.read_unread _ _)
        | exact (load_S1x512x1024 _).trans (Memref.IsWhole.read_unread _ _)
        | exact (load_col0 _).trans (congrArg col0 (Memref.IsWhole.read_unread _ _))
  isplitl [H15]
  · iexists _; isplitr; swap
    · iexact H15
    · ipureintro
      refine (store_S1024x128 _ _ _).trans ?_
      congr 1 <;> first
        | exact e17
        | exact e36
        | exact (load_S1024x128 _).trans (Memref.IsWhole.read_unread _ _)
        | exact (load_S1024x512 _).trans (Memref.IsWhole.read_unread _ _)
        | exact (load_S512x512 _).trans (Memref.IsWhole.read_unread _ _)
        | exact (load_S1x512 _).trans (Memref.IsWhole.read_unread _ _)
        | exact (load_S1x1024x512 _).trans (Memref.IsWhole.read_unread _ _)
        | exact (load_S1x512x1024 _).trans (Memref.IsWhole.read_unread _ _)
        | exact (load_col0 _).trans (congrArg col0 (Memref.IsWhole.read_unread _ _))
  isplitl [H16]
  · iexists _; isplitr; swap
    · iexact H16
    · ipureintro; exact store_S1024x512 _ _ _
  · iexists _; isplitr; swap
    · iexact H17
    · ipureintro
      refine (store_S512x512 _ _ _).trans ?_
      congr 1 <;> first
        | exact e17
        | exact e36
        | exact (load_S1024x128 _).trans (Memref.IsWhole.read_unread _ _)
        | exact (load_S1024x512 _).trans (Memref.IsWhole.read_unread _ _)
        | exact (load_S512x512 _).trans (Memref.IsWhole.read_unread _ _)
        | exact (load_S1x512 _).trans (Memref.IsWhole.read_unread _ _)
        | exact (load_S1x1024x512 _).trans (Memref.IsWhole.read_unread _ _)
        | exact (load_S1x512x1024 _).trans (Memref.IsWhole.read_unread _ _)
        | exact (load_col0 _).trans (congrArg col0 (Memref.IsWhole.read_unread _ _))

end Cert.Attn.Hand
-- ==== Proof.Given.RunB.lean ====
module

public import proofs.«01_k».proof.Proof.Given.Buffers

/-! A later point of the first pass: the column block enters the running maximum and sum. -/

@[expose] public section

set_option maxRecDepth 16384

noncomputable section

namespace Cert.Attn.Hand

open Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- A later point of the first pass: the column block enters the running maximum and sum. -/
theorem run_B (c : Dev nD) (i : grid0.Coords)
    (arg3 : Memref sig .tc .vmem S1x1024x512 .bf16) (harg3 : arg3.IsWhole)
    (arg4 : Memref sig .tc .vmem S1x512x1024 .bf16) (harg4 : arg4.IsWhole)
    (arg5 : Memref sig .tc .vmem S1x1024x512 .bf16) (harg5 : arg5.IsWhole)
    (arg6 : Memref sig .tc .vmem S1x1024x512 .bf16) (harg6 : arg6.IsWhole)
    (arg7 : Memref sig .tc .vmem S512x512 .i8) (harg7 : arg7.IsWhole)
    (arg8 : Memref sig .tc .vmem S1x512 .f32) (harg8 : arg8.IsWhole)
    (arg9 : Memref sig .tc .vmem S1x512 .f32) (harg9 : arg9.IsWhole)
    (arg10 : Memref sig .tc .vmem S1x1024x512 .bf16) (harg10 : arg10.IsWhole)
    (arg11 : Memref sig .tc .vmem S1x1024x512 .bf16) (harg11 : arg11.IsWhole)
    (arg12 : Memref sig .tc .vmem S1x1024x512 .i8) (harg12 : arg12.IsWhole)
    (arg13 : Memref sig .tc .vmem S3x1024 .f32) (harg13 : arg13.IsWhole)
    (arg14 : Memref sig .tc .vmem S1024x128 .f32) (harg14 : arg14.IsWhole)
    (arg15 : Memref sig .tc .vmem S1024x128 .f32) (harg15 : arg15.IsWhole)
    (arg16 : Memref sig .tc .vmem S1024x512 .f32) (harg16 : arg16.IsWhole)
    (arg17 : Memref sig .tc .vmem S512x512 .bf16) (harg17 : arg17.IsWhole)
    (hc0 : ¬cond0_0 i) (hc1 : cond0_1 i) (hc2 : ¬cond0_2 i) (hc3 : ¬cond0_3 i)
    (x0 : Vec F S1x1024x512 .bf16)
    (x1 : Vec F S1x512x1024 .bf16)
    (x2 : Vec F S1x1024x512 .bf16)
    (x3 : Vec F S1x1024x512 .bf16)
    (x4 : Vec F S512x512 .i8)
    (x5 : Vec F S1x512 .f32)
    (x6 : Vec F S1x512 .f32)
    (y7 : Vec F S1x1024x512 .bf16)
    (y8 : Vec F S1x1024x512 .bf16)
    (y9 : Vec F S1x1024x512 .i8)
    (y10 : Vec F S3x1024 .f32)
    (s0 : Vec F S1024x128 .f32)
    (s1 : Vec F S1024x128 .f32)
    (s2 : Vec F S1024x512 .f32)
    (s3 : Vec F S512x512 .bf16) (E : Set ℕ) (K : PUnit → sProp 𝕄) :
    iprop(held c arg3 arg4 arg5 arg6 arg7 arg8 arg9 arg10 arg11 arg12 arg13 arg14 arg15 arg16 arg17 x0 x1 x2 x3 x4 x5 x6 y7 y8 y9 y10 s0 s1 s2 s3
        ∗ (held c arg3 arg4 arg5 arg6 arg7 arg8 arg9 arg10 arg11 arg12 arg13 arg14 arg15 arg16 arg17
            x0 x1 x2 x3 x4 x5 x6 y7 y8 y9 y10 (k0_pay8 x0 x1 s0) (k0_pay7 x0 x1 s0 s1) s2 s3 -∗ K ⟨⟩))
      ⊢ wp frame (wpE (defs₀ (F := F)) Variants.none c none) E (cc0_attention_out i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_attention_out_eq_skeleton]; unfold cc0_attention_out_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  sl_exec (disch := first | sl_exact hc0 | sl_exact hc1 | sl_exact hc2 | sl_exact hc3)
  sl_step
  iapply Hk
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact harg13.read_unread _
  isplitl [H14]
  · iexists _; isplitr; swap
    · iexact H14
    · ipureintro
      refine (store_S1024x128 _ _ _).trans ?_
      congr 1 <;> first
        | exact (load_S1024x128 _).trans (Memref.IsWhole.read_unread _ _)
        | exact (load_S1024x512 _).trans (Memref.IsWhole.read_unread _ _)
        | exact (load_S512x512 _).trans (Memref.IsWhole.read_unread _ _)
        | exact (load_S1x512 _).trans (Memref.IsWhole.read_unread _ _)
        | exact (load_S1x1024x512 _).trans (Memref.IsWhole.read_unread _ _)
        | exact (load_S1x512x1024 _).trans (Memref.IsWhole.read_unread _ _)
        | exact (load_col0 _).trans (congrArg col0 (Memref.IsWhole.read_unread _ _))
  isplitl [H15]
  · iexists _; isplitr; swap
    · iexact H15
    · ipureintro
      refine (store_S1024x128 _ _ _).trans ?_
      congr 1 <;> first
        | exact (load_S1024x128 _).trans (Memref.IsWhole.read_unread _ _)
        | exact (load_S1024x512 _).trans (Memref.IsWhole.read_unread _ _)
        | exact (load_S512x512 _).trans (Memref.IsWhole.read_unread _ _)
        | exact (load_S1x512 _).trans (Memref.IsWhole.read_unread _ _)
        | exact (load_S1x1024x512 _).trans (Memref.IsWhole.read_unread _ _)
        | exact (load_S1x512x1024 _).trans (Memref.IsWhole.read_unread _ _)
        | exact (load_col0 _).trans (congrArg col0 (Memref.IsWhole.read_unread _ _))
  isplitl [H16]
  · iexists _; isplitr; swap
    · iexact H16
    · ipureintro; exact harg16.read_unread _
  · iexists _; isplitr; swap
    · iexact H17
    · ipureintro; exact harg17.read_unread _

end Cert.Attn.Hand
-- ==== Proof.Given.RunC.lean ====
module

public import proofs.«01_k».proof.Proof.Given.Buffers

/-! A point of the second pass but the last: the column block's share of the weighted values is added to the accumulator. -/

@[expose] public section

set_option maxRecDepth 16384

noncomputable section

namespace Cert.Attn.Hand

open Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- A point of the second pass but the last: the column block's share of the weighted values is added to the accumulator. -/
theorem run_C (c : Dev nD) (i : grid0.Coords)
    (arg3 : Memref sig .tc .vmem S1x1024x512 .bf16) (harg3 : arg3.IsWhole)
    (arg4 : Memref sig .tc .vmem S1x512x1024 .bf16) (harg4 : arg4.IsWhole)
    (arg5 : Memref sig .tc .vmem S1x1024x512 .bf16) (harg5 : arg5.IsWhole)
    (arg6 : Memref sig .tc .vmem S1x1024x512 .bf16) (harg6 : arg6.IsWhole)
    (arg7 : Memref sig .tc .vmem S512x512 .i8) (harg7 : arg7.IsWhole)
    (arg8 : Memref sig .tc .vmem S1x512 .f32) (harg8 : arg8.IsWhole)
    (arg9 : Memref sig .tc .vmem S1x512 .f32) (harg9 : arg9.IsWhole)
    (arg10 : Memref sig .tc .vmem S1x1024x512 .bf16) (harg10 : arg10.IsWhole)
    (arg11 : Memref sig .tc .vmem S1x1024x512 .bf16) (harg11 : arg11.IsWhole)
    (arg12 : Memref sig .tc .vmem S1x1024x512 .i8) (harg12 : arg12.IsWhole)
    (arg13 : Memref sig .tc .vmem S3x1024 .f32) (harg13 : arg13.IsWhole)
    (arg14 : Memref sig .tc .vmem S1024x128 .f32) (harg14 : arg14.IsWhole)
    (arg15 : Memref sig .tc .vmem S1024x128 .f32) (harg15 : arg15.IsWhole)
    (arg16 : Memref sig .tc .vmem S1024x512 .f32) (harg16 : arg16.IsWhole)
    (arg17 : Memref sig .tc .vmem S512x512 .bf16) (harg17 : arg17.IsWhole)
    (hc0 : ¬cond0_0 i) (hc1 : ¬cond0_1 i) (hc2 : cond0_2 i) (hc3 : ¬cond0_3 i)
    (x0 : Vec F S1x1024x512 .bf16)
    (x1 : Vec F S1x512x1024 .bf16)
    (x2 : Vec F S1x1024x512 .bf16)
    (x3 : Vec F S1x1024x512 .bf16)
    (x4 : Vec F S512x512 .i8)
    (x5 : Vec F S1x512 .f32)
    (x6 : Vec F S1x512 .f32)
    (y7 : Vec F S1x1024x512 .bf16)
    (y8 : Vec F S1x1024x512 .bf16)
    (y9 : Vec F S1x1024x512 .i8)
    (y10 : Vec F S3x1024 .f32)
    (s0 : Vec F S1024x128 .f32)
    (s1 : Vec F S1024x128 .f32)
    (s2 : Vec F S1024x512 .f32)
    (s3 : Vec F S512x512 .bf16) (E : Set ℕ) (K : PUnit → sProp 𝕄) :
    iprop(held c arg3 arg4 arg5 arg6 arg7 arg8 arg9 arg10 arg11 arg12 arg13 arg14 arg15 arg16 arg17 x0 x1 x2 x3 x4 x5 x6 y7 y8 y9 y10 s0 s1 s2 s3
        ∗ (held c arg3 arg4 arg5 arg6 arg7 arg8 arg9 arg10 arg11 arg12 arg13 arg14 arg15 arg16 arg17
            x0 x1 x2 x3 x4 x5 x6 y7 y8 y9 y10 s0 s1 (k0_pay9 x0 x1 (col0 s0) (col0 s1) s2 x2) s3 -∗ K ⟨⟩))
      ⊢ wp frame (wpE (defs₀ (F := F)) Variants.none c none) E (cc0_attention_out i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_attention_out_eq_skeleton]; unfold cc0_attention_out_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  sl_exec (disch := first | sl_exact hc0 | sl_exact hc1 | sl_exact hc2 | sl_exact hc3)
  sl_step
  iapply Hk
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact harg13.read_unread _
  isplitl [H14]
  · iexists _; isplitr; swap
    · iexact H14
    · ipureintro; exact harg14.read_unread _
  isplitl [H15]
  · iexists _; isplitr; swap
    · iexact H15
    · ipureintro; exact harg15.read_unread _
  isplitl [H16]
  · iexists _; isplitr; swap
    · iexact H16
    · ipureintro
      refine (store_S1024x512 _ _ _).trans ?_
      congr 1 <;> first
        | exact (load_S1024x128 _).trans (Memref.IsWhole.read_unread _ _)
        | exact (load_S1024x512 _).trans (Memref.IsWhole.read_unread _ _)
        | exact (load_S512x512 _).trans (Memref.IsWhole.read_unread _ _)
        | exact (load_S1x512 _).trans (Memref.IsWhole.read_unread _ _)
        | exact (load_S1x1024x512 _).trans (Memref.IsWhole.read_unread _ _)
        | exact (load_S1x512x1024 _).trans (Memref.IsWhole.read_unread _ _)
        | exact (load_col0 _).trans (congrArg col0 (Memref.IsWhole.read_unread _ _))
  · iexists _; isplitr; swap
    · iexact H17
    · ipureintro; exact harg17.read_unread _

end Cert.Attn.Hand
-- ==== Proof.Given.RunD.lean ====
module

public import proofs.«01_k».proof.Proof.Given.Buffers

/-! The last point of a row block: the accumulator is completed, quantised row by row, projected, and the four results are stored. -/

@[expose] public section

set_option maxRecDepth 16384

noncomputable section

namespace Cert.Attn.Hand

open Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The last point of a row block: the accumulator is completed, quantised row by row, projected, and the four results are stored. -/
theorem run_D (c : Dev nD) (i : grid0.Coords)
    (arg3 : Memref sig .tc .vmem S1x1024x512 .bf16) (harg3 : arg3.IsWhole)
    (arg4 : Memref sig .tc .vmem S1x512x1024 .bf16) (harg4 : arg4.IsWhole)
    (arg5 : Memref sig .tc .vmem S1x1024x512 .bf16) (harg5 : arg5.IsWhole)
    (arg6 : Memref sig .tc .vmem S1x1024x512 .bf16) (harg6 : arg6.IsWhole)
    (arg7 : Memref sig .tc .vmem S512x512 .i8) (harg7 : arg7.IsWhole)
    (arg8 : Memref sig .tc .vmem S1x512 .f32) (harg8 : arg8.IsWhole)
    (arg9 : Memref sig .tc .vmem S1x512 .f32) (harg9 : arg9.IsWhole)
    (arg10 : Memref sig .tc .vmem S1x1024x512 .bf16) (harg10 : arg10.IsWhole)
    (arg11 : Memref sig .tc .vmem S1x1024x512 .bf16) (harg11 : arg11.IsWhole)
    (arg12 : Memref sig .tc .vmem S1x1024x512 .i8) (harg12 : arg12.IsWhole)
    (arg13 : Memref sig .tc .vmem S3x1024 .f32) (harg13 : arg13.IsWhole)
    (arg14 : Memref sig .tc .vmem S1024x128 .f32) (harg14 : arg14.IsWhole)
    (arg15 : Memref sig .tc .vmem S1024x128 .f32) (harg15 : arg15.IsWhole)
    (arg16 : Memref sig .tc .vmem S1024x512 .f32) (harg16 : arg16.IsWhole)
    (arg17 : Memref sig .tc .vmem S512x512 .bf16) (harg17 : arg17.IsWhole)
    (hc0 : ¬cond0_0 i) (hc1 : ¬cond0_1 i) (hc2 : cond0_2 i) (hc3 : cond0_3 i)
    (x0 : Vec F S1x1024x512 .bf16)
    (x1 : Vec F S1x512x1024 .bf16)
    (x2 : Vec F S1x1024x512 .bf16)
    (x3 : Vec F S1x1024x512 .bf16)
    (x4 : Vec F S512x512 .i8)
    (x5 : Vec F S1x512 .f32)
    (x6 : Vec F S1x512 .f32)
    (y7 : Vec F S1x1024x512 .bf16)
    (y8 : Vec F S1x1024x512 .bf16)
    (y9 : Vec F S1x1024x512 .i8)
    (y10 : Vec F S3x1024 .f32)
    (s0 : Vec F S1024x128 .f32)
    (s1 : Vec F S1024x128 .f32)
    (s2 : Vec F S1024x512 .f32)
    (s3 : Vec F S512x512 .bf16) (E : Set ℕ) (K : PUnit → sProp 𝕄) :
    iprop(held c arg3 arg4 arg5 arg6 arg7 arg8 arg9 arg10 arg11 arg12 arg13 arg14 arg15 arg16 arg17 x0 x1 x2 x3 x4 x5 x6 y7 y8 y9 y10 s0 s1 s2 s3
        ∗ (held c arg3 arg4 arg5 arg6 arg7 arg8 arg9 arg10 arg11 arg12 arg13 arg14 arg15 arg16 arg17
            x0 x1 x2 x3 x4 x5 x6 (k0_pay12 (k0_pay17 (k0_pay9 x0 x1 (col0 s0) (col0 s1) s2 x2) s3 x5) (k0_pay18 x6) x3) (k0_pay11 (k0_pay17 (k0_pay9 x0 x1 (col0 s0) (col0 s1) s2 x2) s3 x5) (k0_pay18 x6)) (k0_pay15 (k0_pay9 x0 x1 (col0 s0) (col0 s1) s2 x2)) (putScale i y10 (k0_pay16 (k0_pay9 x0 x1 (col0 s0) (col0 s1) s2 x2))) s0 s1 (k0_pay9 x0 x1 (col0 s0) (col0 s1) s2 x2) s3 -∗ K ⟨⟩))
      ⊢ wp frame (wpE (defs₀ (F := F)) Variants.none c none) E (cc0_attention_out i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_attention_out_eq_skeleton]; unfold cc0_attention_out_skel
  simp only [k0_part1_eq_skeleton]
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  sl_exec (disch := first | sl_exact hc0 | sl_exact hc1 | sl_exact hc2 | sl_exact hc3)
  sl_step
  have e17 : run_D.sl.v17 c arg3 harg3 arg4 harg4 arg5 harg5 arg14 harg14 arg15 harg15 arg16 harg16 x0 x1 x2 s0 s1 s2
      = (k0_pay9 x0 x1 (col0 s0) (col0 s1) s2 x2) := by
    unfold run_D.sl.v17 run_D.sl.H16_1
    refine (View.readCov_full _ _ _ _ _).trans ?_
    congr 1 <;> first
        | exact (load_S1024x128 _).trans (Memref.IsWhole.read_unread _ _)
        | exact (load_S1024x512 _).trans (Memref.IsWhole.read_unread _ _)
        | exact (load_S512x512 _).trans (Memref.IsWhole.read_unread _ _)
        | exact (load_S1x512 _).trans (Memref.IsWhole.read_unread _ _)
        | exact (load_S1x1024x512 _).trans (Memref.IsWhole.read_unread _ _)
        | exact (load_S1x512x1024 _).trans (Memref.IsWhole.read_unread _ _)
        | exact (load_col0 _).trans (congrArg col0 (Memref.IsWhole.read_unread _ _))
  iapply Hk
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro
      exact (store_S1x1024x512 _ _ _).trans
        (congr (congr (congrArg k0_pay12 (congr (congr (congrArg k0_pay17 e17) ((load_S512x512 _).trans (harg17.read_unread _))) ((load_S1x512 _).trans (harg8.read_unread _))))
          (congrArg k0_pay18 ((load_S1x512 _).trans (harg9.read_unread _)))) ((load_S1x1024x512 _).trans (harg6.read_unread _)))
  isplitl [H11]
  · iexists _; isplitr; swap
    · iexact H11
    · ipureintro
      exact (store_S1x1024x512 _ _ _).trans
        (congr (congrArg k0_pay11 (congr (congr (congrArg k0_pay17 e17) ((load_S512x512 _).trans (harg17.read_unread _))) ((load_S1x512 _).trans (harg8.read_unread _))))
          (congrArg k0_pay18 ((load_S1x512 _).trans (harg9.read_unread _))))
  isplitl [H12]
  · iexists _; isplitr; swap
    · iexact H12
    · ipureintro
      exact (store_S1x1024x512 _ _ _).trans (congrArg k0_pay15 e17)
  isplitl [H13]
  · iexists _; isplitr; swap
    · iexact H13
    · ipureintro
      exact (store_scale _ _ _ _).trans
        (congr (congrArg (putScale i) (harg13.read_unread _)) (congrArg k0_pay16 e17))
  isplitl [H14]
  · iexists _; isplitr; swap
    · iexact H14
    · ipureintro; exact harg14.read_unread _
  isplitl [H15]
  · iexists _; isplitr; swap
    · iexact H15
    · ipureintro; exact harg15.read_unread _
  isplitl [H16]
  · iexists _; isplitr; swap
    · iexact H16
    · ipureintro
      unfold run_D.sl.H16_1
      refine (store_S1024x512 _ _ _).trans ?_
      congr 1 <;> first
        | exact (load_S1024x128 _).trans (Memref.IsWhole.read_unread _ _)
        | exact (load_S1024x512 _).trans (Memref.IsWhole.read_unread _ _)
        | exact (load_S512x512 _).trans (Memref.IsWhole.read_unread _ _)
        | exact (load_S1x512 _).trans (Memref.IsWhole.read_unread _ _)
        | exact (load_S1x1024x512 _).trans (Memref.IsWhole.read_unread _ _)
        | exact (load_S1x512x1024 _).trans (Memref.IsWhole.read_unread _ _)
        | exact (load_col0 _).trans (congrArg col0 (Memref.IsWhole.read_unread _ _))
  · iexists _; isplitr; swap
    · iexact H17
    · ipureintro; exact harg17.read_unread _

end Cert.Attn.Hand
-- ==== Proof.Given.Track.lean ====
module

public import Idealize.ShloMosaic.Lib.Pipeline.DatRel
public import proofs.«01_k».proof.Proof.Given.RunA
public import proofs.«01_k».proof.Proof.Given.RunB
public import proofs.«01_k».proof.Proof.Given.RunC
public import proofs.«01_k».proof.Proof.Given.RunD
public import proofs.«01_k».proof.Proof.Given.Points

/-! What is claimed of the scratch buffers and of the output blocks from grid point to grid point of the attention call, as predicates, and the steps that have to be shown of them. -/

@[expose] public section

set_option maxRecDepth 16384

noncomputable section

namespace Cert.Attn.Hand

open Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The seven input blocks at a point. -/

abbrev X0 (c : Dev nD) (t : Fin cfg0.N) : Vec F S1x1024x512 .bf16 := iblk m c 0 t
abbrev X1 (c : Dev nD) (t : Fin cfg0.N) : Vec F S1x512x1024 .bf16 := iblk m c 1 t
abbrev X2 (c : Dev nD) (t : Fin cfg0.N) : Vec F S1x1024x512 .bf16 := iblk m c 2 t
abbrev X3 (c : Dev nD) (t : Fin cfg0.N) : Vec F S1x1024x512 .bf16 := iblk m c 3 t
abbrev X4 (c : Dev nD) (t : Fin cfg0.N) : Vec F S512x512 .i8 := iblk m c 4 t
abbrev X5 (c : Dev nD) (t : Fin cfg0.N) : Vec F S1x512 .f32 := iblk m c 5 t
abbrev X6 (c : Dev nD) (t : Fin cfg0.N) : Vec F S1x512 .f32 := iblk m c 6 t

/-- Predicates on what the scratch buffers hold before a point (`inv`) and on what the four output blocks hold
    after it (`r7` … `r10`), with the steps of the body: the first point of a row block, the points of the first
    pass, those of the second, and the last, which stores the results. The scale block is filled one row at a
    time, so its predicate may look at what the point before left. -/
structure Track where
  inv : Dev nD → ℕ → Vec F S1024x128 .f32 → Vec F S1024x128 .f32 → Vec F S1024x512 .f32 → Vec F S512x512 .bf16 → Prop
  r7 : Dev nD → ℕ → Vec F S1x1024x512 .bf16 → Prop
  r8 : Dev nD → ℕ → Vec F S1x1024x512 .bf16 → Prop
  r9 : Dev nD → ℕ → Vec F S1x1024x512 .i8 → Prop
  r10 : Dev nD → ℕ → Vec F S3x1024 .f32 → Prop
  start : ∀ c s0 s1 s2 s3, inv c 0 s0 s1 s2 s3
  stepA : ∀ c (t : Fin cfg0.N), t.val % 64 = 0 → ∀ s0 s1 s2 s3, inv c t.val s0 s1 s2 s3 →
    inv c (t.val + 1) (k0_pay8 (X0 m c t) (X1 m c t) k0_pay1) (k0_pay7 (X0 m c t) (X1 m c t) k0_pay1 k0_pay2) k0_pay3 (k0_pay4 (X4 m c t))
  stepB : ∀ c (t : Fin cfg0.N), t.val % 64 ≠ 0 → t.val % 64 ≤ 31 → ∀ s0 s1 s2 s3, inv c t.val s0 s1 s2 s3 →
    inv c (t.val + 1) (k0_pay8 (X0 m c t) (X1 m c t) s0) (k0_pay7 (X0 m c t) (X1 m c t) s0 s1) s2 s3
  stepC : ∀ c (t : Fin cfg0.N), 32 ≤ t.val % 64 → ∀ s0 s1 s2 s3, inv c t.val s0 s1 s2 s3 →
    inv c (t.val + 1) s0 s1 (k0_pay9 (X0 m c t) (X1 m c t) (col0 s0) (col0 s1) s2 (X2 m c t)) s3
  idle7 : ∀ c t, t % 64 ≠ 63 → ∀ y, r7 c t y
  idle8 : ∀ c t, t % 64 ≠ 63 → ∀ y, r8 c t y
  idle9 : ∀ c t, t % 64 ≠ 63 → ∀ y, r9 c t y
  idle10 : ∀ c (t : Fin cfg0.N), t.val % 64 ≠ 63 → ∀ y, (t.val % 192 ≠ 0 → r10 c (t.val - 1) y) → r10 c t.val y
  last7 : ∀ c (t : Fin cfg0.N), t.val % 64 = 63 → ∀ s0 s1 s2 s3, inv c t.val s0 s1 s2 s3 →
    r7 c t.val (k0_pay12 (k0_pay17 (k0_pay9 (X0 m c t) (X1 m c t) (col0 s0) (col0 s1) s2 (X2 m c t)) s3 (X5 m c t)) (k0_pay18 (X6 m c t)) (X3 m c t))
  last8 : ∀ c (t : Fin cfg0.N), t.val % 64 = 63 → ∀ s0 s1 s2 s3, inv c t.val s0 s1 s2 s3 →
    r8 c t.val (k0_pay11 (k0_pay17 (k0_pay9 (X0 m c t) (X1 m c t) (col0 s0) (col0 s1) s2 (X2 m c t)) s3 (X5 m c t)) (k0_pay18 (X6 m c t)))
  last9 : ∀ c (t : Fin cfg0.N), t.val % 64 = 63 → ∀ s0 s1 s2 s3, inv c t.val s0 s1 s2 s3 →
    r9 c t.val (k0_pay15 (k0_pay9 (X0 m c t) (X1 m c t) (col0 s0) (col0 s1) s2 (X2 m c t)))
  last10 : ∀ c (t : Fin cfg0.N), t.val % 64 = 63 → ∀ s0 s1 s2 s3, inv c t.val s0 s1 s2 s3 →
    ∀ y, r10 c (t.val - 1) y → r10 c t.val (putScale (grid0.coords t) y (k0_pay16 (k0_pay9 (X0 m c t) (X1 m c t) (col0 s0) (col0 s1) s2 (X2 m c t))))

variable {m} (T : Track m)

/-- The scratch buffers, the generator's register, and what is claimed of the former before point `n`. -/
def phi (c : Dev nD) (n : ℕ) : sProp 𝕄 :=
  iprop((∃ s0 s1 s2 s3, ⌜T.inv c n s0 s1 s2 s3⌝ ∗ owns (c : Thread nD τ) scM0_0 fullShare s0
      ∗ owns (c : Thread nD τ) scM0_1 fullShare s1 ∗ owns (c : Thread nD τ) scM0_2 fullShare s2
      ∗ owns (c : Thread nD τ) scM0_3 fullShare s3) ∗ (∃ r, prngReg c r))

/-- The windows held to a predicate: the four outputs. -/
def marks : Fin cfg0.W → Bool := fun w => decide (7 ≤ w.val)

/-- The predicate of each output window. -/
def rel (c : Dev nD) (w : Fin cfg0.W) (t : Fin cfg0.N) (y : (cfg0.win w).block.Idx → Elt F (cfg0.win w).elt) : Prop :=
  match w, y with
  | ⟨7, _⟩, y => T.r7 c t.val y
  | ⟨8, _⟩, y => T.r8 c t.val y
  | ⟨9, _⟩, y => T.r9 c t.val y
  | ⟨10, _⟩, y => T.r10 c t.val y
  | _, _ => True

/-- The data of the run: the inputs keep their blocks, of the outputs only `rel` is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := phi T c t.val
  q _ := fullShare
  owed _ := 0

/-- The run's data, with the four output windows held to their predicates. -/
abbrev rdat (c : Dev nD) := (dats T 0 c).toRRel marks (rel T c)

theorem A_eq (c : Dev nD) (w : Fin cfg0.W) : (dats T 0 c).A w = V m c (Pipeline.arrRef spec0 w) := rfl

theorem before_0 (c : Dev nD) (t : Fin cfg0.N) (d) : (dats T 0 c).before 0 t d = iblk m c 0 t :=
  before0_0_of m (dats T 0 c) (A_eq T c 0) (fun _ => rfl) t d
theorem before_1 (c : Dev nD) (t : Fin cfg0.N) (d) : (dats T 0 c).before 1 t d = iblk m c 1 t :=
  before0_1_of m (dats T 0 c) (A_eq T c 1) (fun _ => rfl) t d
theorem before_2 (c : Dev nD) (t : Fin cfg0.N) (d) : (dats T 0 c).before 2 t d = iblk m c 2 t :=
  before0_2_of m (dats T 0 c) (A_eq T c 2) (fun _ => rfl) t d
theorem before_3 (c : Dev nD) (t : Fin cfg0.N) (d) : (dats T 0 c).before 3 t d = iblk m c 3 t :=
  before0_3_of m (dats T 0 c) (A_eq T c 3) (fun _ => rfl) t d
theorem before_4 (c : Dev nD) (t : Fin cfg0.N) (d) : (dats T 0 c).before 4 t d = iblk m c 4 t :=
  before0_4_of m (dats T 0 c) (A_eq T c 4) (fun _ => rfl) t d
theorem before_5 (c : Dev nD) (t : Fin cfg0.N) (d) : (dats T 0 c).before 5 t d = iblk m c 5 t :=
  before0_5_of m (dats T 0 c) (A_eq T c 5) (fun _ => rfl) t d
theorem before_6 (c : Dev nD) (t : Fin cfg0.N) (d) : (dats T 0 c).before 6 t d = iblk m c 6 t :=
  before0_6_of m (dats T 0 c) (A_eq T c 6) (fun _ => rfl) t d

/-- What the scale block may hold when the body runs: nothing is known at the first point of a row group, else
    what the point before left. -/
theorem finds10 (c : Dev nD) (t : Fin cfg0.N) (y : Vec F S3x1024 .f32) (h : (rdat T c).Finds 10 t y) :
    t.val % 192 ≠ 0 → T.r10 c (t.val - 1) y := by
  intro h0
  have ht : t.val ≠ 0 := fun e => h0 (by rw [e])
  have hl := ((rdat T c).finds_of_pos (w := 10) (t := t) rfl ht y).mp h
  have hf : ¬ ((cfg0.win 10).flush ⟨t.val - 1, Nat.lt_of_le_of_lt (Nat.sub_le _ _) t.isLt⟩ = true) := fun hf => by
    have := (flush0_10 _).mp hf
    simp only at this
    omega
  rcases hl with hl | hl
  · exact absurd hl hf
  · exact (dats T 0 c).toRRel_leaves (fgt := marks) (Rl := rel T c) (w := 10) rfl hl

end Cert.Attn.Hand
-- ==== Proof.Given.Frame.lean ====
module

public import proofs.«01_k».proof.Proof.Given.Track

/-! The run of the attention call: from predicates with their steps (`Track`) to what the result arrays hold after the run. -/

@[expose] public section

set_option maxRecDepth 16384

noncomputable section

namespace Cert.Attn.Hand

open Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable {m : (ℓ : Loc nD τ sig) → Buf (Elt F) ℓ} (ρ : Dev nD → PrngReg) (T : Track m)

/-- What the body is given at a point. -/
def bodyPre (c : Dev nD) (t : Fin cfg0.N) : sProp 𝕄 :=
  iprop((dats T 0 c).Φ t.castSucc ∗ (dats T 0 c).owesAt () t.castSucc ∗ (∃ d, owns (c : Thread nD τ) (ms0_0 t) fullShare ((dats T 0 c).before 0 t d)) ∗ (∃ d, owns (c : Thread nD τ) (ms0_1 t) fullShare ((dats T 0 c).before 1 t d)) ∗ (∃ d, owns (c : Thread nD τ) (ms0_2 t) fullShare ((dats T 0 c).before 2 t d)) ∗ (∃ d, owns (c : Thread nD τ) (ms0_3 t) fullShare ((dats T 0 c).before 3 t d)) ∗ (∃ d, owns (c : Thread nD τ) (ms0_4 t) fullShare ((dats T 0 c).before 4 t d)) ∗ (∃ d, owns (c : Thread nD τ) (ms0_5 t) fullShare ((dats T 0 c).before 5 t d)) ∗ (∃ d, owns (c : Thread nD τ) (ms0_6 t) fullShare ((dats T 0 c).before 6 t d)) ∗ (∃ Y, ⌜(rdat T c).Finds 7 t Y⌝ ∗ owns (c : Thread nD τ) (ms0_7 t) fullShare Y) ∗ (∃ Y, ⌜(rdat T c).Finds 8 t Y⌝ ∗ owns (c : Thread nD τ) (ms0_8 t) fullShare Y) ∗ (∃ Y, ⌜(rdat T c).Finds 9 t Y⌝ ∗ owns (c : Thread nD τ) (ms0_9 t) fullShare Y) ∗ (∃ Y, ⌜(rdat T c).Finds 10 t Y⌝ ∗ owns (c : Thread nD τ) (ms0_10 t) fullShare Y))

/-- What it gives back. -/
def bodyPost (c : Dev nD) (t : Fin cfg0.N) : sProp 𝕄 :=
  iprop((dats T 0 c).Φ t.succ ∗ (dats T 0 c).owesAt () t.succ ∗ owns (c : Thread nD τ) (ms0_0 t) fullShare ((dats T 0 c).after 0 t) ∗ owns (c : Thread nD τ) (ms0_1 t) fullShare ((dats T 0 c).after 1 t) ∗ owns (c : Thread nD τ) (ms0_2 t) fullShare ((dats T 0 c).after 2 t) ∗ owns (c : Thread nD τ) (ms0_3 t) fullShare ((dats T 0 c).after 3 t) ∗ owns (c : Thread nD τ) (ms0_4 t) fullShare ((dats T 0 c).after 4 t) ∗ owns (c : Thread nD τ) (ms0_5 t) fullShare ((dats T 0 c).after 5 t) ∗ owns (c : Thread nD τ) (ms0_6 t) fullShare ((dats T 0 c).after 6 t) ∗ (∃ X, ⌜rel T c 7 t X⌝ ∗ owns (c : Thread nD τ) (ms0_7 t) fullShare X) ∗ (∃ X, ⌜rel T c 8 t X⌝ ∗ owns (c : Thread nD τ) (ms0_8 t) fullShare X) ∗ (∃ X, ⌜rel T c 9 t X⌝ ∗ owns (c : Thread nD τ) (ms0_9 t) fullShare X) ∗ (∃ X, ⌜rel T c 10 t X⌝ ∗ owns (c : Thread nD τ) (ms0_10 t) fullShare X))

set_option maxHeartbeats 4000000 in
theorem sound_A (c : Dev nD) (t : Fin cfg0.N) (h : t.val % 64 = 0) :
    bodyPre T c t ⊢ wp frame (wpE (defs₀ (F := F)) Variants.none c none) Set.univ (bodyAt0 t) (fun _ => bodyPost T c t) := by
  unfold bodyPre bodyPost bodyAt0
  simp only [before_0, before_1, before_2, before_3, before_4, before_5, before_6]
  rw [show (dats T 0 c).owesAt () t.succ = (dats T 0 c).owesAt () t.castSucc from rfl]
  rw [show (dats T 0 c).Φ t.succ = phi T c (t.val + 1) from rfl, show (dats T 0 c).Φ t.castSucc = phi T c t.val from rfl]
  unfold phi
  iintro ⟨⟨⟨%s0, %s1, %s2, %s3, %hi, S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩⟩
  iapply (run_A c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (Memref.isWhole_whole cc0_scratch0) _ (Memref.isWhole_whole cc0_scratch1) _ (Memref.isWhole_whole cc0_scratch2) _ (Memref.isWhole_whole cc0_scratch3) ((hcond0_0 t).mpr (by omega)) ((hcond0_1 t).mpr (by omega)) (fun h => absurd ((hcond0_2 t).mp h) (by omega)) (fun h => absurd ((hcond0_3 t).mp h) (by omega)) (X0 m c t) (X1 m c t) (X2 m c t) (X3 m c t) (X4 m c t) (X5 m c t) (X6 m c t) y7 y8 y9 y10 s0 s1 s2 s3 Set.univ _)
  isplitl [H0 H1 H2 H3 H4 H5 H6 H7 H8 H9 H10 S0 S1 S2 S3]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iexact S3
  unfold held
  iintro ⟨H0, H1, H2, H3, H4, H5, H6, H7, H8, H9, H10, S0, S1, S2, S3⟩
  isplitl [S0 S1 S2 S3 Hg]
  · isplitr [Hg]
    · iexists _, _, _, _
      isplitr
      · ipureintro; exact T.stepA c t h s0 s1 s2 s3 hi
      isplitl [S0]; · iexact S0
      isplitl [S1]; · iexact S1
      isplitl [S2]; · iexact S2
      iexact S3
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro; exact T.idle7 c t.val (by omega) y7
  isplitl [H8]
  · iexists _; isplitr
    swap; · iexact H8
    ipureintro; exact T.idle8 c t.val (by omega) y8
  isplitl [H9]
  · iexists _; isplitr
    swap; · iexact H9
    ipureintro; exact T.idle9 c t.val (by omega) y9
  · iexists _; isplitr
    swap; · iexact H10
    ipureintro; exact T.idle10 c t (by omega) y10 (finds10 T c t y10 hy10)

set_option maxHeartbeats 4000000 in
theorem sound_B (c : Dev nD) (t : Fin cfg0.N) (h : t.val % 64 ≠ 0) (h1 : t.val % 64 ≤ 31) :
    bodyPre T c t ⊢ wp frame (wpE (defs₀ (F := F)) Variants.none c none) Set.univ (bodyAt0 t) (fun _ => bodyPost T c t) := by
  unfold bodyPre bodyPost bodyAt0
  simp only [before_0, before_1, before_2, before_3, before_4, before_5, before_6]
  rw [show (dats T 0 c).owesAt () t.succ = (dats T 0 c).owesAt () t.castSucc from rfl]
  rw [show (dats T 0 c).Φ t.succ = phi T c (t.val + 1) from rfl, show (dats T 0 c).Φ t.castSucc = phi T c t.val from rfl]
  unfold phi
  iintro ⟨⟨⟨%s0, %s1, %s2, %s3, %hi, S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩⟩
  iapply (run_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (Memref.isWhole_whole cc0_scratch0) _ (Memref.isWhole_whole cc0_scratch1) _ (Memref.isWhole_whole cc0_scratch2) _ (Memref.isWhole_whole cc0_scratch3) (fun h => absurd ((hcond0_0 t).mp h) (by omega)) ((hcond0_1 t).mpr (by omega)) (fun h => absurd ((hcond0_2 t).mp h) (by omega)) (fun h => absurd ((hcond0_3 t).mp h) (by omega)) (X0 m c t) (X1 m c t) (X2 m c t) (X3 m c t) (X4 m c t) (X5 m c t) (X6 m c t) y7 y8 y9 y10 s0 s1 s2 s3 Set.univ _)
  isplitl [H0 H1 H2 H3 H4 H5 H6 H7 H8 H9 H10 S0 S1 S2 S3]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iexact S3
  unfold held
  iintro ⟨H0, H1, H2, H3, H4, H5, H6, H7, H8, H9, H10, S0, S1, S2, S3⟩
  isplitl [S0 S1 S2 S3 Hg]
  · isplitr [Hg]
    · iexists _, _, _, _
      isplitr
      · ipureintro; exact T.stepB c t h h1 s0 s1 s2 s3 hi
      isplitl [S0]; · iexact S0
      isplitl [S1]; · iexact S1
      isplitl [S2]; · iexact S2
      iexact S3
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro; exact T.idle7 c t.val (by omega) y7
  isplitl [H8]
  · iexists _; isplitr
    swap; · iexact H8
    ipureintro; exact T.idle8 c t.val (by omega) y8
  isplitl [H9]
  · iexists _; isplitr
    swap; · iexact H9
    ipureintro; exact T.idle9 c t.val (by omega) y9
  · iexists _; isplitr
    swap; · iexact H10
    ipureintro; exact T.idle10 c t (by omega) y10 (finds10 T c t y10 hy10)

set_option maxHeartbeats 4000000 in
theorem sound_C (c : Dev nD) (t : Fin cfg0.N) (h : 32 ≤ t.val % 64) (h1 : t.val % 64 ≠ 63) :
    bodyPre T c t ⊢ wp frame (wpE (defs₀ (F := F)) Variants.none c none) Set.univ (bodyAt0 t) (fun _ => bodyPost T c t) := by
  unfold bodyPre bodyPost bodyAt0
  simp only [before_0, before_1, before_2, before_3, before_4, before_5, before_6]
  rw [show (dats T 0 c).owesAt () t.succ = (dats T 0 c).owesAt () t.castSucc from rfl]
  rw [show (dats T 0 c).Φ t.succ = phi T c (t.val + 1) from rfl, show (dats T 0 c).Φ t.castSucc = phi T c t.val from rfl]
  unfold phi
  iintro ⟨⟨⟨%s0, %s1, %s2, %s3, %hi, S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩⟩
  iapply (run_C c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (Memref.isWhole_whole cc0_scratch0) _ (Memref.isWhole_whole cc0_scratch1) _ (Memref.isWhole_whole cc0_scratch2) _ (Memref.isWhole_whole cc0_scratch3) (fun h => absurd ((hcond0_0 t).mp h) (by omega)) (fun h => absurd ((hcond0_1 t).mp h) (by omega)) ((hcond0_2 t).mpr (by omega)) (fun h => absurd ((hcond0_3 t).mp h) (by omega)) (X0 m c t) (X1 m c t) (X2 m c t) (X3 m c t) (X4 m c t) (X5 m c t) (X6 m c t) y7 y8 y9 y10 s0 s1 s2 s3 Set.univ _)
  isplitl [H0 H1 H2 H3 H4 H5 H6 H7 H8 H9 H10 S0 S1 S2 S3]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iexact S3
  unfold held
  iintro ⟨H0, H1, H2, H3, H4, H5, H6, H7, H8, H9, H10, S0, S1, S2, S3⟩
  isplitl [S0 S1 S2 S3 Hg]
  · isplitr [Hg]
    · iexists _, _, _, _
      isplitr
      · ipureintro; exact T.stepC c t h s0 s1 s2 s3 hi
      isplitl [S0]; · iexact S0
      isplitl [S1]; · iexact S1
      isplitl [S2]; · iexact S2
      iexact S3
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro; exact T.idle7 c t.val (by omega) y7
  isplitl [H8]
  · iexists _; isplitr
    swap; · iexact H8
    ipureintro; exact T.idle8 c t.val (by omega) y8
  isplitl [H9]
  · iexists _; isplitr
    swap; · iexact H9
    ipureintro; exact T.idle9 c t.val (by omega) y9
  · iexists _; isplitr
    swap; · iexact H10
    ipureintro; exact T.idle10 c t (by omega) y10 (finds10 T c t y10 hy10)

set_option maxHeartbeats 4000000 in
theorem sound_D (c : Dev nD) (t : Fin cfg0.N) (h : t.val % 64 = 63) :
    bodyPre T c t ⊢ wp frame (wpE (defs₀ (F := F)) Variants.none c none) Set.univ (bodyAt0 t) (fun _ => bodyPost T c t) := by
  unfold bodyPre bodyPost bodyAt0
  simp only [before_0, before_1, before_2, before_3, before_4, before_5, before_6]
  rw [show (dats T 0 c).owesAt () t.succ = (dats T 0 c).owesAt () t.castSucc from rfl]
  rw [show (dats T 0 c).Φ t.succ = phi T c (t.val + 1) from rfl, show (dats T 0 c).Φ t.castSucc = phi T c t.val from rfl]
  unfold phi
  iintro ⟨⟨⟨%s0, %s1, %s2, %s3, %hi, S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩⟩
  iapply (run_D c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (Memref.isWhole_whole cc0_scratch0) _ (Memref.isWhole_whole cc0_scratch1) _ (Memref.isWhole_whole cc0_scratch2) _ (Memref.isWhole_whole cc0_scratch3) (fun h => absurd ((hcond0_0 t).mp h) (by omega)) (fun h => absurd ((hcond0_1 t).mp h) (by omega)) ((hcond0_2 t).mpr (by omega)) ((hcond0_3 t).mpr (by omega)) (X0 m c t) (X1 m c t) (X2 m c t) (X3 m c t) (X4 m c t) (X5 m c t) (X6 m c t) y7 y8 y9 y10 s0 s1 s2 s3 Set.univ _)
  isplitl [H0 H1 H2 H3 H4 H5 H6 H7 H8 H9 H10 S0 S1 S2 S3]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iexact S3
  unfold held
  iintro ⟨H0, H1, H2, H3, H4, H5, H6, H7, H8, H9, H10, S0, S1, S2, S3⟩
  isplitl [S0 S1 S2 S3 Hg]
  · isplitr [Hg]
    · iexists _, _, _, _
      isplitr
      · ipureintro; exact T.stepC c t (by omega) s0 s1 s2 s3 hi
      isplitl [S0]; · iexact S0
      isplitl [S1]; · iexact S1
      isplitl [S2]; · iexact S2
      iexact S3
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro; exact T.last7 c t (by omega) s0 s1 s2 s3 hi
  isplitl [H8]
  · iexists _; isplitr
    swap; · iexact H8
    ipureintro; exact T.last8 c t (by omega) s0 s1 s2 s3 hi
  isplitl [H9]
  · iexists _; isplitr
    swap; · iexact H9
    ipureintro; exact T.last9 c t (by omega) s0 s1 s2 s3 hi
  · iexists _; isplitr
    swap; · iexact H10
    ipureintro; exact T.last10 c t (by omega) s0 s1 s2 s3 hi y10 (finds10 T c t y10 hy10 (by omega))

/-- The body at any point. -/
theorem sound_body (c : Dev nD) (t : Fin cfg0.N) :
    bodyPre T c t ⊢ wp frame (wpE (defs₀ (F := F)) Variants.none c none) Set.univ (bodyAt0 t) (fun _ => bodyPost T c t) := by
  by_cases h0 : t.val % 64 = 0
  · exact sound_A T c t h0
  by_cases h1 : t.val % 64 ≤ 31
  · exact sound_B T c t h0 h1
  by_cases h2 : t.val % 64 = 63
  · exact sound_D T c t h2
  · exact sound_C T c t (by omega) h2

theorem defs₀_row (t : Fin cfg0.N) :
    (defs₀ (F := F)) .tc cfg0.body (cfg0.bodyArgs t (cfg0.slots t)) = bodyAt0 t := by
  unfold defs₀; rw [Defs.onTc_tc]

/-- The body's obligation, with the outputs held to their predicates. -/
theorem body_obligation (c : Dev nD) :
    BodyObligationRel (dats T 0 c) (defs₀ (F := F)) Variants.none () Set.univ marks (rel T c) := fun t => by
  rw [bigSep_W0, bigSep_W0, defs₀_row]
  exact triple_restated (sound_body T c t) rfl .rfl fun _ => .rfl

theorem hin (c : Dev nD) : Pipeline.ΦA spec0 c ⊢ (dats T 0 c).Φ 0 := by
  rw [show (dats T 0 c).Φ 0 = phi T c 0 from rfl, PhiA0_eq]
  unfold phi
  iintro ⟨⟨⟨%s0, S0⟩, ⟨%s1, S1⟩, ⟨%s2, S2⟩, ⟨%s3, S3⟩⟩, Hg⟩
  isplitr [Hg]
  · iexists s0, s1, s2, s3
    isplitr
    · ipureintro; exact T.start c s0 s1 s2 s3
    isplitl [S0]; · iexact S0
    isplitl [S1]; · iexact S1
    isplitl [S2]; · iexact S2
    iexact S3
  · iexact Hg

theorem hout (c : Dev nD) : (dats T 0 c).Φ (Fin.last cfg0.N) ⊢ Pipeline.ΦA spec0 c := by
  rw [show (dats T 0 c).Φ (Fin.last cfg0.N) = phi T c cfg0.N from rfl, PhiA0_eq]
  unfold phi
  iintro ⟨⟨%s0, %s1, %s2, %s3, -, S0, S1, S2, S3⟩, Hg⟩
  isplitr [Hg]
  · isplitl [S0]; · iexists _; iexact S0
    isplitl [S1]; · iexists _; iexact S1
    isplitl [S2]; · iexists _; iexact S2
    iexists _; iexact S3
  · iexact Hg

set_option backward.isDefEq.respectTransparency.types false in
/-- The run of the whole call, with every semaphore at zero at the end. -/
theorem run_main_quiescent : θ_run defs (onTc (τ := τ) (main (F := F))) (s₀ m ρ)
    (fun r => Pipeline.RDat.FramePost (cfgs 0) (fun c => rdat T c) (V m) r ∧ r.2.sem = fun _ => 0) :=
  Pipeline.RDat.θ_run_frame_track (Q' := _) cfgs (0 : Fin 1) launch0 defs₀ Variants.none (fun c => rdat T c) m ρ main
    (hbody := fun c => (body_obligation T c).toRRel) (hshare := fun c => (dats T 0 c).share_full fun _ => rfl)
    (howed := fun _ _ => rfl) (V := V m) (hmain := hmain m Variants.none) (hA := A_eq T) (hin := hin T) (hout := hout T)

theorem run_main : θ_run defs (onTc (τ := τ) (main (F := F))) (s₀ m ρ)
    (Pipeline.RDat.FramePost (cfgs 0) (fun c => rdat T c) (V m)) :=
  (θ_run defs _ _).mono (fun _ h => h.1) (run_main_quiescent ρ T)

end Cert.Attn.Hand
-- ==== Proof.Given.Args.lean ====
module

public import proofs.«01_k».proof.Proof.Given.Frame

/-! The attention call runs to an end, leaves its argument arrays as they were, and leaves every semaphore counter at zero. -/

@[expose] public section

set_option maxRecDepth 16384

noncomputable section

namespace Cert.Attn.Hand

open Cert.Attn Cert.Attn.Gen Idealize.ShloMosaic Idealize.ShloMosaic.TcCoe Idealize.SL.Sem Idealize.ShloMosaic.Pipeline

variable {F : FTy → Type} [FloatOps F] {m : (ℓ : Loc nD τ sig) → Buf (Elt F) ℓ} (ρ : Dev nD → PrngReg) (T : Track m)

/-- After the run the argument arrays are as launched. -/
theorem args_kept {r : PUnit × MemSt nD τ sig (Elt F)} (h : RDat.FramePost (cfgs 0) (fun c => rdat T c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  obtain ⟨hw, hr⟩ := h c
  have key : ∀ w : Fin cfg0.W, (cfg0.win w).isOut = false → r.2.mem ((cfg0.spec w).arr.view.loc (c.tc : Thread nD τ)) = (dats T 0 c).A w := fun w hin => by
    have e := hw w
    rw [RDat.ArrAt_in _ w hin] at e
    exact e
  exact ⟨(key 0 rfl).trans ((A_eq T c 0).trans (V_main_arg0 m c)), (key 1 rfl).trans ((A_eq T c 1).trans (V_main_arg1 m c)), (key 2 rfl).trans ((A_eq T c 2).trans (V_main_arg2 m c)), (key 3 rfl).trans ((A_eq T c 3).trans (V_main_arg3 m c)), (key 4 rfl).trans ((A_eq T c 4).trans (V_main_arg4 m c)),
    (hr main_arg5 (Pipeline.mem_restRefs_of main_arg5 (by decide) (by decide))).trans (V_main_arg5 m c),
    (hr main_arg6 (Pipeline.mem_restRefs_of main_arg6 (by decide) (by decide))).trans (V_main_arg6 m c)⟩

/-- Nothing claimed of the scratch buffers or of the output blocks. -/
def anything (m : (ℓ : Loc nD τ sig) → Buf (Elt F) ℓ) : Track m where
  inv _ _ _ _ _ _ := True
  r7 _ _ _ := True
  r8 _ _ _ := True
  r9 _ _ _ := True
  r10 _ _ _ := True
  start _ _ _ _ _ := trivial
  stepA _ _ _ _ _ _ _ _ := trivial
  stepB _ _ _ _ _ _ _ _ _ := trivial
  stepC _ _ _ _ _ _ _ _ := trivial
  idle7 _ _ _ _ := trivial
  idle8 _ _ _ _ := trivial
  idle9 _ _ _ _ := trivial
  idle10 _ _ _ _ _ := trivial
  last7 _ _ _ _ _ _ _ _ := trivial
  last8 _ _ _ _ _ _ _ _ := trivial
  last9 _ _ _ _ _ _ _ _ := trivial
  last10 _ _ _ _ _ _ _ _ _ _ := trivial

variable (m) in
/-- The call ends, with its arguments kept and the counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨args_kept (anything m) h.1, h.2⟩) (run_main_quiescent ρ (anything m))

end Cert.Attn.Hand
-- ==== Proof.Attention.Points.lean ====
module

public import proofs.«01_k».proof.Proof.Gen.AttnIdeal.Skeleton
public import proofs.«01_k».proof.Proof.Gen.AttnIdeal.Frame

/-! The grid points of the attention call: which branches of the body run at which point, the staging
memrefs the body is given there, and the scratch buffers it carries from point to point. -/

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 64) — by arithmetic of the point. -/
theorem hcond0_0 : ∀ t : Fin cfg0.N, cond0_0 (grid0.coords t) ↔ t.val % 64 = 0 :=
  (fun t => by
    have ht : t.val < 6144 := Nat.lt_of_lt_of_eq t.isLt N_0
    have e0 : (grid0.coords t 0).val = t.val / 192 % 32 := Pipeline.Grid.coords_val t 0 (by decide) rfl
    have e1 : (grid0.coords t 1).val = t.val / 64 % 3 := Pipeline.Grid.coords_val t 1 (by decide) rfl
    have e2 : (grid0.coords t 2).val = t.val / 1 % 64 := Pipeline.Grid.coords_val t 2 (by decide) rfl
    simp only [cond0_0, e0, e1, e2]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 2).val) 32#32)) 0#32) = 1#1
/-- It holds at the points whose coordinates have i2 ≤ 31 — decided over the grid. -/
theorem hcond0_1 : ∀ t : Fin cfg0.N, cond0_1 (grid0.coords t) ↔ t.val % 64 ≤ 31 :=
  (by decide +kernel : ∀ t : Fin grid0.N, cond0_1 (grid0.coords t) ↔ t.val % 64 ≤ 31)

/-- The condition of the body's `scf.if` 2 (`k0_h3`), from the grid coordinates (the skeleton's scalar
    chain substituted). -/
abbrev cond0_2 (i : grid0.Coords) : Prop := (Scalar.cmpi .ne (Scalar.extui (Scalar.cmpi .sge (BitVec.ofNat 32 (i 2).val) 32#32)) 0#32) = 1#1
/-- It holds at the points whose coordinates have 32 ≤ i2 — decided over the grid. -/
theorem hcond0_2 : ∀ t : Fin cfg0.N, cond0_2 (grid0.coords t) ↔ 32 ≤ t.val % 64 :=
  (by decide +kernel : ∀ t : Fin grid0.N, cond0_2 (grid0.coords t) ↔ 32 ≤ t.val % 64)

/-- The condition of the body's `scf.if` 3 (`k0_h4`), from the grid coordinates (the skeleton's scalar
    chain substituted). -/
abbrev cond0_3 (i : grid0.Coords) : Prop := k0_cond4 i = 1#1
/-- It holds at the points ≡ 63 (mod 64) — by arithmetic of the point. -/
theorem hcond0_3 : ∀ t : Fin cfg0.N, cond0_3 (grid0.coords t) ↔ t.val % 64 = 63 :=
  (fun t => by
    have ht : t.val < 6144 := Nat.lt_of_lt_of_eq t.isLt N_0
    have e0 : (grid0.coords t 0).val = t.val / 192 % 32 := Pipeline.Grid.coords_val t 0 (by decide) rfl
    have e1 : (grid0.coords t 1).val = t.val / 64 % 3 := Pipeline.Grid.coords_val t 1 (by decide) rfl
    have e2 : (grid0.coords t 2).val = t.val / 1 % 64 := Pipeline.Grid.coords_val t 2 (by decide) rfl
    simp only [cond0_3, k0_cond4, e0, e1, e2]
    word_cmp
   : ∀ t : Fin grid0.N, cond0_3 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x512 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x1024 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x128 .f32 := Memref.whole cc0_scratch0
abbrev scM0_1 : Memref sig .tc .vmem S1024x128 .f32 := Memref.whole cc0_scratch1
abbrev scM0_2 : Memref sig .tc .vmem S1024x512 .f32 := Memref.whole cc0_scratch2
abbrev scM0_3 : Memref sig .tc .vmem S512x512 .bf16 := Memref.whole cc0_scratch3

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.AttnIdeal.Hand
-- ==== Proof.Attention.Buffers.lean ====
module

public import Idealize.ShloMosaic.Lib.VecWindow
public import proofs.«01_k».proof.Proof.Attention.Points

/-! The buffers one point of the attention call works on, named together with their contents. -/

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The first column of a scratch that repeats one value per row over its columns. -/
def col0 (s : Vec F S1024x128 .f32) : Vec F S1024x1 .f32 :=
  VecWindow.window s ![0, 0] S1024x1.size inb_S1024x128_S1024x1_0_0

/-- The scale block with the row of the point's batch replaced. -/
def putScale (i : grid0.Coords) (y : Vec F S3x1024 .f32) (row : Vec F S1x1024 .f32) : Vec F S3x1024 .f32 :=
  VecWindow.put y (k0_off1 i) S1x1024.size row

/-! Loads and stores of a whole buffer, at the shapes of this call. -/

theorem load_S1024x128 {e : EltTy} {v : View sig .tc .vmem S1024x128 e} (f : v.ty.Contents (Elt F)) :
    v.readAt (Elt F) (Rect.unit (s := S1024x128) ![0, 0] S1024x128.size inb_S1024x128_S1024x128_0_0).toLoadRect f = v.read (Elt F) f :=
  View.readAt_full v f _

theorem store_S1024x128 {e : EltTy} {v : View sig .tc .vmem S1024x128 e} (f : v.ty.Contents (Elt F))
    (w : S1024x128.Idx → Elt F e) (L : List (View.Piece (Elt F) S1024x128 e)) :
    v.read (Elt F) (v.writes (Elt F) f (⟨Rect.unit (s := S1024x128) ![0, 0] S1024x128.size inb_S1024x128_S1024x128_0_0, w⟩ :: L)) = w :=
  View.read_writes_full v f _ w L

theorem load_S1024x512 {e : EltTy} {v : View sig .tc .vmem S1024x512 e} (f : v.ty.Contents (Elt F)) :
    v.readAt (Elt F) (Rect.unit (s := S1024x512) ![0, 0] S1024x512.size inb_S1024x512_S1024x512_0_0).toLoadRect f = v.read (Elt F) f :=
  View.readAt_full v f _

theorem store_S1024x512 {e : EltTy} {v : View sig .tc .vmem S1024x512 e} (f : v.ty.Contents (Elt F))
    (w : S1024x512.Idx → Elt F e) (L : List (View.Piece (Elt F) S1024x512 e)) :
    v.read (Elt F) (v.writes (Elt F) f (⟨Rect.unit (s := S1024x512) ![0, 0] S1024x512.size inb_S1024x512_S1024x512_0_0, w⟩ :: L)) = w :=
  View.read_writes_full v f _ w L

theorem load_S512x512 {e : EltTy} {v : View sig .tc .vmem S512x512 e} (f : v.ty.Contents (Elt F)) :
    v.readAt (Elt F) (Rect.unit (s := S512x512) ![0, 0] S512x512.size inb_S512x512_S512x512_0_0).toLoadRect f = v.read (Elt F) f :=
  View.readAt_full v f _

theorem store_S512x512 {e : EltTy} {v : View sig .tc .vmem S512x512 e} (f : v.ty.Contents (Elt F))
    (w : S512x512.Idx → Elt F e) (L : List (View.Piece (Elt F) S512x512 e)) :
    v.read (Elt F) (v.writes (Elt F) f (⟨Rect.unit (s := S512x512) ![0, 0] S512x512.size inb_S512x512_S512x512_0_0, w⟩ :: L)) = w :=
  View.read_writes_full v f _ w L

theorem load_S1x512 {e : EltTy} {v : View sig .tc .vmem S1x512 e} (f : v.ty.Contents (Elt F)) :
    v.readAt (Elt F) (Rect.unit (s := S1x512) ![0, 0] S1x512.size inb_S1x512_S1x512_0_0).toLoadRect f = v.read (Elt F) f :=
  View.readAt_full v f _

theorem store_S1x512 {e : EltTy} {v : View sig .tc .vmem S1x512 e} (f : v.ty.Contents (Elt F))
    (w : S1x512.Idx → Elt F e) (L : List (View.Piece (Elt F) S1x512 e)) :
    v.read (Elt F) (v.writes (Elt F) f (⟨Rect.unit (s := S1x512) ![0, 0] S1x512.size inb_S1x512_S1x512_0_0, w⟩ :: L)) = w :=
  View.read_writes_full v f _ w L

theorem load_S1x1024x512 {e : EltTy} {v : View sig .tc .vmem S1x1024x512 e} (f : v.ty.Contents (Elt F)) :
    v.readAt (Elt F) (Rect.unit (s := S1x1024x512) ![0, 0, 0] S1x1024x512.size inb_S1x1024x512_S1x1024x512_0_0_0).toLoadRect f = v.read (Elt F) f :=
  View.readAt_full v f _

theorem store_S1x1024x512 {e : EltTy} {v : View sig .tc .vmem S1x1024x512 e} (f : v.ty.Contents (Elt F))
    (w : S1x1024x512.Idx → Elt F e) (L : List (View.Piece (Elt F) S1x1024x512 e)) :
    v.read (Elt F) (v.writes (Elt F) f (⟨Rect.unit (s := S1x1024x512) ![0, 0, 0] S1x1024x512.size inb_S1x1024x512_S1x1024x512_0_0_0, w⟩ :: L)) = w :=
  View.read_writes_full v f _ w L

theorem load_S1x512x1024 {e : EltTy} {v : View sig .tc .vmem S1x512x1024 e} (f : v.ty.Contents (Elt F)) :
    v.readAt (Elt F) (Rect.unit (s := S1x512x1024) ![0, 0, 0] S1x512x1024.size inb_S1x512x1024_S1x512x1024_0_0_0).toLoadRect f = v.read (Elt F) f :=
  View.readAt_full v f _

theorem store_S1x512x1024 {e : EltTy} {v : View sig .tc .vmem S1x512x1024 e} (f : v.ty.Contents (Elt F))
    (w : S1x512x1024.Idx → Elt F e) (L : List (View.Piece (Elt F) S1x512x1024 e)) :
    v.read (Elt F) (v.writes (Elt F) f (⟨Rect.unit (s := S1x512x1024) ![0, 0, 0] S1x512x1024.size inb_S1x512x1024_S1x512x1024_0_0_0, w⟩ :: L)) = w :=
  View.read_writes_full v f _ w L

theorem load_col0 {v : View sig .tc .vmem S1024x128 .f32} (f : v.ty.Contents (Elt F)) :
    v.readAt (Elt F) (Rect.unit (s := S1024x128) ![0, 0] S1024x1.size inb_S1024x128_S1024x1_0_0).toLoadRect f
      = col0 (v.read (Elt F) f) := rfl

theorem store_scale (i : grid0.Coords) {v : View sig .tc .vmem S3x1024 .f32} (f : v.ty.Contents (Elt F))
    (h : ∀ a, k0_off1 i a + S1x1024.size a ≤ S3x1024.size a) (w : Vec F S1x1024 .f32) :
    v.read (Elt F) (v.writes (Elt F) f [⟨Rect.unit (s := S3x1024) (k0_off1 i) S1x1024.size h, w⟩])
      = putScale i (v.read (Elt F) f) w := by
  rw [View.read_writes_cons_put v f h w [] rfl]; rfl

/-- The body's buffers with their contents: the seven input blocks, the four output blocks and the four
    scratch buffers (running maximum, running sum, accumulator, converted weights). -/
def held (c : Dev nD)
    (arg3 : Memref sig .tc .vmem S1x1024x512 .bf16)
    (arg4 : Memref sig .tc .vmem S1x512x1024 .bf16)
    (arg5 : Memref sig .tc .vmem S1x1024x512 .bf16)
    (arg6 : Memref sig .tc .vmem S1x1024x512 .bf16)
    (arg7 : Memref sig .tc .vmem S512x512 .i8)
    (arg8 : Memref sig .tc .vmem S1x512 .f32)
    (arg9 : Memref sig .tc .vmem S1x512 .f32)
    (arg10 : Memref sig .tc .vmem S1x1024x512 .bf16)
    (arg11 : Memref sig .tc .vmem S1x1024x512 .bf16)
    (arg12 : Memref sig .tc .vmem S1x1024x512 .i8)
    (arg13 : Memref sig .tc .vmem S3x1024 .f32)
    (arg14 : Memref sig .tc .vmem S1024x128 .f32)
    (arg15 : Memref sig .tc .vmem S1024x128 .f32)
    (arg16 : Memref sig .tc .vmem S1024x512 .f32)
    (arg17 : Memref sig .tc .vmem S512x512 .bf16)
    (x0 : Vec F S1x1024x512 .bf16)
    (x1 : Vec F S1x512x1024 .bf16)
    (x2 : Vec F S1x1024x512 .bf16)
    (x3 : Vec F S1x1024x512 .bf16)
    (x4 : Vec F S512x512 .i8)
    (x5 : Vec F S1x512 .f32)
    (x6 : Vec F S1x512 .f32)
    (y7 : Vec F S1x1024x512 .bf16)
    (y8 : Vec F S1x1024x512 .bf16)
    (y9 : Vec F S1x1024x512 .i8)
    (y10 : Vec F S3x1024 .f32)
    (s0 : Vec F S1024x128 .f32)
    (s1 : Vec F S1024x128 .f32)
    (s2 : Vec F S1024x512 .f32)
    (s3 : Vec F S512x512 .bf16) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare s0 ∗ owns (c : Thread nD τ) arg15 fullShare s1 ∗ owns (c : Thread nD τ) arg16 fullShare s2 ∗ owns (c : Thread nD τ) arg17 fullShare s3)

end Cert.AttnIdeal.Hand
-- ==== Proof.Attention.RunA.lean ====
module

public import proofs.«01_k».proof.Proof.Attention.Buffers

/-! The first point of a row block: the scratches are started (maximum at minus infinity, sum and accumulator at zero, the weights converted) and the first column block enters the running maximum and sum. -/

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1000000 in
/-- The first point of a row block: the scratches are started (maximum at minus infinity, sum and accumulator at zero, the weights converted) and the first column block enters the running maximum and sum. -/
theorem run_A (c : Dev nD) (i : grid0.Coords)
    (arg3 : Memref sig .tc .vmem S1x1024x512 .bf16) (harg3 : arg3.IsWhole)
    (arg4 : Memref sig .tc .vmem S1x512x1024 .bf16) (harg4 : arg4.IsWhole)
    (arg5 : Memref sig .tc .vmem S1x1024x512 .bf16) (harg5 : arg5.IsWhole)
    (arg6 : Memref sig .tc .vmem S1x1024x512 .bf16) (harg6 : arg6.IsWhole)
    (arg7 : Memref sig .tc .vmem S512x512 .i8) (harg7 : arg7.IsWhole)
    (arg8 : Memref sig .tc .vmem S1x512 .f32) (harg8 : arg8.IsWhole)
    (arg9 : Memref sig .tc .vmem S1x512 .f32) (harg9 : arg9.IsWhole)
    (arg10 : Memref sig .tc .vmem S1x1024x512 .bf16) (harg10 : arg10.IsWhole)
    (arg11 : Memref sig .tc .vmem S1x1024x512 .bf16) (harg11 : arg11.IsWhole)
    (arg12 : Memref sig .tc .vmem S1x1024x512 .i8) (harg12 : arg12.IsWhole)
    (arg13 : Memref sig .tc .vmem S3x1024 .f32) (harg13 : arg13.IsWhole)
    (arg14 : Memref sig .tc .vmem S1024x128 .f32) (harg14 : arg14.IsWhole)
    (arg15 : Memref sig .tc .vmem S1024x128 .f32) (harg15 : arg15.IsWhole)
    (arg16 : Memref sig .tc .vmem S1024x512 .f32) (harg16 : arg16.IsWhole)
    (arg17 : Memref sig .tc .vmem S512x512 .bf16) (harg17 : arg17.IsWhole)
    (hc0 : cond0_0 i) (hc1 : cond0_1 i) (hc2 : ¬cond0_2 i) (hc3 : ¬cond0_3 i)
    (x0 : Vec F S1x1024x512 .bf16)
    (x1 : Vec F S1x512x1024 .bf16)
    (x2 : Vec F S1x1024x512 .bf16)
    (x3 : Vec F S1x1024x512 .bf16)
    (x4 : Vec F S512x512 .i8)
    (x5 : Vec F S1x512 .f32)
    (x6 : Vec F S1x512 .f32)
    (y7 : Vec F S1x1024x512 .bf16)
    (y8 : Vec F S1x1024x512 .bf16)
    (y9 : Vec F S1x1024x512 .i8)
    (y10 : Vec F S3x1024 .f32)
    (s0 : Vec F S1024x128 .f32)
    (s1 : Vec F S1024x128 .f32)
    (s2 : Vec F S1024x512 .f32)
    (s3 : Vec F S512x512 .bf16) (E : Set ℕ) (K : PUnit → sProp 𝕄) :
    iprop(held c arg3 arg4 arg5 arg6 arg7 arg8 arg9 arg10 arg11 arg12 arg13 arg14 arg15 arg16 arg17 x0 x1 x2 x3 x4 x5 x6 y7 y8 y9 y10 s0 s1 s2 s3
        ∗ (held c arg3 arg4 arg5 arg6 arg7 arg8 arg9 arg10 arg11 arg12 arg13 arg14 arg15 arg16 arg17
            x0 x1 x2 x3 x4 x5 x6 y7 y8 y9 y10 (k0_pay8 x0 x1 k0_pay1) (k0_pay7 x0 x1 k0_pay1 k0_pay2) k0_pay3 (k0_pay4 x4) -∗ K ⟨⟩))
      ⊢ wp frame (wpE (defs₀ (F := F)) Variants.none c none) E (cc0_attention_out i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_attention_out_eq_skeleton]; unfold cc0_attention_out_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  sl_exec (disch := first | sl_exact hc0 | sl_exact hc1 | sl_exact hc2 | sl_exact hc3)
  sl_step
  have e17 : run_A.sl.v17 (F := F) c arg14 = k0_pay1 := by
    unfold run_A.sl.v17 run_A.sl.H14_1; exact View.readCov_full _ _ _ _ _
  have e36 : run_A.sl.v36 (F := F) c arg15 = k0_pay2 := by
    unfold run_A.sl.v36 run_A.sl.H15_1; exact View.readCov_full _ _ _ _ _
  iapply Hk
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact harg13.read_unread _
  isplitl [H14]
  · iexists _; isplitr; swap
    · iexact H14
    · ipureintro
      refine (store_S1024x128 _ _ _).trans ?_
      congr 1 <;> first
        | exact e17
        | exact e36
        | exact (load_S1024x128 _).trans (Memref.IsWhole.read_unread _ _)
        | exact (load_S1024x512 _).trans (Memref.IsWhole.read_unread _ _)
        | exact (load_S512x512 _).trans (Memref.IsWhole.read_unread _ _)
        | exact (load_S1x512 _).trans (Memref.IsWhole.read_unread _ _)
        | exact (load_S1x1024x512 _).trans (Memref.IsWhole.read_unread _ _)
        | exact (load_S1x512x1024 _).trans (Memref.IsWhole.read_unread _ _)
        | exact (load_col0 _).trans (congrArg col0 (Memref.IsWhole.read_unread _ _))
  isplitl [H15]
  · iexists _; isplitr; swap
    · iexact H15
    · ipureintro
      refine (store_S1024x128 _ _ _).trans ?_
      congr 1 <;> first
        | exact e17
        | exact e36
        | exact (load_S1024x128 _).trans (Memref.IsWhole.read_unread _ _)
        | exact (load_S1024x512 _).trans (Memref.IsWhole.read_unread _ _)
        | exact (load_S512x512 _).trans (Memref.IsWhole.read_unread _ _)
        | exact (load_S1x512 _).trans (Memref.IsWhole.read_unread _ _)
        | exact (load_S1x1024x512 _).trans (Memref.IsWhole.read_unread _ _)
        | exact (load_S1x512x1024 _).trans (Memref.IsWhole.read_unread _ _)
        | exact (load_col0 _).trans (congrArg col0 (Memref.IsWhole.read_unread _ _))
  isplitl [H16]
  · iexists _; isplitr; swap
    · iexact H16
    · ipureintro; exact store_S1024x512 _ _ _
  · iexists _; isplitr; swap
    · iexact H17
    · ipureintro
      refine (store_S512x512 _ _ _).trans ?_
      congr 1 <;> first
        | exact e17
        | exact e36
        | exact (load_S1024x128 _).trans (Memref.IsWhole.read_unread _ _)
        | exact (load_S1024x512 _).trans (Memref.IsWhole.read_unread _ _)
        | exact (load_S512x512 _).trans (Memref.IsWhole.read_unread _ _)
        | exact (load_S1x512 _).trans (Memref.IsWhole.read_unread _ _)
        | exact (load_S1x1024x512 _).trans (Memref.IsWhole.read_unread _ _)
        | exact (load_S1x512x1024 _).trans (Memref.IsWhole.read_unread _ _)
        | exact (load_col0 _).trans (congrArg col0 (Memref.IsWhole.read_unread _ _))

end Cert.AttnIdeal.Hand
-- ==== Proof.Attention.RunB.lean ====
module

public import proofs.«01_k».proof.Proof.Attention.Buffers

/-! A later point of the first pass: the column block enters the running maximum and sum. -/

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1000000 in
/-- A later point of the first pass: the column block enters the running maximum and sum. -/
theorem run_B (c : Dev nD) (i : grid0.Coords)
    (arg3 : Memref sig .tc .vmem S1x1024x512 .bf16) (harg3 : arg3.IsWhole)
    (arg4 : Memref sig .tc .vmem S1x512x1024 .bf16) (harg4 : arg4.IsWhole)
    (arg5 : Memref sig .tc .vmem S1x1024x512 .bf16) (harg5 : arg5.IsWhole)
    (arg6 : Memref sig .tc .vmem S1x1024x512 .bf16) (harg6 : arg6.IsWhole)
    (arg7 : Memref sig .tc .vmem S512x512 .i8) (harg7 : arg7.IsWhole)
    (arg8 : Memref sig .tc .vmem S1x512 .f32) (harg8 : arg8.IsWhole)
    (arg9 : Memref sig .tc .vmem S1x512 .f32) (harg9 : arg9.IsWhole)
    (arg10 : Memref sig .tc .vmem S1x1024x512 .bf16) (harg10 : arg10.IsWhole)
    (arg11 : Memref sig .tc .vmem S1x1024x512 .bf16) (harg11 : arg11.IsWhole)
    (arg12 : Memref sig .tc .vmem S1x1024x512 .i8) (harg12 : arg12.IsWhole)
    (arg13 : Memref sig .tc .vmem S3x1024 .f32) (harg13 : arg13.IsWhole)
    (arg14 : Memref sig .tc .vmem S1024x128 .f32) (harg14 : arg14.IsWhole)
    (arg15 : Memref sig .tc .vmem S1024x128 .f32) (harg15 : arg15.IsWhole)
    (arg16 : Memref sig .tc .vmem S1024x512 .f32) (harg16 : arg16.IsWhole)
    (arg17 : Memref sig .tc .vmem S512x512 .bf16) (harg17 : arg17.IsWhole)
    (hc0 : ¬cond0_0 i) (hc1 : cond0_1 i) (hc2 : ¬cond0_2 i) (hc3 : ¬cond0_3 i)
    (x0 : Vec F S1x1024x512 .bf16)
    (x1 : Vec F S1x512x1024 .bf16)
    (x2 : Vec F S1x1024x512 .bf16)
    (x3 : Vec F S1x1024x512 .bf16)
    (x4 : Vec F S512x512 .i8)
    (x5 : Vec F S1x512 .f32)
    (x6 : Vec F S1x512 .f32)
    (y7 : Vec F S1x1024x512 .bf16)
    (y8 : Vec F S1x1024x512 .bf16)
    (y9 : Vec F S1x1024x512 .i8)
    (y10 : Vec F S3x1024 .f32)
    (s0 : Vec F S1024x128 .f32)
    (s1 : Vec F S1024x128 .f32)
    (s2 : Vec F S1024x512 .f32)
    (s3 : Vec F S512x512 .bf16) (E : Set ℕ) (K : PUnit → sProp 𝕄) :
    iprop(held c arg3 arg4 arg5 arg6 arg7 arg8 arg9 arg10 arg11 arg12 arg13 arg14 arg15 arg16 arg17 x0 x1 x2 x3 x4 x5 x6 y7 y8 y9 y10 s0 s1 s2 s3
        ∗ (held c arg3 arg4 arg5 arg6 arg7 arg8 arg9 arg10 arg11 arg12 arg13 arg14 arg15 arg16 arg17
            x0 x1 x2 x3 x4 x5 x6 y7 y8 y9 y10 (k0_pay8 x0 x1 s0) (k0_pay7 x0 x1 s0 s1) s2 s3 -∗ K ⟨⟩))
      ⊢ wp frame (wpE (defs₀ (F := F)) Variants.none c none) E (cc0_attention_out i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_attention_out_eq_skeleton]; unfold cc0_attention_out_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  sl_exec (disch := first | sl_exact hc0 | sl_exact hc1 | sl_exact hc2 | sl_exact hc3)
  sl_step
  iapply Hk
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact harg13.read_unread _
  isplitl [H14]
  · iexists _; isplitr; swap
    · iexact H14
    · ipureintro
      refine (store_S1024x128 _ _ _).trans ?_
      congr 1 <;> first
        | exact (load_S1024x128 _).trans (Memref.IsWhole.read_unread _ _)
        | exact (load_S1024x512 _).trans (Memref.IsWhole.read_unread _ _)
        | exact (load_S512x512 _).trans (Memref.IsWhole.read_unread _ _)
        | exact (load_S1x512 _).trans (Memref.IsWhole.read_unread _ _)
        | exact (load_S1x1024x512 _).trans (Memref.IsWhole.read_unread _ _)
        | exact (load_S1x512x1024 _).trans (Memref.IsWhole.read_unread _ _)
        | exact (load_col0 _).trans (congrArg col0 (Memref.IsWhole.read_unread _ _))
  isplitl [H15]
  · iexists _; isplitr; swap
    · iexact H15
    · ipureintro
      refine (store_S1024x128 _ _ _).trans ?_
      congr 1 <;> first
        | exact (load_S1024x128 _).trans (Memref.IsWhole.read_unread _ _)
        | exact (load_S1024x512 _).trans (Memref.IsWhole.read_unread _ _)
        | exact (load_S512x512 _).trans (Memref.IsWhole.read_unread _ _)
        | exact (load_S1x512 _).trans (Memref.IsWhole.read_unread _ _)
        | exact (load_S1x1024x512 _).trans (Memref.IsWhole.read_unread _ _)
        | exact (load_S1x512x1024 _).trans (Memref.IsWhole.read_unread _ _)
        | exact (load_col0 _).trans (congrArg col0 (Memref.IsWhole.read_unread _ _))
  isplitl [H16]
  · iexists _; isplitr; swap
    · iexact H16
    · ipureintro; exact harg16.read_unread _
  · iexists _; isplitr; swap
    · iexact H17
    · ipureintro; exact harg17.read_unread _

end Cert.AttnIdeal.Hand
-- ==== Proof.Attention.RunC.lean ====
module

public import proofs.«01_k».proof.Proof.Attention.Buffers

/-! A point of the second pass but the last: the column block's share of the weighted values is added to the accumulator. -/

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1000000 in
/-- A point of the second pass but the last: the column block's share of the weighted values is added to the accumulator. -/
theorem run_C (c : Dev nD) (i : grid0.Coords)
    (arg3 : Memref sig .tc .vmem S1x1024x512 .bf16) (harg3 : arg3.IsWhole)
    (arg4 : Memref sig .tc .vmem S1x512x1024 .bf16) (harg4 : arg4.IsWhole)
    (arg5 : Memref sig .tc .vmem S1x1024x512 .bf16) (harg5 : arg5.IsWhole)
    (arg6 : Memref sig .tc .vmem S1x1024x512 .bf16) (harg6 : arg6.IsWhole)
    (arg7 : Memref sig .tc .vmem S512x512 .i8) (harg7 : arg7.IsWhole)
    (arg8 : Memref sig .tc .vmem S1x512 .f32) (harg8 : arg8.IsWhole)
    (arg9 : Memref sig .tc .vmem S1x512 .f32) (harg9 : arg9.IsWhole)
    (arg10 : Memref sig .tc .vmem S1x1024x512 .bf16) (harg10 : arg10.IsWhole)
    (arg11 : Memref sig .tc .vmem S1x1024x512 .bf16) (harg11 : arg11.IsWhole)
    (arg12 : Memref sig .tc .vmem S1x1024x512 .i8) (harg12 : arg12.IsWhole)
    (arg13 : Memref sig .tc .vmem S3x1024 .f32) (harg13 : arg13.IsWhole)
    (arg14 : Memref sig .tc .vmem S1024x128 .f32) (harg14 : arg14.IsWhole)
    (arg15 : Memref sig .tc .vmem S1024x128 .f32) (harg15 : arg15.IsWhole)
    (arg16 : Memref sig .tc .vmem S1024x512 .f32) (harg16 : arg16.IsWhole)
    (arg17 : Memref sig .tc .vmem S512x512 .bf16) (harg17 : arg17.IsWhole)
    (hc0 : ¬cond0_0 i) (hc1 : ¬cond0_1 i) (hc2 : cond0_2 i) (hc3 : ¬cond0_3 i)
    (x0 : Vec F S1x1024x512 .bf16)
    (x1 : Vec F S1x512x1024 .bf16)
    (x2 : Vec F S1x1024x512 .bf16)
    (x3 : Vec F S1x1024x512 .bf16)
    (x4 : Vec F S512x512 .i8)
    (x5 : Vec F S1x512 .f32)
    (x6 : Vec F S1x512 .f32)
    (y7 : Vec F S1x1024x512 .bf16)
    (y8 : Vec F S1x1024x512 .bf16)
    (y9 : Vec F S1x1024x512 .i8)
    (y10 : Vec F S3x1024 .f32)
    (s0 : Vec F S1024x128 .f32)
    (s1 : Vec F S1024x128 .f32)
    (s2 : Vec F S1024x512 .f32)
    (s3 : Vec F S512x512 .bf16) (E : Set ℕ) (K : PUnit → sProp 𝕄) :
    iprop(held c arg3 arg4 arg5 arg6 arg7 arg8 arg9 arg10 arg11 arg12 arg13 arg14 arg15 arg16 arg17 x0 x1 x2 x3 x4 x5 x6 y7 y8 y9 y10 s0 s1 s2 s3
        ∗ (held c arg3 arg4 arg5 arg6 arg7 arg8 arg9 arg10 arg11 arg12 arg13 arg14 arg15 arg16 arg17
            x0 x1 x2 x3 x4 x5 x6 y7 y8 y9 y10 s0 s1 (k0_pay9 x0 x1 (col0 s0) (col0 s1) s2 x2) s3 -∗ K ⟨⟩))
      ⊢ wp frame (wpE (defs₀ (F := F)) Variants.none c none) E (cc0_attention_out i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_attention_out_eq_skeleton]; unfold cc0_attention_out_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  sl_exec (disch := first | sl_exact hc0 | sl_exact hc1 | sl_exact hc2 | sl_exact hc3)
  sl_step
  iapply Hk
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact harg13.read_unread _
  isplitl [H14]
  · iexists _; isplitr; swap
    · iexact H14
    · ipureintro; exact harg14.read_unread _
  isplitl [H15]
  · iexists _; isplitr; swap
    · iexact H15
    · ipureintro; exact harg15.read_unread _
  isplitl [H16]
  · iexists _; isplitr; swap
    · iexact H16
    · ipureintro
      refine (store_S1024x512 _ _ _).trans ?_
      congr 1 <;> first
        | exact (load_S1024x128 _).trans (Memref.IsWhole.read_unread _ _)
        | exact (load_S1024x512 _).trans (Memref.IsWhole.read_unread _ _)
        | exact (load_S512x512 _).trans (Memref.IsWhole.read_unread _ _)
        | exact (load_S1x512 _).trans (Memref.IsWhole.read_unread _ _)
        | exact (load_S1x1024x512 _).trans (Memref.IsWhole.read_unread _ _)
        | exact (load_S1x512x1024 _).trans (Memref.IsWhole.read_unread _ _)
        | exact (load_col0 _).trans (congrArg col0 (Memref.IsWhole.read_unread _ _))
  · iexists _; isplitr; swap
    · iexact H17
    · ipureintro; exact harg17.read_unread _

end Cert.AttnIdeal.Hand
-- ==== Proof.Attention.RunD.lean ====
module

public import proofs.«01_k».proof.Proof.Attention.Buffers

/-! The last point of a row block: the accumulator is completed, quantised row by row, projected, and the four results are stored. -/

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1000000 in
/-- The last point of a row block: the accumulator is completed, quantised row by row, projected, and the four results are stored. -/
theorem run_D (c : Dev nD) (i : grid0.Coords)
    (arg3 : Memref sig .tc .vmem S1x1024x512 .bf16) (harg3 : arg3.IsWhole)
    (arg4 : Memref sig .tc .vmem S1x512x1024 .bf16) (harg4 : arg4.IsWhole)
    (arg5 : Memref sig .tc .vmem S1x1024x512 .bf16) (harg5 : arg5.IsWhole)
    (arg6 : Memref sig .tc .vmem S1x1024x512 .bf16) (harg6 : arg6.IsWhole)
    (arg7 : Memref sig .tc .vmem S512x512 .i8) (harg7 : arg7.IsWhole)
    (arg8 : Memref sig .tc .vmem S1x512 .f32) (harg8 : arg8.IsWhole)
    (arg9 : Memref sig .tc .vmem S1x512 .f32) (harg9 : arg9.IsWhole)
    (arg10 : Memref sig .tc .vmem S1x1024x512 .bf16) (harg10 : arg10.IsWhole)
    (arg11 : Memref sig .tc .vmem S1x1024x512 .bf16) (harg11 : arg11.IsWhole)
    (arg12 : Memref sig .tc .vmem S1x1024x512 .i8) (harg12 : arg12.IsWhole)
    (arg13 : Memref sig .tc .vmem S3x1024 .f32) (harg13 : arg13.IsWhole)
    (arg14 : Memref sig .tc .vmem S1024x128 .f32) (harg14 : arg14.IsWhole)
    (arg15 : Memref sig .tc .vmem S1024x128 .f32) (harg15 : arg15.IsWhole)
    (arg16 : Memref sig .tc .vmem S1024x512 .f32) (harg16 : arg16.IsWhole)
    (arg17 : Memref sig .tc .vmem S512x512 .bf16) (harg17 : arg17.IsWhole)
    (hc0 : ¬cond0_0 i) (hc1 : ¬cond0_1 i) (hc2 : cond0_2 i) (hc3 : cond0_3 i)
    (x0 : Vec F S1x1024x512 .bf16)
    (x1 : Vec F S1x512x1024 .bf16)
    (x2 : Vec F S1x1024x512 .bf16)
    (x3 : Vec F S1x1024x512 .bf16)
    (x4 : Vec F S512x512 .i8)
    (x5 : Vec F S1x512 .f32)
    (x6 : Vec F S1x512 .f32)
    (y7 : Vec F S1x1024x512 .bf16)
    (y8 : Vec F S1x1024x512 .bf16)
    (y9 : Vec F S1x1024x512 .i8)
    (y10 : Vec F S3x1024 .f32)
    (s0 : Vec F S1024x128 .f32)
    (s1 : Vec F S1024x128 .f32)
    (s2 : Vec F S1024x512 .f32)
    (s3 : Vec F S512x512 .bf16) (E : Set ℕ) (K : PUnit → sProp 𝕄) :
    iprop(held c arg3 arg4 arg5 arg6 arg7 arg8 arg9 arg10 arg11 arg12 arg13 arg14 arg15 arg16 arg17 x0 x1 x2 x3 x4 x5 x6 y7 y8 y9 y10 s0 s1 s2 s3
        ∗ (held c arg3 arg4 arg5 arg6 arg7 arg8 arg9 arg10 arg11 arg12 arg13 arg14 arg15 arg16 arg17
            x0 x1 x2 x3 x4 x5 x6 (k0_pay12 (k0_pay17 (k0_pay9 x0 x1 (col0 s0) (col0 s1) s2 x2) s3 x5) (k0_pay18 x6) x3) (k0_pay11 (k0_pay17 (k0_pay9 x0 x1 (col0 s0) (col0 s1) s2 x2) s3 x5) (k0_pay18 x6)) (k0_pay15 (k0_pay9 x0 x1 (col0 s0) (col0 s1) s2 x2)) (putScale i y10 (k0_pay16 (k0_pay9 x0 x1 (col0 s0) (col0 s1) s2 x2))) s0 s1 (k0_pay9 x0 x1 (col0 s0) (col0 s1) s2 x2) s3 -∗ K ⟨⟩))
      ⊢ wp frame (wpE (defs₀ (F := F)) Variants.none c none) E (cc0_attention_out i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_attention_out_eq_skeleton]; unfold cc0_attention_out_skel
  simp only [k0_part1_eq_skeleton]
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  sl_exec (disch := first | sl_exact hc0 | sl_exact hc1 | sl_exact hc2 | sl_exact hc3)
  sl_step
  have e17 : run_D.sl.v17 c arg3 harg3 arg4 harg4 arg5 harg5 arg14 harg14 arg15 harg15 arg16 harg16 x0 x1 x2 s0 s1 s2
      = (k0_pay9 x0 x1 (col0 s0) (col0 s1) s2 x2) := by
    unfold run_D.sl.v17 run_D.sl.H16_1
    refine (View.readCov_full _ _ _ _ _).trans ?_
    congr 1 <;> first
        | exact (load_S1024x128 _).trans (Memref.IsWhole.read_unread _ _)
        | exact (load_S1024x512 _).trans (Memref.IsWhole.read_unread _ _)
        | exact (load_S512x512 _).trans (Memref.IsWhole.read_unread _ _)
        | exact (load_S1x512 _).trans (Memref.IsWhole.read_unread _ _)
        | exact (load_S1x1024x512 _).trans (Memref.IsWhole.read_unread _ _)
        | exact (load_S1x512x1024 _).trans (Memref.IsWhole.read_unread _ _)
        | exact (load_col0 _).trans (congrArg col0 (Memref.IsWhole.read_unread _ _))
  iapply Hk
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro
      exact (store_S1x1024x512 _ _ _).trans
        (congr (congr (congrArg k0_pay12 (congr (congr (congrArg k0_pay17 e17) ((load_S512x512 _).trans (harg17.read_unread _))) ((load_S1x512 _).trans (harg8.read_unread _))))
          (congrArg k0_pay18 ((load_S1x512 _).trans (harg9.read_unread _)))) ((load_S1x1024x512 _).trans (harg6.read_unread _)))
  isplitl [H11]
  · iexists _; isplitr; swap
    · iexact H11
    · ipureintro
      exact (store_S1x1024x512 _ _ _).trans
        (congr (congrArg k0_pay11 (congr (congr (congrArg k0_pay17 e17) ((load_S512x512 _).trans (harg17.read_unread _))) ((load_S1x512 _).trans (harg8.read_unread _))))
          (congrArg k0_pay18 ((load_S1x512 _).trans (harg9.read_unread _))))
  isplitl [H12]
  · iexists _; isplitr; swap
    · iexact H12
    · ipureintro
      exact (store_S1x1024x512 _ _ _).trans (congrArg k0_pay15 e17)
  isplitl [H13]
  · iexists _; isplitr; swap
    · iexact H13
    · ipureintro
      exact (store_scale _ _ _ _).trans
        (congr (congrArg (putScale i) (harg13.read_unread _)) (congrArg k0_pay16 e17))
  isplitl [H14]
  · iexists _; isplitr; swap
    · iexact H14
    · ipureintro; exact harg14.read_unread _
  isplitl [H15]
  · iexists _; isplitr; swap
    · iexact H15
    · ipureintro; exact harg15.read_unread _
  isplitl [H16]
  · iexists _; isplitr; swap
    · iexact H16
    · ipureintro
      unfold run_D.sl.H16_1
      refine (store_S1024x512 _ _ _).trans ?_
      congr 1 <;> first
        | exact (load_S1024x128 _).trans (Memref.IsWhole.read_unread _ _)
        | exact (load_S1024x512 _).trans (Memref.IsWhole.read_unread _ _)
        | exact (load_S512x512 _).trans (Memref.IsWhole.read_unread _ _)
        | exact (load_S1x512 _).trans (Memref.IsWhole.read_unread _ _)
        | exact (load_S1x1024x512 _).trans (Memref.IsWhole.read_unread _ _)
        | exact (load_S1x512x1024 _).trans (Memref.IsWhole.read_unread _ _)
        | exact (load_col0 _).trans (congrArg col0 (Memref.IsWhole.read_unread _ _))
  · iexists _; isplitr; swap
    · iexact H17
    · ipureintro; exact harg17.read_unread _

end Cert.AttnIdeal.Hand
-- ==== Proof.Attention.Track.lean ====
module

public import Idealize.ShloMosaic.Lib.Pipeline.DatRel
public import proofs.«01_k».proof.Proof.Attention.RunA
public import proofs.«01_k».proof.Proof.Attention.RunB
public import proofs.«01_k».proof.Proof.Attention.RunC
public import proofs.«01_k».proof.Proof.Attention.RunD
public import proofs.«01_k».proof.Proof.Attention.Points

/-! What is claimed of the scratch buffers and of the output blocks from grid point to grid point of the attention call, as predicates, and the steps that have to be shown of them. -/

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The seven input blocks at a point. -/

abbrev X0 (c : Dev nD) (t : Fin cfg0.N) : Vec F S1x1024x512 .bf16 := iblk m c 0 t
abbrev X1 (c : Dev nD) (t : Fin cfg0.N) : Vec F S1x512x1024 .bf16 := iblk m c 1 t
abbrev X2 (c : Dev nD) (t : Fin cfg0.N) : Vec F S1x1024x512 .bf16 := iblk m c 2 t
abbrev X3 (c : Dev nD) (t : Fin cfg0.N) : Vec F S1x1024x512 .bf16 := iblk m c 3 t
abbrev X4 (c : Dev nD) (t : Fin cfg0.N) : Vec F S512x512 .i8 := iblk m c 4 t
abbrev X5 (c : Dev nD) (t : Fin cfg0.N) : Vec F S1x512 .f32 := iblk m c 5 t
abbrev X6 (c : Dev nD) (t : Fin cfg0.N) : Vec F S1x512 .f32 := iblk m c 6 t

/-- Predicates on what the scratch buffers hold before a point (`inv`) and on what the four output blocks hold
    after it (`r7` … `r10`), with the steps of the body: the first point of a row block, the points of the first
    pass, those of the second, and the last, which stores the results. The scale block is filled one row at a
    time, so its predicate may look at what the point before left. -/
structure Track where
  inv : Dev nD → ℕ → Vec F S1024x128 .f32 → Vec F S1024x128 .f32 → Vec F S1024x512 .f32 → Vec F S512x512 .bf16 → Prop
  r7 : Dev nD → ℕ → Vec F S1x1024x512 .bf16 → Prop
  r8 : Dev nD → ℕ → Vec F S1x1024x512 .bf16 → Prop
  r9 : Dev nD → ℕ → Vec F S1x1024x512 .i8 → Prop
  r10 : Dev nD → ℕ → Vec F S3x1024 .f32 → Prop
  start : ∀ c s0 s1 s2 s3, inv c 0 s0 s1 s2 s3
  stepA : ∀ c (t : Fin cfg0.N), t.val % 64 = 0 → ∀ s0 s1 s2 s3, inv c t.val s0 s1 s2 s3 →
    inv c (t.val + 1) (k0_pay8 (X0 m c t) (X1 m c t) k0_pay1) (k0_pay7 (X0 m c t) (X1 m c t) k0_pay1 k0_pay2) k0_pay3 (k0_pay4 (X4 m c t))
  stepB : ∀ c (t : Fin cfg0.N), t.val % 64 ≠ 0 → t.val % 64 ≤ 31 → ∀ s0 s1 s2 s3, inv c t.val s0 s1 s2 s3 →
    inv c (t.val + 1) (k0_pay8 (X0 m c t) (X1 m c t) s0) (k0_pay7 (X0 m c t) (X1 m c t) s0 s1) s2 s3
  stepC : ∀ c (t : Fin cfg0.N), 32 ≤ t.val % 64 → ∀ s0 s1 s2 s3, inv c t.val s0 s1 s2 s3 →
    inv c (t.val + 1) s0 s1 (k0_pay9 (X0 m c t) (X1 m c t) (col0 s0) (col0 s1) s2 (X2 m c t)) s3
  idle7 : ∀ c t, t % 64 ≠ 63 → ∀ y, r7 c t y
  idle8 : ∀ c t, t % 64 ≠ 63 → ∀ y, r8 c t y
  idle9 : ∀ c t, t % 64 ≠ 63 → ∀ y, r9 c t y
  idle10 : ∀ c (t : Fin cfg0.N), t.val % 64 ≠ 63 → ∀ y, (t.val % 192 ≠ 0 → r10 c (t.val - 1) y) → r10 c t.val y
  last7 : ∀ c (t : Fin cfg0.N), t.val % 64 = 63 → ∀ s0 s1 s2 s3, inv c t.val s0 s1 s2 s3 →
    r7 c t.val (k0_pay12 (k0_pay17 (k0_pay9 (X0 m c t) (X1 m c t) (col0 s0) (col0 s1) s2 (X2 m c t)) s3 (X5 m c t)) (k0_pay18 (X6 m c t)) (X3 m c t))
  last8 : ∀ c (t : Fin cfg0.N), t.val % 64 = 63 → ∀ s0 s1 s2 s3, inv c t.val s0 s1 s2 s3 →
    r8 c t.val (k0_pay11 (k0_pay17 (k0_pay9 (X0 m c t) (X1 m c t) (col0 s0) (col0 s1) s2 (X2 m c t)) s3 (X5 m c t)) (k0_pay18 (X6 m c t)))
  last9 : ∀ c (t : Fin cfg0.N), t.val % 64 = 63 → ∀ s0 s1 s2 s3, inv c t.val s0 s1 s2 s3 →
    r9 c t.val (k0_pay15 (k0_pay9 (X0 m c t) (X1 m c t) (col0 s0) (col0 s1) s2 (X2 m c t)))
  last10 : ∀ c (t : Fin cfg0.N), t.val % 64 = 63 → ∀ s0 s1 s2 s3, inv c t.val s0 s1 s2 s3 →
    ∀ y, r10 c (t.val - 1) y → r10 c t.val (putScale (grid0.coords t) y (k0_pay16 (k0_pay9 (X0 m c t) (X1 m c t) (col0 s0) (col0 s1) s2 (X2 m c t))))

variable {m} (T : Track m)

/-- The scratch buffers, the generator's register, and what is claimed of the former before point `n`. -/
def phi (c : Dev nD) (n : ℕ) : sProp 𝕄 :=
  iprop((∃ s0 s1 s2 s3, ⌜T.inv c n s0 s1 s2 s3⌝ ∗ owns (c : Thread nD τ) scM0_0 fullShare s0
      ∗ owns (c : Thread nD τ) scM0_1 fullShare s1 ∗ owns (c : Thread nD τ) scM0_2 fullShare s2
      ∗ owns (c : Thread nD τ) scM0_3 fullShare s3) ∗ (∃ r, prngReg c r))

/-- The windows held to a predicate: the four outputs. -/
def marks : Fin cfg0.W → Bool := fun w => decide (7 ≤ w.val)

/-- The predicate of each output window. -/
def rel (c : Dev nD) (w : Fin cfg0.W) (t : Fin cfg0.N) (y : (cfg0.win w).block.Idx → Elt F (cfg0.win w).elt) : Prop :=
  match w, y with
  | ⟨7, _⟩, y => T.r7 c t.val y
  | ⟨8, _⟩, y => T.r8 c t.val y
  | ⟨9, _⟩, y => T.r9 c t.val y
  | ⟨10, _⟩, y => T.r10 c t.val y
  | _, _ => True

/-- The data of the run: the inputs keep their blocks, of the outputs only `rel` is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := phi T c t.val
  q _ := fullShare
  owed _ := 0

/-- The run's data, with the four output windows held to their predicates. -/
abbrev rdat (c : Dev nD) := (dats T 0 c).toRRel marks (rel T c)

theorem A_eq (c : Dev nD) (w : Fin cfg0.W) : (dats T 0 c).A w = V m c (Pipeline.arrRef spec0 w) := rfl

theorem before_0 (c : Dev nD) (t : Fin cfg0.N) (d) : (dats T 0 c).before 0 t d = iblk m c 0 t :=
  before0_0_of m (dats T 0 c) (A_eq T c 0) (fun _ => rfl) t d
theorem before_1 (c : Dev nD) (t : Fin cfg0.N) (d) : (dats T 0 c).before 1 t d = iblk m c 1 t :=
  before0_1_of m (dats T 0 c) (A_eq T c 1) (fun _ => rfl) t d
theorem before_2 (c : Dev nD) (t : Fin cfg0.N) (d) : (dats T 0 c).before 2 t d = iblk m c 2 t :=
  before0_2_of m (dats T 0 c) (A_eq T c 2) (fun _ => rfl) t d
theorem before_3 (c : Dev nD) (t : Fin cfg0.N) (d) : (dats T 0 c).before 3 t d = iblk m c 3 t :=
  before0_3_of m (dats T 0 c) (A_eq T c 3) (fun _ => rfl) t d
theorem before_4 (c : Dev nD) (t : Fin cfg0.N) (d) : (dats T 0 c).before 4 t d = iblk m c 4 t :=
  before0_4_of m (dats T 0 c) (A_eq T c 4) (fun _ => rfl) t d
theorem before_5 (c : Dev nD) (t : Fin cfg0.N) (d) : (dats T 0 c).before 5 t d = iblk m c 5 t :=
  before0_5_of m (dats T 0 c) (A_eq T c 5) (fun _ => rfl) t d
theorem before_6 (c : Dev nD) (t : Fin cfg0.N) (d) : (dats T 0 c).before 6 t d = iblk m c 6 t :=
  before0_6_of m (dats T 0 c) (A_eq T c 6) (fun _ => rfl) t d

/-- What the scale block may hold when the body runs: nothing is known at the first point of a row group, else
    what the point before left. -/
theorem finds10 (c : Dev nD) (t : Fin cfg0.N) (y : Vec F S3x1024 .f32) (h : (rdat T c).Finds 10 t y) :
    t.val % 192 ≠ 0 → T.r10 c (t.val - 1) y := by
  intro h0
  have ht : t.val ≠ 0 := fun e => h0 (by rw [e])
  have hl := ((rdat T c).finds_of_pos (w := 10) (t := t) rfl ht y).mp h
  have hf : ¬ ((cfg0.win 10).flush ⟨t.val - 1, Nat.lt_of_le_of_lt (Nat.sub_le _ _) t.isLt⟩ = true) := fun hf => by
    have := (flush0_10 _).mp hf
    simp only at this
    omega
  rcases hl with hl | hl
  · exact absurd hl hf
  · exact (dats T 0 c).toRRel_leaves (fgt := marks) (Rl := rel T c) (w := 10) rfl hl

end Cert.AttnIdeal.Hand
-- ==== Proof.Attention.Frame.lean ====
module

public import proofs.«01_k».proof.Proof.Attention.Track

/-! The run of the attention call: from predicates with their steps (`Track`) to what the result arrays hold after the run. -/

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F] [Named F]

local notation "𝕄" => MT nD τ sig Unit (Elt F) ℕ (UR sig nD τ) ℕ

variable {m : (ℓ : Loc nD τ sig) → Buf (Elt F) ℓ} (ρ : Dev nD → PrngReg) (T : Track m)

/-- What the body is given at a point. -/
def bodyPre (c : Dev nD) (t : Fin cfg0.N) : sProp 𝕄 :=
  iprop((dats T 0 c).Φ t.castSucc ∗ (dats T 0 c).owesAt () t.castSucc ∗ (∃ d, owns (c : Thread nD τ) (ms0_0 t) fullShare ((dats T 0 c).before 0 t d)) ∗ (∃ d, owns (c : Thread nD τ) (ms0_1 t) fullShare ((dats T 0 c).before 1 t d)) ∗ (∃ d, owns (c : Thread nD τ) (ms0_2 t) fullShare ((dats T 0 c).before 2 t d)) ∗ (∃ d, owns (c : Thread nD τ) (ms0_3 t) fullShare ((dats T 0 c).before 3 t d)) ∗ (∃ d, owns (c : Thread nD τ) (ms0_4 t) fullShare ((dats T 0 c).before 4 t d)) ∗ (∃ d, owns (c : Thread nD τ) (ms0_5 t) fullShare ((dats T 0 c).before 5 t d)) ∗ (∃ d, owns (c : Thread nD τ) (ms0_6 t) fullShare ((dats T 0 c).before 6 t d)) ∗ (∃ Y, ⌜(rdat T c).Finds 7 t Y⌝ ∗ owns (c : Thread nD τ) (ms0_7 t) fullShare Y) ∗ (∃ Y, ⌜(rdat T c).Finds 8 t Y⌝ ∗ owns (c : Thread nD τ) (ms0_8 t) fullShare Y) ∗ (∃ Y, ⌜(rdat T c).Finds 9 t Y⌝ ∗ owns (c : Thread nD τ) (ms0_9 t) fullShare Y) ∗ (∃ Y, ⌜(rdat T c).Finds 10 t Y⌝ ∗ owns (c : Thread nD τ) (ms0_10 t) fullShare Y))

/-- What it gives back. -/
def bodyPost (c : Dev nD) (t : Fin cfg0.N) : sProp 𝕄 :=
  iprop((dats T 0 c).Φ t.succ ∗ (dats T 0 c).owesAt () t.succ ∗ owns (c : Thread nD τ) (ms0_0 t) fullShare ((dats T 0 c).after 0 t) ∗ owns (c : Thread nD τ) (ms0_1 t) fullShare ((dats T 0 c).after 1 t) ∗ owns (c : Thread nD τ) (ms0_2 t) fullShare ((dats T 0 c).after 2 t) ∗ owns (c : Thread nD τ) (ms0_3 t) fullShare ((dats T 0 c).after 3 t) ∗ owns (c : Thread nD τ) (ms0_4 t) fullShare ((dats T 0 c).after 4 t) ∗ owns (c : Thread nD τ) (ms0_5 t) fullShare ((dats T 0 c).after 5 t) ∗ owns (c : Thread nD τ) (ms0_6 t) fullShare ((dats T 0 c).after 6 t) ∗ (∃ X, ⌜rel T c 7 t X⌝ ∗ owns (c : Thread nD τ) (ms0_7 t) fullShare X) ∗ (∃ X, ⌜rel T c 8 t X⌝ ∗ owns (c : Thread nD τ) (ms0_8 t) fullShare X) ∗ (∃ X, ⌜rel T c 9 t X⌝ ∗ owns (c : Thread nD τ) (ms0_9 t) fullShare X) ∗ (∃ X, ⌜rel T c 10 t X⌝ ∗ owns (c : Thread nD τ) (ms0_10 t) fullShare X))

set_option maxHeartbeats 4000000 in
theorem sound_A (c : Dev nD) (t : Fin cfg0.N) (h : t.val % 64 = 0) :
    bodyPre T c t ⊢ wp frame (wpE (defs₀ (F := F)) Variants.none c none) Set.univ (bodyAt0 t) (fun _ => bodyPost T c t) := by
  unfold bodyPre bodyPost bodyAt0
  simp only [before_0, before_1, before_2, before_3, before_4, before_5, before_6]
  rw [show (dats T 0 c).owesAt () t.succ = (dats T 0 c).owesAt () t.castSucc from rfl]
  rw [show (dats T 0 c).Φ t.succ = phi T c (t.val + 1) from rfl, show (dats T 0 c).Φ t.castSucc = phi T c t.val from rfl]
  unfold phi
  iintro ⟨⟨⟨%s0, %s1, %s2, %s3, %hi, S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩⟩
  iapply (run_A c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (Memref.isWhole_whole cc0_scratch0) _ (Memref.isWhole_whole cc0_scratch1) _ (Memref.isWhole_whole cc0_scratch2) _ (Memref.isWhole_whole cc0_scratch3) ((hcond0_0 t).mpr (by omega)) ((hcond0_1 t).mpr (by omega)) (fun h => absurd ((hcond0_2 t).mp h) (by omega)) (fun h => absurd ((hcond0_3 t).mp h) (by omega)) (X0 m c t) (X1 m c t) (X2 m c t) (X3 m c t) (X4 m c t) (X5 m c t) (X6 m c t) y7 y8 y9 y10 s0 s1 s2 s3 Set.univ _)
  isplitl [H0 H1 H2 H3 H4 H5 H6 H7 H8 H9 H10 S0 S1 S2 S3]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iexact S3
  unfold held
  iintro ⟨H0, H1, H2, H3, H4, H5, H6, H7, H8, H9, H10, S0, S1, S2, S3⟩
  isplitl [S0 S1 S2 S3 Hg]
  · isplitr [Hg]
    · iexists _, _, _, _
      isplitr
      · ipureintro; exact T.stepA c t h s0 s1 s2 s3 hi
      isplitl [S0]; · iexact S0
      isplitl [S1]; · iexact S1
      isplitl [S2]; · iexact S2
      iexact S3
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro; exact T.idle7 c t.val (by omega) y7
  isplitl [H8]
  · iexists _; isplitr
    swap; · iexact H8
    ipureintro; exact T.idle8 c t.val (by omega) y8
  isplitl [H9]
  · iexists _; isplitr
    swap; · iexact H9
    ipureintro; exact T.idle9 c t.val (by omega) y9
  · iexists _; isplitr
    swap; · iexact H10
    ipureintro; exact T.idle10 c t (by omega) y10 (finds10 T c t y10 hy10)

set_option maxHeartbeats 4000000 in
theorem sound_B (c : Dev nD) (t : Fin cfg0.N) (h : t.val % 64 ≠ 0) (h1 : t.val % 64 ≤ 31) :
    bodyPre T c t ⊢ wp frame (wpE (defs₀ (F := F)) Variants.none c none) Set.univ (bodyAt0 t) (fun _ => bodyPost T c t) := by
  unfold bodyPre bodyPost bodyAt0
  simp only [before_0, before_1, before_2, before_3, before_4, before_5, before_6]
  rw [show (dats T 0 c).owesAt () t.succ = (dats T 0 c).owesAt () t.castSucc from rfl]
  rw [show (dats T 0 c).Φ t.succ = phi T c (t.val + 1) from rfl, show (dats T 0 c).Φ t.castSucc = phi T c t.val from rfl]
  unfold phi
  iintro ⟨⟨⟨%s0, %s1, %s2, %s3, %hi, S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩⟩
  iapply (run_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (Memref.isWhole_whole cc0_scratch0) _ (Memref.isWhole_whole cc0_scratch1) _ (Memref.isWhole_whole cc0_scratch2) _ (Memref.isWhole_whole cc0_scratch3) (fun h => absurd ((hcond0_0 t).mp h) (by omega)) ((hcond0_1 t).mpr (by omega)) (fun h => absurd ((hcond0_2 t).mp h) (by omega)) (fun h => absurd ((hcond0_3 t).mp h) (by omega)) (X0 m c t) (X1 m c t) (X2 m c t) (X3 m c t) (X4 m c t) (X5 m c t) (X6 m c t) y7 y8 y9 y10 s0 s1 s2 s3 Set.univ _)
  isplitl [H0 H1 H2 H3 H4 H5 H6 H7 H8 H9 H10 S0 S1 S2 S3]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iexact S3
  unfold held
  iintro ⟨H0, H1, H2, H3, H4, H5, H6, H7, H8, H9, H10, S0, S1, S2, S3⟩
  isplitl [S0 S1 S2 S3 Hg]
  · isplitr [Hg]
    · iexists _, _, _, _
      isplitr
      · ipureintro; exact T.stepB c t h h1 s0 s1 s2 s3 hi
      isplitl [S0]; · iexact S0
      isplitl [S1]; · iexact S1
      isplitl [S2]; · iexact S2
      iexact S3
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro; exact T.idle7 c t.val (by omega) y7
  isplitl [H8]
  · iexists _; isplitr
    swap; · iexact H8
    ipureintro; exact T.idle8 c t.val (by omega) y8
  isplitl [H9]
  · iexists _; isplitr
    swap; · iexact H9
    ipureintro; exact T.idle9 c t.val (by omega) y9
  · iexists _; isplitr
    swap; · iexact H10
    ipureintro; exact T.idle10 c t (by omega) y10 (finds10 T c t y10 hy10)

set_option maxHeartbeats 4000000 in
theorem sound_C (c : Dev nD) (t : Fin cfg0.N) (h : 32 ≤ t.val % 64) (h1 : t.val % 64 ≠ 63) :
    bodyPre T c t ⊢ wp frame (wpE (defs₀ (F := F)) Variants.none c none) Set.univ (bodyAt0 t) (fun _ => bodyPost T c t) := by
  unfold bodyPre bodyPost bodyAt0
  simp only [before_0, before_1, before_2, before_3, before_4, before_5, before_6]
  rw [show (dats T 0 c).owesAt () t.succ = (dats T 0 c).owesAt () t.castSucc from rfl]
  rw [show (dats T 0 c).Φ t.succ = phi T c (t.val + 1) from rfl, show (dats T 0 c).Φ t.castSucc = phi T c t.val from rfl]
  unfold phi
  iintro ⟨⟨⟨%s0, %s1, %s2, %s3, %hi, S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩⟩
  iapply (run_C c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (Memref.isWhole_whole cc0_scratch0) _ (Memref.isWhole_whole cc0_scratch1) _ (Memref.isWhole_whole cc0_scratch2) _ (Memref.isWhole_whole cc0_scratch3) (fun h => absurd ((hcond0_0 t).mp h) (by omega)) (fun h => absurd ((hcond0_1 t).mp h) (by omega)) ((hcond0_2 t).mpr (by omega)) (fun h => absurd ((hcond0_3 t).mp h) (by omega)) (X0 m c t) (X1 m c t) (X2 m c t) (X3 m c t) (X4 m c t) (X5 m c t) (X6 m c t) y7 y8 y9 y10 s0 s1 s2 s3 Set.univ _)
  isplitl [H0 H1 H2 H3 H4 H5 H6 H7 H8 H9 H10 S0 S1 S2 S3]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iexact S3
  unfold held
  iintro ⟨H0, H1, H2, H3, H4, H5, H6, H7, H8, H9, H10, S0, S1, S2, S3⟩
  isplitl [S0 S1 S2 S3 Hg]
  · isplitr [Hg]
    · iexists _, _, _, _
      isplitr
      · ipureintro; exact T.stepC c t h s0 s1 s2 s3 hi
      isplitl [S0]; · iexact S0
      isplitl [S1]; · iexact S1
      isplitl [S2]; · iexact S2
      iexact S3
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro; exact T.idle7 c t.val (by omega) y7
  isplitl [H8]
  · iexists _; isplitr
    swap; · iexact H8
    ipureintro; exact T.idle8 c t.val (by omega) y8
  isplitl [H9]
  · iexists _; isplitr
    swap; · iexact H9
    ipureintro; exact T.idle9 c t.val (by omega) y9
  · iexists _; isplitr
    swap; · iexact H10
    ipureintro; exact T.idle10 c t (by omega) y10 (finds10 T c t y10 hy10)

set_option maxHeartbeats 4000000 in
theorem sound_D (c : Dev nD) (t : Fin cfg0.N) (h : t.val % 64 = 63) :
    bodyPre T c t ⊢ wp frame (wpE (defs₀ (F := F)) Variants.none c none) Set.univ (bodyAt0 t) (fun _ => bodyPost T c t) := by
  unfold bodyPre bodyPost bodyAt0
  simp only [before_0, before_1, before_2, before_3, before_4, before_5, before_6]
  rw [show (dats T 0 c).owesAt () t.succ = (dats T 0 c).owesAt () t.castSucc from rfl]
  rw [show (dats T 0 c).Φ t.succ = phi T c (t.val + 1) from rfl, show (dats T 0 c).Φ t.castSucc = phi T c t.val from rfl]
  unfold phi
  iintro ⟨⟨⟨%s0, %s1, %s2, %s3, %hi, S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩⟩
  iapply (run_D c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (Memref.isWhole_whole cc0_scratch0) _ (Memref.isWhole_whole cc0_scratch1) _ (Memref.isWhole_whole cc0_scratch2) _ (Memref.isWhole_whole cc0_scratch3) (fun h => absurd ((hcond0_0 t).mp h) (by omega)) (fun h => absurd ((hcond0_1 t).mp h) (by omega)) ((hcond0_2 t).mpr (by omega)) ((hcond0_3 t).mpr (by omega)) (X0 m c t) (X1 m c t) (X2 m c t) (X3 m c t) (X4 m c t) (X5 m c t) (X6 m c t) y7 y8 y9 y10 s0 s1 s2 s3 Set.univ _)
  isplitl [H0 H1 H2 H3 H4 H5 H6 H7 H8 H9 H10 S0 S1 S2 S3]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iexact S3
  unfold held
  iintro ⟨H0, H1, H2, H3, H4, H5, H6, H7, H8, H9, H10, S0, S1, S2, S3⟩
  isplitl [S0 S1 S2 S3 Hg]
  · isplitr [Hg]
    · iexists _, _, _, _
      isplitr
      · ipureintro; exact T.stepC c t (by omega) s0 s1 s2 s3 hi
      isplitl [S0]; · iexact S0
      isplitl [S1]; · iexact S1
      isplitl [S2]; · iexact S2
      iexact S3
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro; exact T.last7 c t (by omega) s0 s1 s2 s3 hi
  isplitl [H8]
  · iexists _; isplitr
    swap; · iexact H8
    ipureintro; exact T.last8 c t (by omega) s0 s1 s2 s3 hi
  isplitl [H9]
  · iexists _; isplitr
    swap; · iexact H9
    ipureintro; exact T.last9 c t (by omega) s0 s1 s2 s3 hi
  · iexists _; isplitr
    swap; · iexact H10
    ipureintro; exact T.last10 c t (by omega) s0 s1 s2 s3 hi y10 (finds10 T c t y10 hy10 (by omega))

/-- The body at any point. -/
theorem sound_body (c : Dev nD) (t : Fin cfg0.N) :
    bodyPre T c t ⊢ wp frame (wpE (defs₀ (F := F)) Variants.none c none) Set.univ (bodyAt0 t) (fun _ => bodyPost T c t) := by
  by_cases h0 : t.val % 64 = 0
  · exact sound_A T c t h0
  by_cases h1 : t.val % 64 ≤ 31
  · exact sound_B T c t h0 h1
  by_cases h2 : t.val % 64 = 63
  · exact sound_D T c t h2
  · exact sound_C T c t (by omega) h2

theorem defs₀_row (t : Fin cfg0.N) :
    (defs₀ (F := F)) .tc cfg0.body (cfg0.bodyArgs t (cfg0.slots t)) = bodyAt0 t := by
  unfold defs₀; rw [Defs.onTc_tc]

/-- The body's obligation, with the outputs held to their predicates. -/
theorem body_obligation (c : Dev nD) :
    BodyObligationRel (dats T 0 c) (defs₀ (F := F)) Variants.none () Set.univ marks (rel T c) := fun t => by
  rw [bigSep_W0, bigSep_W0, defs₀_row]
  exact triple_restated (sound_body T c t) rfl .rfl fun _ => .rfl

theorem hin (c : Dev nD) : Pipeline.ΦA spec0 c ⊢ (dats T 0 c).Φ 0 := by
  rw [show (dats T 0 c).Φ 0 = phi T c 0 from rfl, PhiA0_eq]
  unfold phi
  iintro ⟨⟨⟨%s0, S0⟩, ⟨%s1, S1⟩, ⟨%s2, S2⟩, ⟨%s3, S3⟩⟩, Hg⟩
  isplitr [Hg]
  · iexists s0, s1, s2, s3
    isplitr
    · ipureintro; exact T.start c s0 s1 s2 s3
    isplitl [S0]; · iexact S0
    isplitl [S1]; · iexact S1
    isplitl [S2]; · iexact S2
    iexact S3
  · iexact Hg

theorem hout (c : Dev nD) : (dats T 0 c).Φ (Fin.last cfg0.N) ⊢ Pipeline.ΦA spec0 c := by
  rw [show (dats T 0 c).Φ (Fin.last cfg0.N) = phi T c cfg0.N from rfl, PhiA0_eq]
  unfold phi
  iintro ⟨⟨%s0, %s1, %s2, %s3, -, S0, S1, S2, S3⟩, Hg⟩
  isplitr [Hg]
  · isplitl [S0]; · iexists _; iexact S0
    isplitl [S1]; · iexists _; iexact S1
    isplitl [S2]; · iexists _; iexact S2
    iexists _; iexact S3
  · iexact Hg

set_option backward.isDefEq.respectTransparency.types false in
/-- The run of the whole call, with every semaphore at zero at the end. -/
theorem run_main_quiescent : θ_run defs (onTc (τ := τ) (main (F := F))) (s₀ m ρ)
    (fun r => Pipeline.RDat.FramePost (cfgs 0) (fun c => rdat T c) (V m) r ∧ r.2.sem = fun _ => 0) :=
  Pipeline.RDat.θ_run_frame_track (Q' := _) cfgs (0 : Fin 1) launch0 defs₀ Variants.none (fun c => rdat T c) m ρ main
    (hbody := fun c => (body_obligation T c).toRRel) (hshare := fun c => (dats T 0 c).share_full fun _ => rfl)
    (howed := fun _ _ => rfl) (V := V m) (hmain := hmain m Variants.none) (hA := A_eq T) (hin := hin T) (hout := hout T)

theorem run_main : θ_run defs (onTc (τ := τ) (main (F := F))) (s₀ m ρ)
    (Pipeline.RDat.FramePost (cfgs 0) (fun c => rdat T c) (V m)) :=
  (θ_run defs _ _).mono (fun _ h => h.1) (run_main_quiescent ρ T)

end Cert.AttnIdeal.Hand
-- ==== Proof.Attention.Args.lean ====
module

public import proofs.«01_k».proof.Proof.Attention.Frame

/-! The attention call runs to an end, leaves its argument arrays as they were, and leaves every semaphore counter at zero. -/

@[expose] public section

set_option maxRecDepth 16384

noncomputable section

namespace Cert.AttnIdeal.Hand

open Cert.AttnIdeal Cert.AttnIdeal.Gen Idealize.ShloMosaic Idealize.ShloMosaic.TcCoe Idealize.SL.Sem Idealize.ShloMosaic.Pipeline

variable {F : FTy → Type} [FloatOps F] [Named F] {m : (ℓ : Loc nD τ sig) → Buf (Elt F) ℓ} (ρ : Dev nD → PrngReg) (T : Track m)

/-- After the run the argument arrays are as launched. -/
theorem args_kept {r : PUnit × MemSt nD τ sig (Elt F)} (h : RDat.FramePost (cfgs 0) (fun c => rdat T c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  obtain ⟨hw, hr⟩ := h c
  have key : ∀ w : Fin cfg0.W, (cfg0.win w).isOut = false → r.2.mem ((cfg0.spec w).arr.view.loc (c.tc : Thread nD τ)) = (dats T 0 c).A w := fun w hin => by
    have e := hw w
    rw [RDat.ArrAt_in _ w hin] at e
    exact e
  exact ⟨(key 0 rfl).trans ((A_eq T c 0).trans (V_main_arg0 m c)), (key 1 rfl).trans ((A_eq T c 1).trans (V_main_arg1 m c)), (key 2 rfl).trans ((A_eq T c 2).trans (V_main_arg2 m c)), (key 3 rfl).trans ((A_eq T c 3).trans (V_main_arg3 m c)), (key 4 rfl).trans ((A_eq T c 4).trans (V_main_arg4 m c)),
    (hr main_arg5 (Pipeline.mem_restRefs_of main_arg5 (by decide) (by decide))).trans (V_main_arg5 m c),
    (hr main_arg6 (Pipeline.mem_restRefs_of main_arg6 (by decide) (by decide))).trans (V_main_arg6 m c)⟩

/-- Nothing claimed of the scratch buffers or of the output blocks. -/
def anything (m : (ℓ : Loc nD τ sig) → Buf (Elt F) ℓ) : Track m where
  inv _ _ _ _ _ _ := True
  r7 _ _ _ := True
  r8 _ _ _ := True
  r9 _ _ _ := True
  r10 _ _ _ := True
  start _ _ _ _ _ := trivial
  stepA _ _ _ _ _ _ _ _ := trivial
  stepB _ _ _ _ _ _ _ _ _ := trivial
  stepC _ _ _ _ _ _ _ _ := trivial
  idle7 _ _ _ _ := trivial
  idle8 _ _ _ _ := trivial
  idle9 _ _ _ _ := trivial
  idle10 _ _ _ _ _ := trivial
  last7 _ _ _ _ _ _ _ _ := trivial
  last8 _ _ _ _ _ _ _ _ := trivial
  last9 _ _ _ _ _ _ _ _ := trivial
  last10 _ _ _ _ _ _ _ _ _ _ := trivial

variable (m) in
/-- The call ends, with its arguments kept and the counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨args_kept (anything m) h.1, h.2⟩) (run_main_quiescent ρ (anything m))

end Cert.AttnIdeal.Hand
-- ==== Proof.Attention.Blocks.lean ====
module

public import proofs.«01_k».proof.Proof.Attention.Track
public import Idealize.ShloMosaic.Lib.Pointwise.Index
public import Idealize.ShloMosaic.Lib.Pipeline.Value
public import Idealize.ShloMosaic.Lib.ValueLayout

/-! The blocks of the input arrays that the attention body is given at a grid point, read at an index. -/

@[expose] public section

set_option maxRecDepth 16384

noncomputable section

namespace Cert.AttnIdeal.Hand

open Cert.AttnIdeal Cert.AttnIdeal.Gen Idealize.ShloMosaic Idealize.ShloMosaic.TcCoe Idealize.SL.Sem Idealize.ShloMosaic.Pipeline

variable {F : FTy → Type} [FloatOps F] [Named F] (m : (ℓ : Loc nD τ sig) → Buf (Elt F) ℓ)

/-- The batch of a grid point. -/
def bOf (n : ℕ) : Fin 3 := ⟨n / 64 % 3, Nat.mod_lt _ (by norm_num)⟩

/-- The array row of row `r` of a grid point's block of rows. -/
def iOf (n : ℕ) (r : Fin 1024) : Fin 32768 := ⟨1024 * (n / 192 % 32) + r.val, by have := r.isLt; have := Nat.mod_lt (n / 192) (by norm_num : 0 < 32); omega⟩

/-- The array column of column `j` of block `k` of columns. -/
def colOf (k : ℕ) (j : Fin 1024) : Fin 32768 := ⟨1024 * (k % 32) + j.val, by have := j.isLt; have := Nat.mod_lt k (by norm_num : 0 < 32); omega⟩

theorem idx_0 : ∀ t : Fin grid0.N, win0_0.index t 0 = t.val / 64 % 3 ∧ win0_0.index t 1 = t.val / 192 % 32 ∧ win0_0.index t 2 = 0 := by
  decide +kernel
theorem idx_1 : ∀ t : Fin grid0.N, win0_1.index t 0 = t.val / 64 % 3 ∧ win0_1.index t 1 = 0 ∧ win0_1.index t 2 = t.val % 64 % 32 := by
  decide +kernel
theorem idx_2 : ∀ t : Fin grid0.N, win0_2.index t 0 = t.val / 64 % 3 ∧ win0_2.index t 1 = (t.val % 64 - 32) % 32 ∧ win0_2.index t 2 = 0 := by
  decide +kernel
theorem idx_3 : ∀ t : Fin grid0.N, win0_3.index t 0 = t.val / 64 % 3 ∧ win0_3.index t 1 = t.val / 192 % 32 ∧ win0_3.index t 2 = 0 := by
  decide +kernel
theorem idx_4 : ∀ t : Fin grid0.N, win0_4.index t 0 = 0 ∧ win0_4.index t 1 = 0 := by
  decide +kernel
theorem idx_5 : ∀ t : Fin grid0.N, win0_5.index t 0 = 0 ∧ win0_5.index t 1 = 0 := by
  decide +kernel
theorem idx_6 : ∀ t : Fin grid0.N, win0_6.index t 0 = 0 ∧ win0_6.index t 1 = 0 := by
  decide +kernel

/-- The block of queries. -/
theorem X0_at (c : Dev nD) (t : Fin cfg0.N) (r : Fin 1024) (d : Fin 512) :
    X0 m c t (ix3 0 r d) = m ((c : Thread nD τ).loc main_arg0) (ix3 (bOf t.val) (iOf t.val r) d) := by
  obtain ⟨e0, e1, e2⟩ := idx_0 t
  show V m c main_arg0 (((cfg0.win 0).blk t).view.emb (ix3 0 r d)) = _
  rw [V_main_arg0]
  refine congrArg _ (funext fun a => Fin.ext ?_)
  match a with
  | ⟨0, _⟩ => show win0_0.index t (0 : Fin 3) * 1 + 1 * 0 = t.val / 64 % 3; omega
  | ⟨1, _⟩ => show win0_0.index t (1 : Fin 3) * 1024 + 1 * r.val = 1024 * (t.val / 192 % 32) + r.val; omega
  | ⟨2, _⟩ => show win0_0.index t (2 : Fin 3) * 512 + 1 * d.val = d.val; omega

/-- The block of keys. -/
theorem X1_at (c : Dev nD) (t : Fin cfg0.N) (d : Fin 512) (j : Fin 1024) :
    X1 m c t (ix3 0 d j) = m ((c : Thread nD τ).loc main_arg1) (ix3 (bOf t.val) d (colOf (t.val % 64) j)) := by
  obtain ⟨e0, e1, e2⟩ := idx_1 t
  show V m c main_arg1 (((cfg0.win 1).blk t).view.emb (ix3 0 d j)) = _
  rw [V_main_arg1]
  refine congrArg _ (funext fun a => Fin.ext ?_)
  match a with
  | ⟨0, _⟩ => show win0_1.index t (0 : Fin 3) * 1 + 1 * 0 = t.val / 64 % 3; omega
  | ⟨1, _⟩ => show win0_1.index t (1 : Fin 3) * 512 + 1 * d.val = d.val; omega
  | ⟨2, _⟩ => show win0_1.index t (2 : Fin 3) * 1024 + 1 * j.val = 1024 * (t.val % 64 % 32) + j.val; omega

/-- The block of values. -/
theorem X2_at (c : Dev nD) (t : Fin cfg0.N) (j : Fin 1024) (d : Fin 512) :
    X2 m c t (ix3 0 j d) = m ((c : Thread nD τ).loc main_arg2) (ix3 (bOf t.val) (colOf (t.val % 64 - 32) j) d) := by
  obtain ⟨e0, e1, e2⟩ := idx_2 t
  show V m c main_arg2 (((cfg0.win 2).blk t).view.emb (ix3 0 j d)) = _
  rw [V_main_arg2]
  refine congrArg _ (funext fun a => Fin.ext ?_)
  match a with
  | ⟨0, _⟩ => show win0_2.index t (0 : Fin 3) * 1 + 1 * 0 = t.val / 64 % 3; omega
  | ⟨1, _⟩ => show win0_2.index t (1 : Fin 3) * 1024 + 1 * j.val = 1024 * ((t.val % 64 - 32) % 32) + j.val; omega
  | ⟨2, _⟩ => show win0_2.index t (2 : Fin 3) * 512 + 1 * d.val = d.val; omega

/-- The block of the residual. -/
theorem X3_at (c : Dev nD) (t : Fin cfg0.N) (r : Fin 1024) (d : Fin 512) :
    X3 m c t (ix3 0 r d) = m ((c : Thread nD τ).loc main_arg3) (ix3 (bOf t.val) (iOf t.val r) d) := by
  obtain ⟨e0, e1, e2⟩ := idx_3 t
  show V m c main_arg3 (((cfg0.win 3).blk t).view.emb (ix3 0 r d)) = _
  rw [V_main_arg3]
  refine congrArg _ (funext fun a => Fin.ext ?_)
  match a with
  | ⟨0, _⟩ => show win0_3.index t (0 : Fin 3) * 1 + 1 * 0 = t.val / 64 % 3; omega
  | ⟨1, _⟩ => show win0_3.index t (1 : Fin 3) * 1024 + 1 * r.val = 1024 * (t.val / 192 % 32) + r.val; omega
  | ⟨2, _⟩ => show win0_3.index t (2 : Fin 3) * 512 + 1 * d.val = d.val; omega

/-- The projection's weights: the whole array at every point. -/
theorem X4_at (c : Dev nD) (t : Fin cfg0.N) (x d : Fin 512) :
    X4 m c t (ix2 x d) = m ((c : Thread nD τ).loc main_arg4) (ix2 x d) := by
  obtain ⟨e0, e1⟩ := idx_4 t
  show V m c main_arg4 (((cfg0.win 4).blk t).view.emb (ix2 x d)) = _
  rw [V_main_arg4]
  refine congrArg _ (funext fun a => Fin.ext ?_)
  match a with
  | ⟨0, _⟩ => show win0_4.index t (0 : Fin 2) * 512 + 1 * x.val = x.val; omega
  | ⟨1, _⟩ => show win0_4.index t (1 : Fin 2) * 512 + 1 * d.val = d.val; omega

/-- The weights' scales as the region finds them: the reshaped argument. -/
theorem V_main_v0 (c : Dev nD) (d : Fin 512) :
    (V m c main_v0 : Vec F S1x512 .f32) (ix2 0 d) = (m ((c : Thread nD τ).loc main_arg5) : Vec F S512 .f32) (ix1 d) := by
  have h : V m c main_v0 = shapeCast S1x512 (m ((c : Thread nD τ).loc main_arg5) : Vec F S512 .f32) shapeCasts_S512_S1x512 := by
    show StableHlo.after hostOps0 _ (Proc.devRef .tc main_v0) = _
    after_results
    rfl
  rw [h]
  exact ValueIdx.shapeCast_a_1a_apply _ _ 0 d

/-- The bias as the region finds it: the reshaped argument. -/
theorem V_main_v1 (c : Dev nD) (d : Fin 512) :
    (V m c main_v1 : Vec F S1x512 .f32) (ix2 0 d) = (m ((c : Thread nD τ).loc main_arg6) : Vec F S512 .f32) (ix1 d) := by
  have h : V m c main_v1 = shapeCast S1x512 (m ((c : Thread nD τ).loc main_arg6) : Vec F S512 .f32) shapeCasts_S512_S1x512 := by
    show StableHlo.after hostOps0 _ (Proc.devRef .tc main_v1) = _
    after_results
    rfl
  rw [h]
  exact ValueIdx.shapeCast_a_1a_apply _ _ 0 d

/-- The weights' scales, as a row. -/
theorem X5_at (c : Dev nD) (t : Fin cfg0.N) (d : Fin 512) :
    X5 m c t (ix2 0 d) = (m ((c : Thread nD τ).loc main_arg5) : Vec F S512 .f32) (ix1 d) := by
  obtain ⟨e0, e1⟩ := idx_5 t
  rw [← V_main_v0 m c d]
  show V m c main_v0 (((cfg0.win 5).blk t).view.emb (ix2 0 d)) = _
  refine congrArg _ (funext fun a => Fin.ext ?_)
  match a with
  | ⟨0, _⟩ => show win0_5.index t (0 : Fin 2) * 1 + 1 * 0 = 0; omega
  | ⟨1, _⟩ => show win0_5.index t (1 : Fin 2) * 512 + 1 * d.val = d.val; omega

/-- The bias, as a row. -/
theorem X6_at (c : Dev nD) (t : Fin cfg0.N) (d : Fin 512) :
    X6 m c t (ix2 0 d) = (m ((c : Thread nD τ).loc main_arg6) : Vec F S512 .f32) (ix1 d) := by
  obtain ⟨e0, e1⟩ := idx_6 t
  rw [← V_main_v1 m c d]
  show V m c main_v1 (((cfg0.win 6).blk t).view.emb (ix2 0 d)) = _
  refine congrArg _ (funext fun a => Fin.ext ?_)
  match a with
  | ⟨0, _⟩ => show win0_6.index t (0 : Fin 2) * 1 + 1 * 0 = 0; omega
  | ⟨1, _⟩ => show win0_6.index t (1 : Fin 2) * 512 + 1 * d.val = d.val; omega

end Cert.AttnIdeal.Hand
-- ==== Proof.Attention.Softmax.lean ====
module

public import Idealize.ShloMosaic.PureOps.Ideal.Laws
public import Idealize.ShloMosaic.Lib.ValueIdx

/-! The running softmax over blocks of 1024 columns, on the extended reals: the running maximum, the running sum rescaled
at every new maximum, and that the rescaled sum is the plain sum of the exponentials below the last maximum. -/

@[expose] public section

noncomputable section

namespace Cert.Softmax

open Idealize.ShloMosaic

/-- A row of scores in blocks of 1024 columns. -/
abbrev Row := ℕ → Fin 1024 → EReal

/-- The running maximum before block `k`. -/
def pmax (s : Row) : ℕ → EReal
  | 0 => ⊥
  | k + 1 => max (pmax s k) (Finset.univ.sup (s k))

/-- The running sum before block `k`: rescaled by the exponential of the change of the maximum, plus the block's own. -/
def psum (s : Row) : ℕ → EReal
  | 0 => 0
  | k + 1 => psum s k * Ideal.exp (pmax s k - pmax s (k + 1)) + ∑ j : Fin 1024, Ideal.exp (s k j - pmax s (k + 1))

/-- The running weighted sum of a column `v` before block `k`, with the final maximum and sum. -/
def pout (s v : Row) : ℕ → EReal
  | 0 => 0
  | k + 1 => pout s v k + ∑ j : Fin 1024, Ideal.div (Ideal.exp (s k j - pmax s 32)) (psum s 32) * v k j

/-- The running maximum is monotone. -/
theorem pmax_mono (s : Row) : Monotone (pmax s) :=
  monotone_nat_of_le_succ fun _ => le_max_left _ _

/-- A score of an earlier block is at most the running maximum. -/
theorem le_pmax (s : Row) {b k : ℕ} (h : b < k) (j : Fin 1024) : s b j ≤ pmax s k :=
  ((Finset.le_sup (f := s b) (Finset.mem_univ j)).trans (le_max_right _ _)).trans (pmax_mono s (Nat.succ_le_of_lt h))

/-- An exponential is not negative. -/
theorem exp_nonneg (x : EReal) : 0 ≤ Ideal.exp x := by
  induction x with
  | bot => simp
  | top => simp
  | coe r => rw [Ideal.exp_coe]; exact_mod_cast (Real.exp_pos r).le

/-- Moving an exponential from one maximum to a later one. -/
theorem exp_shift {x m m' : EReal} (h : x ≤ m) (h' : m ≤ m') :
    Ideal.exp (x - m) * Ideal.exp (m - m') = Ideal.exp (x - m') := by
  induction m' with
  | top => simp
  | bot =>
    obtain rfl := le_bot_iff.mp h'
    obtain rfl := le_bot_iff.mp h
    simp
  | coe r =>
    induction m with
    | top => exact absurd h' (by simp)
    | bot => obtain rfl := le_bot_iff.mp h; simp
    | coe q =>
      induction x with
      | top => exact absurd h (by simp)
      | bot => simp
      | coe p =>
        rw [← EReal.coe_sub, ← EReal.coe_sub, ← EReal.coe_sub, Ideal.exp_coe, Ideal.exp_coe, Ideal.exp_coe, ← EReal.coe_mul,
          ← Real.exp_add, sub_add_sub_cancel]

/-- A sum of terms that are not negative distributes over a product. -/
theorem sum_mul_of_nonneg {ι : Type} (t : Finset ι) (f : ι → EReal) (c : EReal) (h : ∀ i ∈ t, 0 ≤ f i) :
    (∑ i ∈ t, f i) * c = ∑ i ∈ t, f i * c := by
  classical
  induction t using Finset.induction_on with
  | empty => simp
  | insert a t ha ih =>
    rw [Finset.sum_insert ha, Finset.sum_insert ha,
      EReal.right_distrib_of_nonneg (h a (Finset.mem_insert_self a t))
        (Finset.sum_nonneg fun i hi => h i (Finset.mem_insert_of_mem hi)),
      ih fun i hi => h i (Finset.mem_insert_of_mem hi)]

/-- The rescaled running sum is the sum of the exponentials below the running maximum. -/
theorem psum_eq (s : Row) (k : ℕ) :
    psum s k = ∑ b ∈ Finset.range k, ∑ j : Fin 1024, Ideal.exp (s b j - pmax s k) := by
  induction k with
  | zero => rfl
  | succ k ih =>
    rw [Finset.sum_range_succ, psum, ih]
    congr 1
    rw [sum_mul_of_nonneg _ _ _ fun i _ => Finset.sum_nonneg fun j _ => exp_nonneg _]
    refine Finset.sum_congr rfl fun b hb => ?_
    rw [sum_mul_of_nonneg _ _ _ fun j _ => exp_nonneg _]
    exact Finset.sum_congr rfl fun j _ => exp_shift (le_pmax s (Finset.mem_range.mp hb) j) (pmax_mono s (Nat.le_succ k))

/-- The running weighted sum is the sum over the blocks. -/
theorem pout_eq (s v : Row) (k : ℕ) :
    pout s v k = ∑ b ∈ Finset.range k, ∑ j : Fin 1024, Ideal.div (Ideal.exp (s b j - pmax s 32)) (psum s 32) * v b j := by
  induction k with
  | zero => rfl
  | succ k ih => rw [Finset.sum_range_succ, pout, ih]

/-- The running maximum is the supremum over the blocks. -/
theorem pmax_eq (s : Row) (k : ℕ) : pmax s k = (Finset.range k).sup fun b => Finset.univ.sup (s b) := by
  induction k with
  | zero => rfl
  | succ k ih => rw [Finset.range_add_one, Finset.sup_insert, pmax, ih, max_comm]

/-- The 32768 columns as 32 blocks of 1024: the sum. -/
theorem sum_blocks (f : Fin 32768 → EReal) (g : Row)
    (h : ∀ (b : ℕ) (hb : b < 32) (j : Fin 1024), g b j = f ⟨1024 * b + j.val, by have := j.isLt; omega⟩) :
    ∑ b ∈ Finset.range 32, ∑ j : Fin 1024, g b j = ∑ i : Fin 32768, f i := by
  rw [Finset.sum_range, ← Fintype.sum_prod_type' (f := fun (b : Fin 32) (j : Fin 1024) => g b.val j)]
  refine Fintype.sum_equiv (finProdFinEquiv (m := 32) (n := 1024)) _ _ fun p => ?_
  rw [h p.1.val p.1.isLt p.2]
  exact congrArg f (Fin.ext (Nat.add_comm _ _))

/-- The 32768 columns as 32 blocks of 1024: the supremum. -/
theorem sup_blocks (f : Fin 32768 → EReal) (g : Row)
    (h : ∀ (b : ℕ) (hb : b < 32) (j : Fin 1024), g b j = f ⟨1024 * b + j.val, by have := j.isLt; omega⟩) :
    ((Finset.range 32).sup fun b => Finset.univ.sup (g b)) = Finset.univ.sup f := by
  apply le_antisymm
  · refine Finset.sup_le fun b hb => Finset.sup_le fun j _ => ?_
    rw [h b (Finset.mem_range.mp hb) j]
    exact Finset.le_sup (f := f) (Finset.mem_univ _)
  · refine Finset.sup_le fun i _ => ?_
    have hi := i.isLt
    have e := h (i.val / 1024) (by omega) ⟨i.val % 1024, Nat.mod_lt _ (by norm_num)⟩
    have : f i = g (i.val / 1024) ⟨i.val % 1024, Nat.mod_lt _ (by norm_num)⟩ := by
      rw [e]; exact congrArg f (Fin.ext (by simp only; omega))
    rw [this]
    exact (Finset.le_sup (f := g (i.val / 1024)) (Finset.mem_univ _)).trans
      (Finset.le_sup (f := fun b => Finset.univ.sup (g b)) (Finset.mem_range.mpr (by omega)))

/-- A fold of `max` from −∞ is the supremum. -/
theorem fold_max_bot {n : ℕ} (f : Fin n → EReal) : Finset.univ.fold max ⊥ f = Finset.univ.sup f := rfl

/-- A positive real factor goes through a supremum. -/
theorem sup_mul {n : ℕ} (f : Fin n → EReal) {c : ℝ} (hc : 0 < c) :
    Finset.univ.sup f * (c : EReal) = Finset.univ.sup fun j => f j * (c : EReal) := by
  have hm : Monotone fun x : EReal => x * (c : EReal) := fun a b h => mul_le_mul_of_nonneg_right h (by exact_mod_cast hc.le)
  exact Finset.comp_sup_eq_sup_comp_of_is_total _ hm (EReal.bot_mul_coe_of_pos hc)

/-- The exponential to base two of `x / log 2` is the exponential of `x`. -/
theorem exp2_log2e (x : EReal) : Ideal.exp2 (x * (((Real.log 2)⁻¹ : ℝ) : EReal)) = Ideal.exp x := by
  have h2 : 0 < Real.log 2 := Real.log_pos (by norm_num)
  induction x with
  | bot => rw [EReal.bot_mul_coe_of_pos (inv_pos.mpr h2)]; rfl
  | top => rw [EReal.top_mul_coe_of_pos (inv_pos.mpr h2)]; rfl
  | coe r =>
    rw [← EReal.coe_mul, Ideal.exp2_coe, Ideal.exp_coe]
    congr 1
    show (2 : ℝ) ^ (r * (Real.log 2)⁻¹) = _
    rw [Real.rpow_def_of_pos (by norm_num)]
    congr 1
    field_simp

end Cert.Softmax
-- ==== Proof.Attention.Quant.lean ====
module

public import proofs.«01_k».proof.Proof.Attention.Softmax
public import proofs.«01_k».proof.AttnIdeal

/-! The constants of the two programs as extended reals, and the quantisation of one row of 512 numbers: its scale,
its rounded and clipped values, which are integers between −127 and 127, and their 8-bit words. -/

@[expose] public section

noncomputable section

namespace Cert.Quant

open Idealize.ShloMosaic

/-- The word of −∞. -/
theorem ofBits_neg_inf : Ideal.ofBits .f32 0xFF800000#32 = ⊥ := by
  simp [Ideal.ofBits, Ideal.ieee]

/-- The word of 127. -/
theorem ofBits_127 : Ideal.ofBits .f32 0x42FE0000#32 = ((127 : ℝ) : EReal) := by
  simp [Ideal.ofBits, Ideal.ieee, -EReal.coe_mul]; norm_num

/-- The word of −127. -/
theorem ofBits_neg_127 : Ideal.ofBits .f32 0xC2FE0000#32 = ((-127 : ℝ) : EReal) := by
  simp [Ideal.ofBits, Ideal.ieee, -EReal.coe_mul]; norm_num

/-- The word of one. -/
theorem ofBits_one : Ideal.ofBits .f32 0x3F800000#32 = 1 := by
  simp [Ideal.ofBits, Ideal.ieee, -EReal.coe_mul]; norm_num

/-- The softmax scale `1/√512` as the programs write it. -/
def scl : EReal := Ideal.ofBits .f32 0x3D3504F3#32

/-- The softmax scale is a positive real. -/
theorem scl_pos : ∃ c : ℝ, 0 < c ∧ scl = (c : EReal) := by
  refine ⟨(11863283 : ℝ) * 2 ^ (-28 : ℤ), by positivity, ?_⟩
  unfold scl
  simp [Ideal.ofBits, Ideal.ieee, -EReal.coe_mul]
  try norm_num

/-- The name `log2e` is `1 / log 2`. -/
theorem named_log2e : (Named.named Cert.AttnIdeal.κ "log2e" 0x3FB8AA3B#32 : Ideal .f32) = (((Real.log 2)⁻¹ : ℝ) : EReal) :=
  IdealRules.named_const.ideal_named_scalar _ _ _ _ rfl

/-- The name `inv_127` is `1 / 127`. -/
theorem named_inv_127 : (Named.named Cert.AttnIdeal.κ "inv_127" 0x3C010204#32 : Ideal .f32) = ((1 / 127 : ℝ) : EReal) :=
  IdealRules.named_const.ideal_named_scalar _ _ _ _ rfl

/-- The largest magnitude of a row. -/
def rowMax (f : Fin 512 → EReal) : EReal := Finset.univ.fold max ⊥ fun d => (FloatOps.absf (F := Ideal) (φ := .f32) (f d) : EReal)

/-- The scale of a row: the largest magnitude over 127, or one. -/
def rowScale (f : Fin 512 → EReal) : EReal := if rowMax f = 0 then 1 else rowMax f * ((1 / 127 : ℝ) : EReal)

/-- The rounded and clipped values of a row. -/
def rowQ (f : Fin 512 → EReal) (d : Fin 512) : EReal :=
  min ((127 : ℝ) : EReal) (max ((-127 : ℝ) : EReal) (Ideal.liftRound Ideal.roundHalfEven (Ideal.div (f d) (rowScale f))))

/-- The row through the quantised projection: codes times weights, the two scales, the bias. -/
def rowProj (f : Fin 512 → EReal) (w : Fin 512 → Fin 512 → EReal) (s t : Fin 512 → EReal) (d : Fin 512) : EReal :=
  (∑ x, rowQ f x * w x d) * rowScale f * s d + t d

/-- A rounded and clipped value is an integer between −127 and 127. -/
theorem rowQ_int (f : Fin 512 → EReal) (d : Fin 512) : ∃ n : ℤ, -127 ≤ n ∧ n ≤ 127 ∧ rowQ f d = ((n : ℝ) : EReal) := by
  unfold rowQ
  generalize Ideal.div (f d) (rowScale f) = x
  have h127 : ((127 : ℝ) : EReal) = (((127 : ℤ) : ℝ) : EReal) := by norm_num
  have hm127 : ((-127 : ℝ) : EReal) = (((-127 : ℤ) : ℝ) : EReal) := by norm_num
  induction x with
  | bot =>
    refine ⟨-127, le_rfl, by norm_num, ?_⟩
    show min _ (max _ ⊥) = _
    rw [max_eq_left bot_le, min_eq_right (by exact_mod_cast (by norm_num : (-127 : ℝ) ≤ 127)), hm127]
  | top =>
    refine ⟨127, by norm_num, le_rfl, ?_⟩
    show min _ (max _ ⊤) = _
    rw [max_eq_right le_top, min_eq_left le_top, h127]
  | coe r =>
    refine ⟨min 127 (max (-127) (Ideal.roundHalfEven r)), le_min (by norm_num) (le_max_left _ _), min_le_left _ _, ?_⟩
    show min _ (max _ (((Ideal.roundHalfEven r : ℤ) : ℝ) : EReal)) = _
    rw [h127, hm127, ← EReal.coe_strictMono.monotone.map_max, ← EReal.coe_strictMono.monotone.map_min, ← Int.cast_max, ← Int.cast_min]

/-- The word of an integer in range. -/
theorem fptosi_int (w : ℕ) (n : ℤ) (h : -(2 ^ (w - 1) : ℕ) ≤ n) (h' : n ≤ ((2 ^ (w - 1) : ℕ) : ℤ) - 1) :
    Ideal.fptosi w ((n : ℝ) : EReal) = BitVec.ofInt w n := by
  unfold Ideal.fptosi
  congr 1
  show max _ (min _ (if (0 : ℝ) ≤ (n : ℝ) then ⌊(n : ℝ)⌋ else ⌈(n : ℝ)⌉)) = n
  rw [Int.floor_intCast, Int.ceil_intCast, ite_self, min_eq_right h', max_eq_right h]

/-- Through 32-bit words or directly: the 8-bit code of a rounded and clipped value. -/
theorem code_eq (f : Fin 512 → EReal) (d : Fin 512) :
    BitVec.setWidth 8 (Ideal.fptosi 32 (rowQ f d)) = Ideal.fptosi 8 (rowQ f d) := by
  obtain ⟨n, h1, h2, e⟩ := rowQ_int f d
  rw [e, fptosi_int 32 n (by norm_num; omega) (by norm_num; omega), fptosi_int 8 n (by norm_num; omega) (by norm_num; omega)]
  apply BitVec.eq_of_toInt_eq
  rw [BitVec.toInt_setWidth, BitVec.toInt_ofInt, BitVec.toNat_ofInt]
  have : (((n % ((2 : ℕ) ^ 32 : ℕ)).toNat : ℤ)) = n % ((2 : ℕ) ^ 32 : ℕ) := Int.toNat_of_nonneg (Int.emod_nonneg _ (by norm_num))
  simp only [Int.bmod_def]
  omega

/-- The code of a rounded and clipped value, read back as a number, is that value. -/
theorem decode_eq (f : Fin 512 → EReal) (d : Fin 512) :
    (((BitVec.signExtend 32 (Ideal.fptosi 8 (rowQ f d))).toInt : ℝ) : EReal) = rowQ f d := by
  obtain ⟨n, h1, h2, e⟩ := rowQ_int f d
  rw [e, fptosi_int 8 n (by norm_num; omega) (by norm_num; omega), BitVec.toInt_signExtend_of_le (by norm_num), BitVec.toInt_ofInt]
  have : n.bmod (2 ^ 8) = n := by rw [Int.bmod_def]; omega
  rw [this]

end Cert.Quant
-- ==== Proof.Attention.Payload.lean ====
module

public import proofs.«01_k».proof.Proof.Attention.Quant
public import proofs.«01_k».proof.Proof.Gen.AttnIdeal.Skeleton
public import Idealize.ShloMosaic.Lib.Pointwise

/-! What each vector expression of the attention body is at an index, on the extended reals. -/

@[expose] public section

noncomputable section

namespace Cert.AttnIdeal.Hand

open Cert.AttnIdeal Cert.AttnIdeal.Gen Cert.Softmax Cert.Quant Idealize.ShloMosaic Idealize.ShloMosaic.Pointwise

/-- The scaled scores of row `r` of a block of queries against a block of keys. -/
def blockScore (q : Vec Ideal S1x1024x512 .bf16) (k : Vec Ideal S1x512x1024 .bf16) (r j : Fin 1024) : EReal :=
  (∑ d : Fin 512, q (ix3 0 r d) * k (ix3 0 d j)) * scl

/-- The product of queries and keys. -/
theorem pay5_at (q : Vec Ideal S1x1024x512 .bf16) (k : Vec Ideal S1x512x1024 .bf16) (r j : Fin 1024) :
    k0_pay5 q k (ix2 r j) = ∑ d : Fin 512, q (ix3 0 r d) * k (ix3 0 d j) := by
  pointwise [k0_pay5]

/-- A scaled score is the product there times the scale. -/
theorem score_at (q : Vec Ideal S1x1024x512 .bf16) (k : Vec Ideal S1x512x1024 .bf16) (r j : Fin 1024) :
    k0_pay5 q k (ix2 r j) * Ideal.ofBits .f32 0x3D3504F3#32 = blockScore q k r j := by
  rw [pay5_at]; rfl

/-- The first running maximum: −∞. -/
theorem pay1_at (r : Fin 1024) (l : Fin 128) : k0_pay1 (F := Ideal) (ix2 r l) = ⊥ := ofBits_neg_inf

/-- The first running sum: zero. -/
theorem pay2_at (r : Fin 1024) (l : Fin 128) : k0_pay2 (F := Ideal) (ix2 r l) = 0 := Ideal.ofBits_zero_f32

/-- The first weighted sum: zero. -/
theorem pay3_at (r : Fin 1024) (d : Fin 512) : k0_pay3 (F := Ideal) (ix2 r d) = 0 := Ideal.ofBits_zero_f32

/-- The converted weights. -/
theorem pay4_at (w : Vec Ideal S512x512 .i8) (x d : Fin 512) :
    k0_pay4 (F := Ideal) w (ix2 x d) = (((w (ix2 x d)).toInt : ℝ) : EReal) := by
  pointwise [k0_pay4]
  rfl

/-- The new maximum: the old one against the largest scaled score of the block. -/
theorem pay6_at (q : Vec Ideal S1x1024x512 .bf16) (k : Vec Ideal S1x512x1024 .bf16) (m : Vec Ideal S1024x128 .f32) (r : Fin 1024)
    (l : Fin 128) : k0_pay6 q k m (ix2 r l) = max (m (ix2 r l)) (Finset.univ.sup (blockScore q k r)) := by
  obtain ⟨c, hc, e⟩ := scl_pos
  have key : (Finset.univ.fold max ⊥ fun x => k0_pay5 q k (ix2 r x)) * Ideal.ofBits .f32 0x3D3504F3#32
      = Finset.univ.sup (blockScore q k r) := by
    rw [fold_max_bot]
    have e' : Ideal.ofBits .f32 0x3D3504F3#32 = (c : EReal) := e
    rw [e', sup_mul _ hc, ← e']
    exact congrArg (Finset.univ.sup) (funext fun j => score_at q k r j)
  rw [← key, ← ofBits_neg_inf]
  pointwise [k0_pay6]

/-- The stored maximum is the new maximum. -/
theorem pay8_at (q : Vec Ideal S1x1024x512 .bf16) (k : Vec Ideal S1x512x1024 .bf16) (m : Vec Ideal S1024x128 .f32) (r : Fin 1024)
    (l : Fin 128) : k0_pay8 q k m (ix2 r l) = max (m (ix2 r l)) (Finset.univ.sup (blockScore q k r)) := by
  rw [← pay6_at]
  pointwise [k0_pay8]

/-- The stored sum: the old sum rescaled, plus the block's exponentials. -/
theorem pay7_at (q : Vec Ideal S1x1024x512 .bf16) (k : Vec Ideal S1x512x1024 .bf16) (m z : Vec Ideal S1024x128 .f32) (r : Fin 1024)
    (l : Fin 128) : k0_pay7 q k m z (ix2 r l)
      = z (ix2 r l) * Ideal.exp (m (ix2 r l) - max (m (ix2 r l)) (Finset.univ.sup (blockScore q k r)))
        + ∑ j : Fin 1024, Ideal.exp (blockScore q k r j - max (m (ix2 r 0)) (Finset.univ.sup (blockScore q k r))) := by
  have h : k0_pay7 q k m z (ix2 r l)
      = z (ix2 r l) * Ideal.exp2 ((m (ix2 r l) - k0_pay6 q k m (ix2 r l)) * (Named.named κ "log2e" 0x3FB8AA3B#32 : Ideal .f32))
        + ∑ j : Fin 1024, Ideal.exp2 ((k0_pay5 q k (ix2 r j) * Ideal.ofBits .f32 0x3D3504F3#32 - k0_pay6 q k m (ix2 r 0))
            * (Named.named κ "log2e" 0x3FB8AA3B#32 : Ideal .f32)) := by
    pointwise [k0_pay7]
    rfl
  rw [h, pay6_at, pay6_at, named_log2e, exp2_log2e]
  exact congrArg _ (Finset.sum_congr rfl fun j _ => by rw [score_at, exp2_log2e])

/-- The stored weighted sum: the old one plus the block's normalised exponentials times the values. -/
theorem pay9_at (q : Vec Ideal S1x1024x512 .bf16) (k : Vec Ideal S1x512x1024 .bf16) (m z : Vec Ideal S1024x1 .f32)
    (a : Vec Ideal S1024x512 .f32) (v : Vec Ideal S1x1024x512 .bf16) (r : Fin 1024) (d : Fin 512) :
    k0_pay9 q k m z a v (ix2 r d) = a (ix2 r d)
      + ∑ j : Fin 1024, Ideal.div (Ideal.exp (blockScore q k r j - m (ix2 r 0))) (z (ix2 r 0)) * v (ix3 0 j d) := by
  have h : k0_pay9 q k m z a v (ix2 r d) = a (ix2 r d)
      + ∑ j : Fin 1024, Ideal.div (Ideal.exp2 ((k0_pay5 q k (ix2 r j) * Ideal.ofBits .f32 0x3D3504F3#32 - m (ix2 r 0))
            * (Named.named κ "log2e" 0x3FB8AA3B#32 : Ideal .f32))) (z (ix2 r 0)) * v (ix3 0 j d) := by
    pointwise [k0_pay9]
    rfl
  rw [h, named_log2e]
  exact congrArg _ (Finset.sum_congr rfl fun j _ => by rw [score_at, exp2_log2e])

end Cert.AttnIdeal.Hand
-- ==== Proof.Attention.Tail.lean ====
module

public import proofs.«01_k».proof.Proof.Attention.Quant
public import proofs.«01_k».proof.Proof.Gen.AttnIdeal.Skeleton
public import Idealize.ShloMosaic.Lib.Pointwise

/-! What the closing expressions of the attention body (quantisation, projection, residual) are at an index, on the
extended reals, from the rows of the finished weighted sum. -/

@[expose] public section

noncomputable section

namespace Cert.AttnIdeal.Hand

open Cert.AttnIdeal Cert.AttnIdeal.Gen Cert.Quant Idealize.ShloMosaic Idealize.ShloMosaic.Pointwise

/-- Row `r` of a block of 1024 rows. -/
abbrev rowOf (o : Vec Ideal S1024x512 .f32) (r : Fin 1024) : Fin 512 → EReal := fun d => o (ix2 r d)

/-- The scale of a row. -/
theorem pay13_at (o : Vec Ideal S1024x512 .f32) (r : Fin 1024) : k0_pay13 o (ix2 r 0) = rowScale (rowOf o r) := by
  unfold rowScale rowMax
  rw [← ofBits_neg_inf, ← named_inv_127]
  pointwise [k0_pay13]

/-- The rounded and clipped values of a row. -/
theorem pay14_at (o : Vec Ideal S1024x512 .f32) (r : Fin 1024) (d : Fin 512) : k0_pay14 o (ix2 r d) = rowQ (rowOf o r) d := by
  unfold rowQ
  rw [← pay13_at, ← ofBits_127, ← ofBits_neg_127]
  pointwise [k0_pay14]

/-- The codes of a row. -/
theorem pay15_at (o : Vec Ideal S1024x512 .f32) (r : Fin 1024) (d : Fin 512) :
    k0_pay15 o (ix3 0 r d) = Ideal.fptosi 8 (rowQ (rowOf o r) d) := by
  rw [← pay14_at]
  pointwise [k0_pay15]
  rfl

/-- The scales of the rows, as one row. -/
theorem pay16_at (o : Vec Ideal S1024x512 .f32) (r : Fin 1024) : k0_pay16 o (ix2 0 r) = rowScale (rowOf o r) := by
  rw [← pay13_at]
  pointwise [k0_pay16]

/-- The projection before the bias. -/
theorem pay17_at (o : Vec Ideal S1024x512 .f32) (w : Vec Ideal S512x512 .bf16) (s : Vec Ideal S1x512 .f32) (r : Fin 1024) (d : Fin 512) :
    k0_pay17 o w s (ix2 r d) = (∑ x, rowQ (rowOf o r) x * w (ix2 x d)) * rowScale (rowOf o r) * s (ix2 0 d) := by
  simp only [← pay13_at, ← pay14_at]
  pointwise [k0_pay17]

/-- The bias. -/
theorem pay18_at (s : Vec Ideal S1x512 .f32) (r : Fin 1024) (d : Fin 512) : k0_pay18 s (ix2 r d) = s (ix2 0 d) := by
  pointwise [k0_pay18]

/-- The projected block. -/
theorem pay11_at (o : Vec Ideal S1024x512 .f32) (w : Vec Ideal S512x512 .bf16) (s t : Vec Ideal S1x512 .f32) (r : Fin 1024) (d : Fin 512) :
    k0_pay11 (k0_pay17 o w s) (k0_pay18 t) (ix3 0 r d)
      = rowProj (rowOf o r) (fun x d => w (ix2 x d)) (fun d => s (ix2 0 d)) (fun d => t (ix2 0 d)) d := by
  unfold rowProj
  rw [← pay17_at]
  show _ = _ + t (ix2 0 d)
  rw [← pay18_at t r d]
  generalize k0_pay17 o w s = a
  generalize k0_pay18 t = b
  pointwise [k0_pay11, k0_pay10]

/-- The block with the residual added. -/
theorem pay12_at (o : Vec Ideal S1024x512 .f32) (w : Vec Ideal S512x512 .bf16) (s t : Vec Ideal S1x512 .f32)
    (x : Vec Ideal S1x1024x512 .bf16) (r : Fin 1024) (d : Fin 512) :
    k0_pay12 (k0_pay17 o w s) (k0_pay18 t) x (ix3 0 r d)
      = x (ix3 0 r d) + rowProj (rowOf o r) (fun x d => w (ix2 x d)) (fun d => s (ix2 0 d)) (fun d => t (ix2 0 d)) d := by
  unfold rowProj
  rw [← pay17_at]
  show _ = _ + (_ + t (ix2 0 d))
  rw [← pay18_at t r d]
  generalize k0_pay17 o w s = a
  generalize k0_pay18 t = b
  pointwise [k0_pay12, k0_pay10]

end Cert.AttnIdeal.Hand
-- ==== Proof.Attention.Invariant.lean ====
module

public import proofs.«01_k».proof.Proof.Attention.Blocks
public import proofs.«01_k».proof.Proof.Attention.Payload
public import proofs.«01_k».proof.Proof.Attention.Tail

/-! What the scratch buffers and the output blocks of the attention call hold from grid point to grid point, on the
extended reals: for each row of the block the running maximum and sum of the scaled scores over the column blocks seen, the
running weighted sum of the values, and, at the last point of a block of rows, the four results of the finished rows. -/

@[expose] public section

set_option maxRecDepth 16384

noncomputable section

namespace Cert.AttnIdeal.Hand

open Cert.AttnIdeal Cert.AttnIdeal.Gen Cert.Softmax Cert.Quant Idealize.ShloMosaic Idealize.ShloMosaic.TcCoe Idealize.SL.Sem
  Idealize.ShloMosaic.Pipeline

variable (m : (ℓ : Loc nD τ sig) → Buf (Elt Ideal) ℓ)

/-- The queries, keys, values, residual, weights, scales and bias as launched. -/
abbrev argQ (c : Dev nD) : Vec Ideal S3x32768x512 .bf16 := m ((c : Thread nD τ).loc main_arg0)
abbrev argK (c : Dev nD) : Vec Ideal S3x512x32768 .bf16 := m ((c : Thread nD τ).loc main_arg1)
abbrev argV (c : Dev nD) : Vec Ideal S3x32768x512 .bf16 := m ((c : Thread nD τ).loc main_arg2)
abbrev argX (c : Dev nD) : Vec Ideal S3x32768x512 .bf16 := m ((c : Thread nD τ).loc main_arg3)
abbrev argW (c : Dev nD) : Vec Ideal S512x512 .i8 := m ((c : Thread nD τ).loc main_arg4)
abbrev argS (c : Dev nD) : Vec Ideal S512 .f32 := m ((c : Thread nD τ).loc main_arg5)
abbrev argB (c : Dev nD) : Vec Ideal S512 .f32 := m ((c : Thread nD τ).loc main_arg6)

/-- The scaled scores of row `i` of batch `b`, in blocks of columns. -/
def score (c : Dev nD) (b : Fin 3) (i : Fin 32768) : Row := fun k j =>
  (∑ d : Fin 512, argQ m c (ix3 b i d) * argK m c (ix3 b d (colOf k j))) * scl

/-- Column `d` of the values of batch `b`, in blocks. -/
def vals (c : Dev nD) (b : Fin 3) (d : Fin 512) : Row := fun k j => argV m c (ix3 b (colOf k j) d)

/-- The finished row `i` of batch `b`. -/
def outRow (c : Dev nD) (b : Fin 3) (i : Fin 32768) : Fin 512 → EReal := fun d => pout (score m c b i) (vals m c b d) 32

/-- The projection of the finished row. -/
def projRow (c : Dev nD) (b : Fin 3) (i : Fin 32768) : Fin 512 → EReal :=
  rowProj (outRow m c b i) (fun x d => (((argW m c (ix2 x d)).toInt : ℝ) : EReal)) (fun d => argS m c (ix1 d)) (fun d => argB m c (ix1 d))

/-- The scratch buffers before point `n`, inside a block of rows. -/
def Inv (c : Dev nD) (n : ℕ) (s0 s1 : Vec Ideal S1024x128 .f32) (s2 : Vec Ideal S1024x512 .f32) (s3 : Vec Ideal S512x512 .bf16) : Prop :=
  n % 64 ≠ 0 →
    (∀ r l, s0 (ix2 r l) = pmax (score m c (bOf n) (iOf n r)) (min (n % 64) 32))
    ∧ (∀ r l, s1 (ix2 r l) = psum (score m c (bOf n) (iOf n r)) (min (n % 64) 32))
    ∧ (∀ r d, s2 (ix2 r d) = pout (score m c (bOf n) (iOf n r)) (vals m c (bOf n) d) (n % 64 - 32))
    ∧ ∀ x d, s3 (ix2 x d) = (((argW m c (ix2 x d)).toInt : ℝ) : EReal)

/-- A block's scores against a block of keys are the row's scores there. -/
theorem blockScore_eq (c : Dev nD) (t : Fin cfg0.N) (r : Fin 1024) :
    blockScore (X0 m c t) (X1 m c t) r = score m c (bOf t.val) (iOf t.val r) (t.val % 64) := by
  funext j
  unfold blockScore score
  congr 1
  exact Finset.sum_congr rfl fun d _ => by rw [X0_at, X1_at]

/-- The same scores in the second pass, numbered from its first block. -/
theorem score_second (c : Dev nD) (b : Fin 3) (i : Fin 32768) (n : ℕ) (h : 32 ≤ n % 64) :
    score m c b i (n % 64) = score m c b i (n % 64 - 32) := by
  funext j
  unfold score
  have : colOf (n % 64) j = colOf (n % 64 - 32) j := Fin.ext (by
    show 1024 * (n % 64 % 32) + j.val = 1024 * ((n % 64 - 32) % 32) + j.val
    omega)
  rw [this]

theorem bOf_succ (n : ℕ) (h : (n + 1) % 64 ≠ 0) : bOf (n + 1) = bOf n := Fin.ext (by
  show (n + 1) / 64 % 3 = n / 64 % 3
  omega)

theorem iOf_succ (n : ℕ) (r : Fin 1024) (h : (n + 1) % 64 ≠ 0) : iOf (n + 1) r = iOf n r := Fin.ext (by
  show 1024 * ((n + 1) / 192 % 32) + r.val = 1024 * (n / 192 % 32) + r.val
  omega)

/-- The first lane of a buffer. -/
theorem col0_at (s : Vec Ideal S1024x128 .f32) (r : Fin 1024) : col0 s (ix2 r 0) = s (ix2 r 0) := by
  unfold col0 VecWindow.window
  refine congrArg s (funext fun a => Fin.ext ?_)
  match a with
  | ⟨0, _⟩ => show 0 + 1 * r.val = r.val; omega
  | ⟨1, _⟩ => rfl

/-- The first point of a block of rows. -/
theorem Inv_A (c : Dev nD) (t : Fin cfg0.N) (h : t.val % 64 = 0) :
    Inv m c (t.val + 1) (k0_pay8 (F := Ideal) (X0 m c t) (X1 m c t) (k0_pay1 (F := Ideal)))
      (k0_pay7 (F := Ideal) (X0 m c t) (X1 m c t) (k0_pay1 (F := Ideal)) (k0_pay2 (F := Ideal))) (k0_pay3 (F := Ideal)) (k0_pay4 (F := Ideal) (X4 m c t)) := by
  intro h1
  have e1 : (t.val + 1) % 64 = 1 := by omega
  rw [e1, bOf_succ _ h1]
  refine ⟨fun r l => ?_, fun r l => ?_, fun r d => ?_, fun x d => ?_⟩
  · rw [iOf_succ _ _ h1, pay8_at, pay1_at, blockScore_eq, h]; rfl
  · rw [iOf_succ _ _ h1, pay7_at, pay1_at, pay1_at, pay2_at, blockScore_eq, h]; rfl
  · rw [pay3_at]; rfl
  · rw [pay4_at, X4_at]

/-- A further point of the first pass. -/
theorem Inv_B (c : Dev nD) (t : Fin cfg0.N) (h : t.val % 64 ≠ 0) (h' : t.val % 64 ≤ 31) (s0 s1 : Vec Ideal S1024x128 .f32)
    (s2 : Vec Ideal S1024x512 .f32) (s3 : Vec Ideal S512x512 .bf16) (hi : Inv m c t.val s0 s1 s2 s3) :
    Inv m c (t.val + 1) (k0_pay8 (X0 m c t) (X1 m c t) s0) (k0_pay7 (X0 m c t) (X1 m c t) s0 s1) s2 s3 := by
  intro h1
  obtain ⟨i0, i1, i2, i3⟩ := hi h
  have e1 : (t.val + 1) % 64 = t.val % 64 + 1 := by omega
  have e2 : min (t.val % 64 + 1) 32 = t.val % 64 + 1 := by omega
  have e3 : min (t.val % 64) 32 = t.val % 64 := by omega
  have e4 : t.val % 64 + 1 - 32 = t.val % 64 - 32 := by omega
  rw [e1, e2, e4, bOf_succ _ h1]
  rw [e3] at i0 i1
  refine ⟨fun r l => ?_, fun r l => ?_, fun r d => ?_, i3⟩
  · rw [iOf_succ _ _ h1, pay8_at, i0, blockScore_eq]; rfl
  · rw [iOf_succ _ _ h1, pay7_at, i0, i0, i1, blockScore_eq]; rfl
  · rw [iOf_succ _ _ h1, i2]

/-- The weighted sum after a point of the second pass. -/
theorem pay9_step (c : Dev nD) (t : Fin cfg0.N) (h : 32 ≤ t.val % 64) (s0 s1 : Vec Ideal S1024x128 .f32)
    (s2 : Vec Ideal S1024x512 .f32) (s3 : Vec Ideal S512x512 .bf16) (hi : Inv m c t.val s0 s1 s2 s3) (r : Fin 1024) (d : Fin 512) :
    k0_pay9 (X0 m c t) (X1 m c t) (col0 s0) (col0 s1) s2 (X2 m c t) (ix2 r d)
      = pout (score m c (bOf t.val) (iOf t.val r)) (vals m c (bOf t.val) d) (t.val % 64 - 32 + 1) := by
  obtain ⟨i0, i1, i2, i3⟩ := hi (by omega)
  have e3 : min (t.val % 64) 32 = 32 := by omega
  rw [e3] at i0 i1
  rw [pay9_at, i2, col0_at, col0_at, i0, i1, blockScore_eq, score_second _ _ _ _ _ h, pout]
  congr 1
  exact Finset.sum_congr rfl fun j _ => by rw [X2_at]; rfl

/-- A point of the second pass. -/
theorem Inv_C (c : Dev nD) (t : Fin cfg0.N) (h : 32 ≤ t.val % 64) (s0 s1 : Vec Ideal S1024x128 .f32)
    (s2 : Vec Ideal S1024x512 .f32) (s3 : Vec Ideal S512x512 .bf16) (hi : Inv m c t.val s0 s1 s2 s3) :
    Inv m c (t.val + 1) s0 s1 (k0_pay9 (X0 m c t) (X1 m c t) (col0 s0) (col0 s1) s2 (X2 m c t)) s3 := by
  intro h1
  obtain ⟨i0, i1, i2, i3⟩ := hi (by omega)
  have e1 : (t.val + 1) % 64 = t.val % 64 + 1 := by omega
  have e2 : min (t.val % 64 + 1) 32 = min (t.val % 64) 32 := by omega
  have e4 : t.val % 64 + 1 - 32 = t.val % 64 - 32 + 1 := by omega
  rw [e1, e2, e4, bOf_succ _ h1]
  refine ⟨fun r l => ?_, fun r l => ?_, fun r d => ?_, i3⟩
  · rw [iOf_succ _ _ h1, i0]
  · rw [iOf_succ _ _ h1, i1]
  · rw [iOf_succ _ _ h1, pay9_step m c t h s0 s1 s2 s3 hi]

/-- The finished rows at the last point of a block of rows. -/
theorem finished (c : Dev nD) (t : Fin cfg0.N) (h : t.val % 64 = 63) (s0 s1 : Vec Ideal S1024x128 .f32)
    (s2 : Vec Ideal S1024x512 .f32) (s3 : Vec Ideal S512x512 .bf16) (hi : Inv m c t.val s0 s1 s2 s3) (r : Fin 1024) :
    rowOf (k0_pay9 (X0 m c t) (X1 m c t) (col0 s0) (col0 s1) s2 (X2 m c t)) r = outRow m c (bOf t.val) (iOf t.val r) := by
  funext d
  show k0_pay9 _ _ _ _ _ _ (ix2 r d) = _
  rw [pay9_step m c t (by omega) s0 s1 s2 s3 hi, show t.val % 64 - 32 + 1 = 32 by omega]
  rfl

/-- The projection of the finished rows. -/
theorem finished_proj (c : Dev nD) (t : Fin cfg0.N) (h : t.val % 64 = 63) (s0 s1 : Vec Ideal S1024x128 .f32)
    (s2 : Vec Ideal S1024x512 .f32) (s3 : Vec Ideal S512x512 .bf16) (hi : Inv m c t.val s0 s1 s2 s3) (r : Fin 1024) (d : Fin 512) :
    rowProj (rowOf (k0_pay9 (X0 m c t) (X1 m c t) (col0 s0) (col0 s1) s2 (X2 m c t)) r) (fun x d => s3 (ix2 x d))
      (fun d => X5 m c t (ix2 0 d)) (fun d => X6 m c t (ix2 0 d)) d = projRow m c (bOf t.val) (iOf t.val r) d := by
  obtain ⟨i0, i1, i2, i3⟩ := hi (by omega)
  rw [finished m c t h s0 s1 s2 s3 hi]
  unfold projRow
  have e3 : (fun x d => s3 (ix2 x d)) = fun x d => (((argW m c (ix2 x d)).toInt : ℝ) : EReal) := funext fun x => funext fun d => i3 x d
  have e5 : (fun d => X5 m c t (ix2 0 d)) = fun d => argS m c (ix1 d) := funext fun d => X5_at m c t d
  have e6 : (fun d => X6 m c t (ix2 0 d)) = fun d => argB m c (ix1 d) := funext fun d => X6_at m c t d
  rw [e3, e5, e6]

/-- The row of scales the body writes into its block: at the batch's row the new scales, elsewhere the old. -/
theorem putScale_at (t : Fin cfg0.N) (y : Vec Ideal S3x1024 .f32) (row : Vec Ideal S1x1024 .f32) (b : Fin 3) (r : Fin 1024) :
    putScale (grid0.coords t) y row (ix2 b r) = if b = bOf t.val then row (ix2 0 r) else y (ix2 b r) := by
  have e : k0_off1 (grid0.coords t) (0 : Fin 2) = t.val / 64 % 3 :=
    (by decide +kernel : ∀ t : Fin grid0.N, k0_off1 (grid0.coords t) (0 : Fin 2) = t.val / 64 % 3) t
  have e' : k0_off1 (grid0.coords t) (1 : Fin 2) = 0 := rfl
  unfold putScale VecWindow.put
  by_cases hb : b = bOf t.val
  · have hv : b.val = t.val / 64 % 3 := congrArg Fin.val hb
    rw [if_pos hb, dif_pos (by
      intro a
      match a with
      | ⟨0, _⟩ => show k0_off1 (grid0.coords t) (0 : Fin 2) ≤ b.val ∧ b.val < k0_off1 (grid0.coords t) (0 : Fin 2) + 1; omega
      | ⟨1, _⟩ => show k0_off1 (grid0.coords t) (1 : Fin 2) ≤ r.val ∧ r.val < k0_off1 (grid0.coords t) (1 : Fin 2) + 1024; have := r.isLt; omega)]
    refine congrArg row (funext fun a => Fin.ext ?_)
    match a with
    | ⟨0, _⟩ => show b.val - k0_off1 (grid0.coords t) (0 : Fin 2) = 0; omega
    | ⟨1, _⟩ => show r.val - k0_off1 (grid0.coords t) (1 : Fin 2) = r.val; omega
  · rw [if_neg hb, dif_neg]
    intro hall
    have h0 : k0_off1 (grid0.coords t) (0 : Fin 2) ≤ b.val ∧ b.val < k0_off1 (grid0.coords t) (0 : Fin 2) + 1 := hall 0
    exact hb (Fin.ext (by show b.val = t.val / 64 % 3; omega))

/-- What is claimed of the scratch buffers and of the four output blocks along the grid. -/
def track : Track (F := Ideal) m where
  inv := Inv m
  r7 c t y := t % 64 = 63 → ∀ r d, y (ix3 0 r d) = argX m c (ix3 (bOf t) (iOf t r) d) + projRow m c (bOf t) (iOf t r) d
  r8 c t y := t % 64 = 63 → ∀ r d, y (ix3 0 r d) = projRow m c (bOf t) (iOf t r) d
  r9 c t y := t % 64 = 63 → ∀ r d, y (ix3 0 r d) = Ideal.fptosi 8 (rowQ (outRow m c (bOf t) (iOf t r)) d)
  r10 c t y := ∀ b : Fin 3, (b.val < t / 64 % 3 ∨ b.val = t / 64 % 3 ∧ t % 64 = 63) → ∀ r, y (ix2 b r) = rowScale (outRow m c b (iOf t r))
  start c s0 s1 s2 s3 h := absurd rfl h
  stepA c t h _ _ _ _ _ := Inv_A m c t h
  stepB c t h h' s0 s1 s2 s3 hi := Inv_B m c t h h' s0 s1 s2 s3 hi
  stepC c t h s0 s1 s2 s3 hi := Inv_C m c t h s0 s1 s2 s3 hi
  idle7 c t h y h' := absurd h' h
  idle8 c t h y h' := absurd h' h
  idle9 c t h y h' := absurd h' h
  idle10 c t h y hy b hb r := by
    have ht : t.val % 192 ≠ 0 := by omega
    have e : iOf (t.val - 1) r = iOf t.val r := Fin.ext (by
      show 1024 * ((t.val - 1) / 192 % 32) + r.val = 1024 * (t.val / 192 % 32) + r.val
      omega)
    rw [hy ht b (by omega) r, e]
  last7 c t h s0 s1 s2 s3 hi _ r d := by
    rw [pay12_at, X3_at, finished_proj m c t h s0 s1 s2 s3 hi]
  last8 c t h s0 s1 s2 s3 hi _ r d := by
    rw [pay11_at, finished_proj m c t h s0 s1 s2 s3 hi]
  last9 c t h s0 s1 s2 s3 hi _ r d := by
    rw [pay15_at, finished m c t h s0 s1 s2 s3 hi]
  last10 c t h s0 s1 s2 s3 hi y hy b hb r := by
    rw [putScale_at]
    by_cases hbt : b = bOf t.val
    · rw [if_pos hbt, pay16_at, finished m c t h s0 s1 s2 s3 hi, hbt]
    · have hne : b.val ≠ t.val / 64 % 3 := fun e => hbt (Fin.ext e)
      have e : iOf (t.val - 1) r = iOf t.val r := Fin.ext (by
        show 1024 * ((t.val - 1) / 192 % 32) + r.val = 1024 * (t.val / 192 % 32) + r.val
        omega)
      rw [if_neg hbt, hy b (by omega) r, e]

end Cert.AttnIdeal.Hand
-- ==== Proof.Attention.RefSoftmax.lean ====
module

public import proofs.«01_k».proof.Proof.Attention.Quant
public import proofs.«01_k».proof.Proof.Gen.AttnRefIdeal.Read
public import Idealize.ShloMosaic.Lib.KernelVsHost
public import Idealize.ShloMosaic.Lib.Pointwise.Index

/-! What the reference's attention product is at an index, on the extended reals: the softmax of a row of scaled scores
over all 32768 columns, against the values. -/

@[expose] public section

noncomputable section

namespace Cert.AttnRefIdeal.Hand

open Cert.AttnRefIdeal Cert.AttnRefIdeal.Gen Cert.AttnRefIdeal.Read Cert.Softmax Cert.Quant Idealize.ShloMosaic

variable (q : Vec Ideal S3x32768x512 .bf16) (k : Vec Ideal S3x512x32768 .bf16) (v : Vec Ideal S3x32768x512 .bf16)

/-- The scaled score of query `i` of batch `b` against key `j`. -/
def refScore (b : Fin 3) (i j : Fin 32768) : EReal := (∑ d : Fin 512, q (ix3 b i d) * k (ix3 b d j)) * scl

/-- The reference's scaled scores. -/
theorem v2_at (b : Fin 3) (i j : Fin 32768) : val_main_v2 (F := Ideal) q k (ix3 b i j) = refScore q k b i j := by
  rw [val_main_v2_apply, val_main_v0_apply, val_main_v1_apply]
  unfold refScore
  rw [Ideal.mulf_def]
  congr 1
  refine Finset.sum_congr rfl fun x _ => ?_
  congr 1
  · exact congrArg q (funext fun a => by match a with | ⟨0, _⟩ => rfl | ⟨1, _⟩ => rfl | ⟨2, _⟩ => rfl)
  · exact congrArg k (funext fun a => by match a with | ⟨0, _⟩ => rfl | ⟨1, _⟩ => rfl | ⟨2, _⟩ => rfl)

/-- The largest scaled score of a row. -/
theorem v3_at (b : Fin 3) (i : Fin 32768) : val_main_v3 (F := Ideal) q k (ix2 b i) = Finset.univ.sup (refScore q k b i) := by
  have e : ∀ j, val_main_v2 (F := Ideal) q k (ix3 b i j) = refScore q k b i j := v2_at q k b i
  unfold val_main_v3
  generalize val_main_v2 (F := Ideal) q k = y at e
  unfold val_main_cst_0
  refine (congrFun (hostReduce_maximumf_eq_multiReduction (F := Ideal) (s := S3x32768x32768) (t := S3x32768) (u := S_) (φ := .f32) (axes := [2]) y
    0xFF800000#32 reducesTo_S3x32768x32768_S3x32768_d2 h_S_ (by decide) (.inl rfl) rfl) (ix2 b i)).trans ?_
  refine (Ideal.multiReduction_maximumf_single (φ := .f32) (s := S3x32768x32768) (t := S3x32768) (a := 2) y _ _ _ _ _).trans ?_
  show Finset.univ.fold max (Ideal.ofBits .f32 0xFF800000#32) _ = _
  rw [ofBits_neg_inf, fold_max_bot]
  refine congrArg (Finset.univ.sup) (funext fun j => ?_)
  refine Eq.trans ?_ (e j)
  exact congrArg y (funext fun a => Fin.ext (by match a with | ⟨0, _⟩ => rfl | ⟨1, _⟩ => rfl | ⟨2, _⟩ => rfl))

/-- The exponentials. -/
theorem v9_at (b : Fin 3) (i j : Fin 32768) :
    val_main_v9 (F := Ideal) q k (ix3 b i j) = Ideal.exp (refScore q k b i j - Finset.univ.sup (refScore q k b i)) := by
  rw [val_main_v9_apply, val_main_v8_apply, v2_at, val_main_v7_apply, val_main_v6_apply]
  have hi : idx_main_v6 (idx_main_v7 (ix3 b i j)) = ix2 b i :=
    funext fun a => Fin.ext (by match a with | ⟨0, _⟩ => rfl | ⟨1, _⟩ => rfl)
  rw [hi, val_main_v5_apply, v3_at, val_main_v4_apply]
  have h4 : val_main_cst_1 (F := Ideal) (idx_main_v4 (ix2 b i)) = ⊥ := ofBits_neg_inf
  rw [h4]
  show Ideal.exp (_ - max ⊥ _) = _
  rw [max_eq_right bot_le]

/-- The sum of the exponentials of a row. -/
theorem v10_at (b : Fin 3) (i : Fin 32768) :
    val_main_v10 (F := Ideal) q k (ix2 b i) = ∑ j : Fin 32768, Ideal.exp (refScore q k b i j - Finset.univ.sup (refScore q k b i)) := by
  rw [val_main_v10_apply]
  have h2 : (val_main_cst_2 (F := Ideal)) (Shape.Idx.first h_S_) = 0 := Ideal.ofBits_zero_f32
  rw [h2, zero_add]
  refine Finset.sum_congr rfl fun j _ => ?_
  rw [← v9_at]
  exact congrArg _ (funext fun a => Fin.ext (by match a with | ⟨0, _⟩ => rfl | ⟨1, _⟩ => rfl | ⟨2, _⟩ => rfl))

/-- The attention product: the normalised exponentials against the values. -/
theorem v15_at (b : Fin 3) (i : Fin 32768) (d : Fin 512) :
    val_main_v15 (F := Ideal) q k v (ix3 b i d)
      = ∑ j : Fin 32768, Ideal.div (Ideal.exp (refScore q k b i j - Finset.univ.sup (refScore q k b i)))
          (∑ j : Fin 32768, Ideal.exp (refScore q k b i j - Finset.univ.sup (refScore q k b i))) * v (ix3 b j d) := by
  rw [val_main_v15_apply]
  refine Finset.sum_congr rfl fun j _ => ?_
  have hl : lidx_main_v15 (ix3 b i d) j = ix3 b i j :=
    funext fun a => Fin.ext (by match a with | ⟨0, _⟩ => rfl | ⟨1, _⟩ => rfl | ⟨2, _⟩ => rfl)
  have hr : ridx_main_v15 (ix3 b i d) j = ix3 b j d :=
    funext fun a => Fin.ext (by match a with | ⟨0, _⟩ => rfl | ⟨1, _⟩ => rfl | ⟨2, _⟩ => rfl)
  have hi : idx_main_v11 (idx_main_v12 (ix3 b i j)) = ix2 b i :=
    funext fun a => Fin.ext (by match a with | ⟨0, _⟩ => rfl | ⟨1, _⟩ => rfl)
  rw [hl, hr, val_main_v14_apply, val_main_v13_apply, v9_at, val_main_v12_apply, val_main_v11_apply, hi, v10_at]
  rfl

end Cert.AttnRefIdeal.Hand
-- ==== Proof.Attention.RefTail.lean ====
module

public import proofs.«01_k».proof.Proof.Attention.Quant
public import proofs.«01_k».proof.Proof.Gen.AttnRefIdeal.Read
public import Idealize.ShloMosaic.Lib.KernelVsHost
public import Idealize.ShloMosaic.Lib.Pointwise.Index

/-! What the reference's closing operations (quantisation, projection, residual) are at an index, on the extended reals,
from the rows of its attention product. -/

@[expose] public section

noncomputable section

namespace Cert.AttnRefIdeal.Hand

open Cert.AttnRefIdeal Cert.AttnRefIdeal.Gen Cert.AttnRefIdeal.Read Cert.Quant Idealize.ShloMosaic

variable (q : Vec Ideal S3x32768x512 .bf16) (k : Vec Ideal S3x512x32768 .bf16) (v x : Vec Ideal S3x32768x512 .bf16)
  (w : Vec Ideal S512x512 .i8) (s t : Vec Ideal S512 .f32)

/-- Row `i` of batch `b` of the reference's attention product. -/
abbrev refRow (b : Fin 3) (i : Fin 32768) : Fin 512 → EReal := fun d => val_main_v15 (F := Ideal) q k v (ix3 b i d)

/-- The largest magnitude of a row. -/
theorem v17_at (b : Fin 3) (i : Fin 32768) : val_main_v17 (F := Ideal) q k v (ix2 b i) = rowMax (refRow q k v b i) := by
  have e : ∀ d, val_main_v16 (F := Ideal) q k v (ix3 b i d) = FloatOps.absf (F := Ideal) (φ := .f32) (refRow q k v b i d) := fun d =>
    val_main_v16_apply q k v (ix3 b i d)
  unfold val_main_v17
  generalize val_main_v16 (F := Ideal) q k v = y at e
  unfold val_main_cst_3
  refine (congrFun (hostReduce_maximumf_eq_multiReduction (F := Ideal) (s := S3x32768x512) (t := S3x32768) (u := S_) (φ := .f32) (axes := [2]) y
    0xFF800000#32 reducesTo_S3x32768x512_S3x32768_d2 h_S_ (by decide) (.inl rfl) rfl) (ix2 b i)).trans ?_
  refine (Ideal.multiReduction_maximumf_single (φ := .f32) (s := S3x32768x512) (t := S3x32768) (a := 2) y _ _ _ _ _).trans ?_
  show Finset.univ.fold max (Ideal.ofBits .f32 0xFF800000#32) _ = _
  rw [ofBits_neg_inf]
  refine congrArg (Finset.univ.fold max ⊥) (funext fun d => ?_)
  refine Eq.trans ?_ (e d)
  exact congrArg y (funext fun a => Fin.ext (by match a with | ⟨0, _⟩ => rfl | ⟨1, _⟩ => rfl | ⟨2, _⟩ => rfl))

/-- The scale of a row. -/
theorem v22_at (b : Fin 3) (i : Fin 32768) : val_main_v22 (F := Ideal) q k v (ix2 b i) = rowScale (refRow q k v b i) := by
  rw [val_main_v22_apply, val_main_v21_apply, val_main_v19_apply, v17_at, val_main_v18_apply, val_main_v20_apply, val_main_call0_v1_apply,
    val_main_call0_v0_apply]
  have h4 : val_main_cst_4 (F := Ideal) (idx_main_v18 (ix2 b i)) = 0 := Ideal.ofBits_zero_f32
  have h5 : val_main_cst_5 (F := Ideal) (idx_main_v20 (ix2 b i)) = ((127 : ℝ) : EReal) := ofBits_127
  have h6 : val_main_cst_6 (F := Ideal) (idx_main_call0_v1 (ix2 b i)) = 1 := ofBits_one
  rw [h4, h5, h6]
  unfold rowScale
  generalize rowMax (refRow q k v b i) = M
  show Scalar.select (Ideal.cmp .oeq M 0) (1 : EReal) (Ideal.div M ((127 : ℝ) : EReal)) = _
  rw [Ideal.div_coe (by norm_num : (127 : ℝ) ≠ 0)]
  by_cases h : M = 0
  · simp [Scalar.select, Ideal.cmp, h]
  · simp [Scalar.select, Ideal.cmp, h]

/-- The rounded and clipped values of a row. -/
theorem v27_at (b : Fin 3) (i : Fin 32768) (d : Fin 512) :
    val_main_v27 (F := Ideal) q k v (ix3 b i d) = rowQ (refRow q k v b i) d := by
  have hi : idx_main_v23 (idx_main_v24 (ix3 b i d)) = ix2 b i :=
    funext fun a => Fin.ext (by match a with | ⟨0, _⟩ => rfl | ⟨1, _⟩ => rfl)
  rw [val_main_v27_apply, val_main_call2_v2_apply, val_main_call2_v4_apply, val_main_call2_v1_apply, val_main_v26_apply, val_main_v25_apply,
    val_main_v24_apply, val_main_v23_apply, hi, v22_at]
  have h7 : val_main_call2_v3 (F := Ideal) (idx_main_call2_v4 (ix3 b i d)) = ((127 : ℝ) : EReal) := ofBits_127
  have h8 : val_main_call2_v0 (F := Ideal) (idx_main_call2_v1 (ix3 b i d)) = ((-127 : ℝ) : EReal) := ofBits_neg_127
  rw [h7, h8]
  unfold rowQ
  generalize rowScale (refRow q k v b i) = c
  show _ = min _ (max _ (Ideal.liftRound Ideal.roundHalfEven (Ideal.div (val_main_v15 (F := Ideal) q k v (ix3 b i d)) c)))
  generalize val_main_v15 (F := Ideal) q k v (ix3 b i d) = z
  rfl

/-- The codes of a row. -/
theorem v29_at (b : Fin 3) (i : Fin 32768) (d : Fin 512) :
    val_main_v29 (F := Ideal) q k v (ix3 b i d) = Ideal.fptosi 8 (rowQ (refRow q k v b i) d) := by
  rw [val_main_v29_apply, val_main_v28_apply, v27_at]
  exact code_eq _ _

/-- The codes of a row read back as numbers. -/
theorem v32_at (b : Fin 3) (i : Fin 32768) (d : Fin 512) :
    val_main_v32 (F := Ideal) q k v (ix3 b i d) = rowQ (refRow q k v b i) d := by
  rw [val_main_v32_apply, val_main_v31_apply, val_main_v30_apply, v29_at]
  exact decode_eq _ _

/-- The weights read back as numbers. -/
theorem v35_at (y d : Fin 512) : val_main_v35 (F := Ideal) w (ix2 y d) = (((w (ix2 y d)).toInt : ℝ) : EReal) := by
  rw [val_main_v35_apply, val_main_v34_apply, val_main_v33_apply]
  show (((BitVec.signExtend 32 (w (ix2 y d))).toInt : ℝ) : EReal) = _
  rw [BitVec.toInt_signExtend_of_le (by norm_num)]

/-- The projection. -/
theorem v45_at (b : Fin 3) (i : Fin 32768) (d : Fin 512) :
    val_main_v45 (F := Ideal) q k v w s t (ix3 b i d)
      = rowProj (refRow q k v b i) (fun y d => (((w (ix2 y d)).toInt : ℝ) : EReal)) (fun d => s (ix1 d)) (fun d => t (ix1 d)) d := by
  have hi : idx_main_v37 (idx_main_v38 (ix3 b i d)) = ix2 b i :=
    funext fun a => Fin.ext (by match a with | ⟨0, _⟩ => rfl | ⟨1, _⟩ => rfl)
  have h40 : idx_main_v40 (idx_main_v41 (ix3 b i d)) = ix1 d := funext fun a => Fin.ext (by match a with | ⟨0, _⟩ => rfl)
  have h43 : idx_main_v43 (idx_main_v44 (ix3 b i d)) = ix1 d := funext fun a => Fin.ext (by match a with | ⟨0, _⟩ => rfl)
  rw [val_main_v45_apply, val_main_v44_apply, val_main_v43_apply, val_main_v42_apply, val_main_v41_apply, val_main_v40_apply,
    val_main_v39_apply, val_main_v38_apply, val_main_v37_apply, hi, h40, h43, v22_at, val_main_v36_apply]
  have hs : (∑ y : Fin 512, (val_main_v32 (F := Ideal) q k v) (lidx_main_v36 (ix3 b i d) y) * (val_main_v35 (F := Ideal) w) (ridx_main_v36 (ix3 b i d) y))
      = ∑ y : Fin 512, rowQ (refRow q k v b i) y * (((w (ix2 y d)).toInt : ℝ) : EReal) := by
    refine Finset.sum_congr rfl fun y _ => ?_
    have hl : lidx_main_v36 (ix3 b i d) y = ix3 b i y :=
      funext fun a => Fin.ext (by match a with | ⟨0, _⟩ => rfl | ⟨1, _⟩ => rfl | ⟨2, _⟩ => rfl)
    have hr : ridx_main_v36 (ix3 b i d) y = ix2 y d :=
      funext fun a => Fin.ext (by match a with | ⟨0, _⟩ => rfl | ⟨1, _⟩ => rfl)
    rw [hl, hr, v32_at, v35_at]
  rw [hs]
  rfl

/-- The projection, as written. -/
theorem v49_at (b : Fin 3) (i : Fin 32768) (d : Fin 512) :
    val_main_v49 (F := Ideal) q k v w s t (ix3 b i d)
      = rowProj (refRow q k v b i) (fun y d => (((w (ix2 y d)).toInt : ℝ) : EReal)) (fun d => s (ix1 d)) (fun d => t (ix1 d)) d := by
  rw [val_main_v49_apply, v45_at]
  rfl

/-- The result with the residual added. -/
theorem v48_at (b : Fin 3) (i : Fin 32768) (d : Fin 512) :
    val_main_v48 (F := Ideal) q k v x w s t (ix3 b i d)
      = x (ix3 b i d)
        + rowProj (refRow q k v b i) (fun y d => (((w (ix2 y d)).toInt : ℝ) : EReal)) (fun d => s (ix1 d)) (fun d => t (ix1 d)) d := by
  rw [val_main_v48_apply, val_main_v47_apply, val_main_v46_apply, v45_at]
  rfl

end Cert.AttnRefIdeal.Hand
-- ==== Proof.Attention.Equation.lean ====
module

public import proofs.«01_k».proof.Proof.Attention.Invariant
public import proofs.«01_k».proof.Proof.Attention.RefSoftmax
public import proofs.«01_k».proof.Proof.Attention.RefTail

/-! The finished rows of the attention call are the rows of the reference: the softmax accumulated block of columns by block
of columns is the softmax over all the columns. -/

@[expose] public section

noncomputable section

namespace Cert.AttnIdeal.Hand

open Cert.AttnIdeal Cert.Softmax Cert.Quant Idealize.ShloMosaic Idealize.ShloMosaic.TcCoe Idealize.SL.Sem
open Cert.AttnRefIdeal.Hand (refScore refRow)

variable (m : (ℓ : Loc nD τ sig) → Buf (Elt Ideal) ℓ)

/-- A column of a block is its column in the array. -/
theorem colOf_eq (k : ℕ) (hk : k < 32) (j : Fin 1024) : colOf k j = ⟨1024 * k + j.val, by have := j.isLt; omega⟩ := Fin.ext (by
  show 1024 * (k % 32) + j.val = 1024 * k + j.val
  rw [Nat.mod_eq_of_lt hk])

theorem score_eq (c : Dev nD) (b : Fin 3) (i : Fin 32768) (k : ℕ) (hk : k < 32) (j : Fin 1024) :
    score m c b i k j = refScore (argQ m c) (argK m c) b i ⟨1024 * k + j.val, by have := j.isLt; omega⟩ := by
  unfold score refScore
  rw [colOf_eq k hk j]

/-- The running maximum at the end is the maximum of the row. -/
theorem pmax_row (c : Dev nD) (b : Fin 3) (i : Fin 32768) :
    pmax (score m c b i) 32 = Finset.univ.sup (refScore (argQ m c) (argK m c) b i) := by
  rw [pmax_eq]
  exact sup_blocks _ _ fun k hk j => score_eq m c b i k hk j

/-- The running sum at the end is the sum of the row. -/
theorem psum_row (c : Dev nD) (b : Fin 3) (i : Fin 32768) :
    psum (score m c b i) 32 = ∑ j : Fin 32768, Ideal.exp (refScore (argQ m c) (argK m c) b i j
      - Finset.univ.sup (refScore (argQ m c) (argK m c) b i)) := by
  rw [psum_eq, pmax_row]
  exact sum_blocks (fun j => Ideal.exp (refScore (argQ m c) (argK m c) b i j - Finset.univ.sup (refScore (argQ m c) (argK m c) b i)))
    (fun k j => Ideal.exp (score m c b i k j - Finset.univ.sup (refScore (argQ m c) (argK m c) b i)))
    fun k hk j => by rw [score_eq m c b i k hk j]

/-- The finished row is the reference's row. -/
theorem outRow_eq (c : Dev nD) (b : Fin 3) (i : Fin 32768) :
    outRow m c b i = refRow (argQ m c) (argK m c) (argV m c) b i := by
  funext d
  refine Eq.trans ?_ (Cert.AttnRefIdeal.Hand.v15_at (argQ m c) (argK m c) (argV m c) b i d).symm
  unfold outRow
  rw [pout_eq, psum_row, pmax_row]
  exact sum_blocks (fun j => Ideal.div (Ideal.exp (refScore (argQ m c) (argK m c) b i j - Finset.univ.sup (refScore (argQ m c) (argK m c) b i)))
      (∑ j : Fin 32768, Ideal.exp (refScore (argQ m c) (argK m c) b i j - Finset.univ.sup (refScore (argQ m c) (argK m c) b i)))
        * argV m c (ix3 b j d))
    (fun k j => Ideal.div (Ideal.exp (score m c b i k j - Finset.univ.sup (refScore (argQ m c) (argK m c) b i)))
      (∑ j : Fin 32768, Ideal.exp (refScore (argQ m c) (argK m c) b i j - Finset.univ.sup (refScore (argQ m c) (argK m c) b i)))
        * vals m c b d k j)
    fun k hk j => by
      rw [score_eq m c b i k hk j]
      unfold vals
      rw [colOf_eq k hk j]

end Cert.AttnIdeal.Hand
-- ==== Proof.Attention.Places.lean ====
module

public import proofs.«01_k».proof.Proof.Attention.Blocks
public import Idealize.ShloMosaic.Lib.Pipeline.ValueKit.Geometry
public import Idealize.ShloMosaic.Lib.Pipeline.ArrRel

/-! Where the blocks of the four result arrays lie, and that the blocks written back fill the arrays. -/

@[expose] public section

set_option maxRecDepth 16384

noncomputable section

namespace Cert.AttnIdeal.Hand

open Cert.AttnIdeal Cert.AttnIdeal.Gen Idealize.ShloMosaic Idealize.ShloMosaic.TcCoe Idealize.SL.Sem
  Idealize.ShloMosaic.Pipeline

theorem idx_7 : ∀ t : Fin grid0.N, win0_7.index t 0 = t.val / 64 % 3 ∧ win0_7.index t 1 = t.val / 192 % 32 ∧ win0_7.index t 2 = 0 := by
  decide +kernel
theorem idx_8 : ∀ t : Fin grid0.N, win0_8.index t 0 = t.val / 64 % 3 ∧ win0_8.index t 1 = t.val / 192 % 32 ∧ win0_8.index t 2 = 0 := by
  decide +kernel
theorem idx_9 : ∀ t : Fin grid0.N, win0_9.index t 0 = t.val / 64 % 3 ∧ win0_9.index t 1 = t.val / 192 % 32 ∧ win0_9.index t 2 = 0 := by
  decide +kernel
theorem idx_10 : ∀ t : Fin grid0.N, win0_10.index t 0 = 0 ∧ win0_10.index t 1 = t.val / 192 % 32 := by
  decide +kernel

/-- Where the block of window 7 lies in its array. -/
theorem emb_7 (t : Fin cfg0.N) (r : Fin 1024) (d : Fin 512) :
    ((cfg0.win 7).blk t).view.emb (ix3 0 r d) = (ix3 (bOf t.val) (iOf t.val r) d : S3x32768x512.Idx) := by
  obtain ⟨e0, e1, e2⟩ := idx_7 t
  refine funext fun a => Fin.ext ?_
  match a with
  | ⟨0, _⟩ => show win0_7.index t (0 : Fin 3) * 1 + 1 * 0 = t.val / 64 % 3; omega
  | ⟨1, _⟩ => show win0_7.index t (1 : Fin 3) * 1024 + 1 * r.val = 1024 * (t.val / 192 % 32) + r.val; omega
  | ⟨2, _⟩ => show win0_7.index t (2 : Fin 3) * 512 + 1 * d.val = d.val; omega

/-- Where the block of window 8 lies in its array. -/
theorem emb_8 (t : Fin cfg0.N) (r : Fin 1024) (d : Fin 512) :
    ((cfg0.win 8).blk t).view.emb (ix3 0 r d) = (ix3 (bOf t.val) (iOf t.val r) d : S3x32768x512.Idx) := by
  obtain ⟨e0, e1, e2⟩ := idx_8 t
  refine funext fun a => Fin.ext ?_
  match a with
  | ⟨0, _⟩ => show win0_8.index t (0 : Fin 3) * 1 + 1 * 0 = t.val / 64 % 3; omega
  | ⟨1, _⟩ => show win0_8.index t (1 : Fin 3) * 1024 + 1 * r.val = 1024 * (t.val / 192 % 32) + r.val; omega
  | ⟨2, _⟩ => show win0_8.index t (2 : Fin 3) * 512 + 1 * d.val = d.val; omega

/-- Where the block of window 9 lies in its array. -/
theorem emb_9 (t : Fin cfg0.N) (r : Fin 1024) (d : Fin 512) :
    ((cfg0.win 9).blk t).view.emb (ix3 0 r d) = (ix3 (bOf t.val) (iOf t.val r) d : S3x32768x512.Idx) := by
  obtain ⟨e0, e1, e2⟩ := idx_9 t
  refine funext fun a => Fin.ext ?_
  match a with
  | ⟨0, _⟩ => show win0_9.index t (0 : Fin 3) * 1 + 1 * 0 = t.val / 64 % 3; omega
  | ⟨1, _⟩ => show win0_9.index t (1 : Fin 3) * 1024 + 1 * r.val = 1024 * (t.val / 192 % 32) + r.val; omega
  | ⟨2, _⟩ => show win0_9.index t (2 : Fin 3) * 512 + 1 * d.val = d.val; omega

/-- Where the block of window 10 lies in its array. -/
theorem emb_10 (t : Fin cfg0.N) (b : Fin 3) (r : Fin 1024) :
    ((cfg0.win 10).blk t).view.emb (ix2 b r) = (ix2 b (iOf t.val r) : S3x32768.Idx) := by
  obtain ⟨e0, e1⟩ := idx_10 t
  refine funext fun a => Fin.ext ?_
  match a with
  | ⟨0, _⟩ => show win0_10.index t (0 : Fin 2) * 3 + 1 * b.val = b.val; omega
  | ⟨1, _⟩ => show win0_10.index t (1 : Fin 2) * 1024 + 1 * r.val = 1024 * (t.val / 192 % 32) + r.val; omega

theorem ix3_self (y : S1x1024x512.Idx) : y = ix3 0 (y 1) (y 2) := funext fun a => Fin.ext (by
  match a with
  | ⟨0, _⟩ => exact Nat.lt_one_iff.mp (y 0).isLt
  | ⟨1, _⟩ => rfl
  | ⟨2, _⟩ => rfl)

theorem ix2_self (y : S3x1024.Idx) : y = ix2 (y 0) (y 1) := funext fun a => Fin.ext (by
  match a with
  | ⟨0, _⟩ => rfl
  | ⟨1, _⟩ => rfl)

/-! The written blocks fill their arrays. -/

theorem covers_7 : (cfg0.win 7).Covers := by decide +kernel
theorem covers_8 : (cfg0.win 8).Covers := by decide +kernel
theorem covers_9 : (cfg0.win 9).Covers := by decide +kernel
theorem covers_10 : (cfg0.win 10).Covers := by decide +kernel

end Cert.AttnIdeal.Hand
-- ==== Proof.Attention.Result.lean ====
module

public import proofs.«01_k».proof.Proof.Attention.Equation
public import proofs.«01_k».proof.Proof.Attention.Args
public import proofs.«01_k».proof.Proof.Attention.Places
public import Idealize.ShloMosaic.Lib.Pipeline.ArrRel

/-! The four result arrays of the attention call after the run, on the extended reals: each is the reference's. -/

@[expose] public section

set_option maxRecDepth 16384

noncomputable section

namespace Cert.AttnIdeal.Hand

open Cert.AttnIdeal Cert.AttnIdeal.Gen Cert.Softmax Cert.Quant Idealize.ShloMosaic Idealize.ShloMosaic.TcCoe Idealize.SL.Sem
  Idealize.ShloMosaic.Pipeline

variable (m : (ℓ : Loc nD τ sig) → Buf (Elt Ideal) ℓ)

/-! The four result arrays. -/

def yArr (c : Dev nD) : Vec Ideal S3x32768x512 .bf16 := fun i => argX m c (ix3 (i 0) (i 1) (i 2)) + projRow m c (i 0) (i 1) (i 2)
def projArr (c : Dev nD) : Vec Ideal S3x32768x512 .bf16 := fun i => projRow m c (i 0) (i 1) (i 2)
def codeArr (c : Dev nD) : Vec Ideal S3x32768x512 .i8 := fun i => Ideal.fptosi 8 (rowQ (outRow m c (i 0) (i 1)) (i 2))
def scaleArr (c : Dev nD) : Vec Ideal S3x32768 .f32 := fun i => rowScale (outRow m c (i 0) (i 1))

theorem yArr_at (c : Dev nD) (b : Fin 3) (i : Fin 32768) (d : Fin 512) :
    yArr m c (ix3 b i d) = argX m c (ix3 b i d) + projRow m c b i d := rfl
theorem projArr_at (c : Dev nD) (b : Fin 3) (i : Fin 32768) (d : Fin 512) : projArr m c (ix3 b i d) = projRow m c b i d := rfl
theorem codeArr_at (c : Dev nD) (b : Fin 3) (i : Fin 32768) (d : Fin 512) :
    codeArr m c (ix3 b i d) = Ideal.fptosi 8 (rowQ (outRow m c b i) d) := rfl
theorem scaleArr_at (c : Dev nD) (b : Fin 3) (i : Fin 32768) : scaleArr m c (ix2 b i) = rowScale (outRow m c b i) := rfl

/-- What is written at a flushing point of window 7 is the result array there. -/
theorem at_7 (c : Dev nD) (t : Fin cfg0.N) (hf : (cfg0.win 7).flush t = true) (X : S1x1024x512.Idx → Elt Ideal (cfg0.win 7).elt)
    (h : (track m).r7 c t.val X) (y : S1x1024x512.Idx) : X y = yArr m c (((cfg0.win 7).blk t).view.emb y) := by
  obtain ⟨r, d, rfl⟩ : ∃ r d, y = ix3 0 r d := ⟨y 1, y 2, ix3_self y⟩
  have e := h ((flush0_7 t).mp hf) r d
  rw [emb_7, yArr_at]
  exact e

/-- Result array 0, from what the body leaves in its blocks. -/
theorem arr_7 (c : Dev nD) (dat : Dat τ (Elt Ideal) Unit ℕ (UR sig nD τ) ℕ cfg0 c)
    (h : ∀ t, (cfg0.win 7).flush t = true → (track m).r7 c t.val (dat.after 7 t)) : dat.arrAt 7 cfg0.N = yArr m c :=
  dat.arrAt_eq_of_covers 7 _ covers_7 fun t hf y => at_7 m c t hf _ (h t hf) y

/-- What is written at a flushing point of window 8 is the result array there. -/
theorem at_8 (c : Dev nD) (t : Fin cfg0.N) (hf : (cfg0.win 8).flush t = true) (X : S1x1024x512.Idx → Elt Ideal (cfg0.win 8).elt)
    (h : (track m).r8 c t.val X) (y : S1x1024x512.Idx) : X y = projArr m c (((cfg0.win 8).blk t).view.emb y) := by
  obtain ⟨r, d, rfl⟩ : ∃ r d, y = ix3 0 r d := ⟨y 1, y 2, ix3_self y⟩
  have e := h ((flush0_8 t).mp hf) r d
  rw [emb_8, projArr_at]
  exact e

/-- Result array 1, from what the body leaves in its blocks. -/
theorem arr_8 (c : Dev nD) (dat : Dat τ (Elt Ideal) Unit ℕ (UR sig nD τ) ℕ cfg0 c)
    (h : ∀ t, (cfg0.win 8).flush t = true → (track m).r8 c t.val (dat.after 8 t)) : dat.arrAt 8 cfg0.N = projArr m c :=
  dat.arrAt_eq_of_covers 8 _ covers_8 fun t hf y => at_8 m c t hf _ (h t hf) y

/-- What is written at a flushing point of window 9 is the result array there. -/
theorem at_9 (c : Dev nD) (t : Fin cfg0.N) (hf : (cfg0.win 9).flush t = true) (X : S1x1024x512.Idx → Elt Ideal (cfg0.win 9).elt)
    (h : (track m).r9 c t.val X) (y : S1x1024x512.Idx) : X y = codeArr m c (((cfg0.win 9).blk t).view.emb y) := by
  obtain ⟨r, d, rfl⟩ : ∃ r d, y = ix3 0 r d := ⟨y 1, y 2, ix3_self y⟩
  have e := h ((flush0_9 t).mp hf) r d
  rw [emb_9, codeArr_at]
  exact e

/-- Result array 2, from what the body leaves in its blocks. -/
theorem arr_9 (c : Dev nD) (dat : Dat τ (Elt Ideal) Unit ℕ (UR sig nD τ) ℕ cfg0 c)
    (h : ∀ t, (cfg0.win 9).flush t = true → (track m).r9 c t.val (dat.after 9 t)) : dat.arrAt 9 cfg0.N = codeArr m c :=
  dat.arrAt_eq_of_covers 9 _ covers_9 fun t hf y => at_9 m c t hf _ (h t hf) y

/-- What is written at a flushing point of window 10 is the result array there. -/
theorem at_10 (c : Dev nD) (t : Fin cfg0.N) (hf : (cfg0.win 10).flush t = true) (X : S3x1024.Idx → Elt Ideal (cfg0.win 10).elt)
    (h : (track m).r10 c t.val X) (y : S3x1024.Idx) : X y = scaleArr m c (((cfg0.win 10).blk t).view.emb y) := by
  obtain ⟨b, r, rfl⟩ : ∃ b r, y = ix2 b r := ⟨y 0, y 1, ix2_self y⟩
  have hm := (flush0_10 t).mp hf
  have hb : b.val < 3 := b.isLt
  have e := h b (by omega) r
  rw [emb_10, scaleArr_at]
  exact e

/-- Result array 3, from what the body leaves in its blocks. -/
theorem arr_10 (c : Dev nD) (dat : Dat τ (Elt Ideal) Unit ℕ (UR sig nD τ) ℕ cfg0 c)
    (h : ∀ t, (cfg0.win 10).flush t = true → (track m).r10 c t.val (dat.after 10 t)) : dat.arrAt 10 cfg0.N = scaleArr m c :=
  dat.arrAt_eq_of_covers 10 _ covers_10 fun t hf y => at_10 m c t hf _ (h t hf) y

/-- After the run. -/
theorem results {r : PUnit × MemSt nD τ sig (Elt Ideal)} (h : RDat.FramePost (cfgs 0) (fun c => rdat (track m) c) (V m) r) (c : Dev nD) :
    r.2.mem ((c.tc : Thread nD τ).loc main_v2_0) = yArr m c
      ∧ r.2.mem ((c.tc : Thread nD τ).loc main_v2_1) = projArr m c
      ∧ r.2.mem ((c.tc : Thread nD τ).loc main_v2_2) = codeArr m c
      ∧ r.2.mem ((c.tc : Thread nD τ).loc main_v2_3) = scaleArr m c := by
  obtain ⟨after, hl, ha⟩ := h.exists_exact c
  have hr : ∀ w, marks w = true → ∀ t, (cfg0.win w).flush t = true → rel (track m) c w t (after w t) := fun w hw t hf =>
    (dats (track m) 0 c).toRRel_leaves (fgt := marks) (Rl := rel (track m) c) (w := w) hw (hl w t hf)
  exact ⟨(ha 7).trans (arr_7 m c _ fun t hf => hr 7 rfl t hf), (ha 8).trans (arr_8 m c _ fun t hf => hr 8 rfl t hf),
    (ha 9).trans (arr_9 m c _ fun t hf => hr 9 rfl t hf), (ha 10).trans (arr_10 m c _ fun t hf => hr 10 rfl t hf)⟩

end Cert.AttnIdeal.Hand
-- ==== Proof.Attention.Claims.lean ====
module

public import proofs.«01_k».proof.Defs
public import proofs.«01_k».proof.Proof.Attention.Result
public import proofs.«01_k».proof.Proof.Gen.AttnRefIdeal.Run

/-! The call and the reference end with the same four results on the extended reals. -/

@[expose] public section

set_option maxRecDepth 16384

noncomputable section

namespace Cert.AttnIdeal.Hand

open Cert.AttnIdeal Cert.AttnIdeal.Gen Cert.Softmax Cert.Quant Idealize.ShloMosaic Idealize.ShloMosaic.TcCoe Idealize.SL.Sem
  Idealize.ShloMosaic.Pipeline

variable (m : (ℓ : Loc nD τ sig) → Buf (Elt Ideal) ℓ)

/-- An index is its coordinates. -/
theorem split3 (i : S3x32768x512.Idx) : ∃ (b : Fin 3) (r : Fin 32768) (d : Fin 512), i = ix3 b r d :=
  ⟨i 0, i 1, i 2, funext fun a => by
    match a with
    | ⟨0, _⟩ => rfl
    | ⟨1, _⟩ => rfl
    | ⟨2, _⟩ => rfl⟩

theorem split2 (i : S3x32768.Idx) : ∃ (b : Fin 3) (r : Fin 32768), i = ix2 b r :=
  ⟨i 0, i 1, funext fun a => by
    match a with
    | ⟨0, _⟩ => rfl
    | ⟨1, _⟩ => rfl⟩

/-! The reference's four results are the arrays that the call leaves. -/

theorem ref_y_at (c : Dev nD) (b : Fin 3) (r : Fin 32768) (d : Fin 512) :
    Cert.AttnRefIdeal.Read.val_main_v48 (F := Ideal) (argQ m c) (argK m c) (argV m c) (argX m c) (argW m c) (argS m c) (argB m c) (ix3 b r d) = yArr m c (ix3 b r d) := by
  refine (Cert.AttnRefIdeal.Hand.v48_at (argQ m c) (argK m c) (argV m c) (argX m c) (argW m c) (argS m c) (argB m c) b r d).trans ?_
  rw [← outRow_eq, yArr_at]
  rfl

theorem ref_y (c : Dev nD) : Cert.AttnRefIdeal.Read.val_main_v48 (F := Ideal) (argQ m c) (argK m c) (argV m c) (argX m c) (argW m c) (argS m c) (argB m c) = yArr m c :=
  funext fun i => by
    obtain ⟨b, r, d, rfl⟩ := split3 i
    exact ref_y_at m c b r d

theorem ref_proj_at (c : Dev nD) (b : Fin 3) (r : Fin 32768) (d : Fin 512) :
    Cert.AttnRefIdeal.Read.val_main_v49 (F := Ideal) (argQ m c) (argK m c) (argV m c) (argW m c) (argS m c) (argB m c) (ix3 b r d) = projArr m c (ix3 b r d) := by
  refine (Cert.AttnRefIdeal.Hand.v49_at (argQ m c) (argK m c) (argV m c) (argW m c) (argS m c) (argB m c) b r d).trans ?_
  rw [← outRow_eq, projArr_at]
  rfl

theorem ref_proj (c : Dev nD) : Cert.AttnRefIdeal.Read.val_main_v49 (F := Ideal) (argQ m c) (argK m c) (argV m c) (argW m c) (argS m c) (argB m c) = projArr m c :=
  funext fun i => by
    obtain ⟨b, r, d, rfl⟩ := split3 i
    exact ref_proj_at m c b r d

theorem ref_codes_at (c : Dev nD) (b : Fin 3) (r : Fin 32768) (d : Fin 512) :
    Cert.AttnRefIdeal.Read.val_main_v29 (F := Ideal) (argQ m c) (argK m c) (argV m c) (ix3 b r d) = codeArr m c (ix3 b r d) := by
  refine (Cert.AttnRefIdeal.Hand.v29_at (argQ m c) (argK m c) (argV m c) b r d).trans ?_
  rw [← outRow_eq, codeArr_at]

theorem ref_codes (c : Dev nD) : Cert.AttnRefIdeal.Read.val_main_v29 (F := Ideal) (argQ m c) (argK m c) (argV m c) = codeArr m c :=
  funext fun i => by
    obtain ⟨b, r, d, rfl⟩ := split3 i
    exact ref_codes_at m c b r d

theorem ref_scale_at (c : Dev nD) (b : Fin 3) (r : Fin 32768) :
    Cert.AttnRefIdeal.Read.val_main_v22 (F := Ideal) (argQ m c) (argK m c) (argV m c) (ix2 b r) = scaleArr m c (ix2 b r) := by
  refine (Cert.AttnRefIdeal.Hand.v22_at (argQ m c) (argK m c) (argV m c) b r).trans ?_
  rw [← outRow_eq, scaleArr_at]

theorem ref_scale (c : Dev nD) : Cert.AttnRefIdeal.Read.val_main_v22 (F := Ideal) (argQ m c) (argK m c) (argV m c) = scaleArr m c :=
  funext fun i => by
    obtain ⟨b, r, rfl⟩ := split2 i
    exact ref_scale_at m c b r

/-- The two programs, from the same arguments, end with the same results. -/
theorem algebraic [Cert.AttnIdeal.Facts] [Cert.AttnRefIdeal.Facts] : Cert.algebraic_AttnIdeal_AttnRefIdeal := by
  intro m g m' g' _ hag
  refine ⟨yArr m, projArr m, codeArr m, scaleArr m, ?_, ?_⟩
  · exact (θ_run defs _ _).mono (fun _ h c => by
      obtain ⟨h0, h1, h2, h3⟩ := results m h c
      exact ⟨h0, h1, h2, h3, args_kept (track m) h c⟩) (run_main g (track m))
  · refine (θ_run Cert.AttnRefIdeal.defs _ _).mono (fun _ h c => ?_) (Cert.AttnRefIdeal.Value.run m' g')
    obtain ⟨h0, h1, h2, h3, hk⟩ := h c
    obtain ⟨a0, a1, a2, a3, a4, a5, a6⟩ := hag c
    refine ⟨h0.trans ?_, h1.trans ?_, h2.trans ?_, h3.trans ?_, hk⟩
    · rw [Cert.AttnRefIdeal.Read.val_main_v48_eq, a0, a1, a2, a3, a4, a5, a6]
      exact ref_y m c
    · rw [Cert.AttnRefIdeal.Read.val_main_v49_eq, a0, a1, a2, a4, a5, a6]
      exact ref_proj m c
    · rw [Cert.AttnRefIdeal.Read.val_main_v29_eq, a0, a1, a2]
      exact ref_codes m c
    · rw [Cert.AttnRefIdeal.Read.val_main_v22_eq, a0, a1, a2]
      exact ref_scale m c

end Cert.AttnIdeal.Hand
-- ==== Proof.Attention.Constants.lean ====
module

public import proofs.«01_k».proof.Defs
public import Idealize.ShloMosaic.PureOps.IdealRules

/-! The two named constants: the binary float printed for each is the float nearest the real number it stands for. -/

@[expose] public section

noncomputable section

namespace Cert.AttnIdeal.Hand

open Idealize.ShloMosaic

/-- Putting the reals in place of the constants of the call changes nothing in floating point. -/
theorem preserves : Cert.preserves_Attn_AttnIdeal :=
  ⟨IdealRules.named_const.statement Cert.AttnIdeal.κ "log2e" .f32 0x3FB8AA3B#32 (((Real.log 2)⁻¹ : ℝ) : EReal) rfl,
   IdealRules.named_const.statement Cert.AttnIdeal.κ "inv_127" .f32 0x3C010204#32 ((1/127 : ℝ) : EReal) rfl⟩

end Cert.AttnIdeal.Hand
-- ==== Proof.QkvGiven.Points.lean ====
module

public import proofs.«01_k».proof.Proof.Gen.Qkv.Skeleton
public import proofs.«01_k».proof.Proof.Gen.Qkv.Frame

/-! The grid points of the projection call: the point at which the weights are converted, the staging memrefs the body is
given, and the scratch buffers it carries from point to point. -/

@[expose] public section

set_option maxRecDepth 16384

noncomputable section

namespace Cert.Qkv.Hand

open Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch of the body -/

/-- The condition of the branch that converts the weights, from the grid coordinates. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — decided over the grid. -/
theorem hcond0_0 : ∀ t : Fin cfg0.N, cond0_0 (grid0.coords t) ↔ t.val = 0 :=
  (by decide +kernel : ∀ t : Fin grid0.N, cond0_0 (grid0.coords t) ↔ t.val = 0)

/-! ## Each window's staging memref at a point, and its wholeness -/

abbrev ms0_0 (t : Fin cfg0.N) : Memref sig .tc .vmem S1x1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024x512 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1024x512 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1024x512 .i8 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S3x1024 .f32 := win0_17.stage (cfg0.slots t 17)
abbrev hs0_17 (t : Fin cfg0.N) : (ms0_17 t).IsWhole := hstage0_17 ((cfg0.slots t 17).cast nbuf0_17)

/-! The scratch buffers: the three converted weights. -/

abbrev scM0_0 : Memref sig .tc .vmem S512x512 .bf16 := Memref.whole cc0_scratch0
abbrev scM0_1 : Memref sig .tc .vmem S512x512 .bf16 := Memref.whole cc0_scratch1
abbrev scM0_2 : Memref sig .tc .vmem S512x512 .bf16 := Memref.whole cc0_scratch2

/-- The scratch buffers owned at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Qkv.Hand
-- ==== Proof.QkvGiven.Buffers.lean ====
module

public import Idealize.ShloMosaic.Lib.VecWindow
public import proofs.«01_k».proof.Proof.QkvGiven.Points

/-! The buffers one point of the projection call works on, named together with their contents, and what the body stores in
them. -/

@[expose] public section

set_option maxRecDepth 16384

noncomputable section

namespace Cert.Qkv.Hand

open Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Loads and stores of a whole buffer, at the shapes of this call. -/

theorem load_S512x512 {e : EltTy} {v : View sig .tc .vmem S512x512 e} (f : v.ty.Contents (Elt F)) :
    v.readAt (Elt F) (Rect.unit (s := S512x512) ![0, 0] S512x512.size inb_S512x512_S512x512_0_0).toLoadRect f = v.read (Elt F) f :=
  View.readAt_full v f _

theorem load_S512x1 {e : EltTy} {v : View sig .tc .vmem S512x1 e} (f : v.ty.Contents (Elt F)) :
    v.readAt (Elt F) (Rect.unit (s := S512x1) ![0, 0] S512x1.size inb_S512x1_S512x1_0_0).toLoadRect f = v.read (Elt F) f :=
  View.readAt_full v f _

theorem load_S1x512 {e : EltTy} {v : View sig .tc .vmem S1x512 e} (f : v.ty.Contents (Elt F)) :
    v.readAt (Elt F) (Rect.unit (s := S1x512) ![0, 0] S1x512.size inb_S1x512_S1x512_0_0).toLoadRect f = v.read (Elt F) f :=
  View.readAt_full v f _

theorem load_S1x1x512 {e : EltTy} {v : View sig .tc .vmem S1x1x512 e} (f : v.ty.Contents (Elt F)) :
    v.readAt (Elt F) (Rect.unit (s := S1x1x512) ![0, 0, 0] S1x1x512.size inb_S1x1x512_S1x1x512_0_0_0).toLoadRect f = v.read (Elt F) f :=
  View.readAt_full v f _

theorem load_S1x1024x512 {e : EltTy} {v : View sig .tc .vmem S1x1024x512 e} (f : v.ty.Contents (Elt F)) :
    v.readAt (Elt F) (Rect.unit (s := S1x1024x512) ![0, 0, 0] S1x1024x512.size inb_S1x1024x512_S1x1024x512_0_0_0).toLoadRect f = v.read (Elt F) f :=
  View.readAt_full v f _

theorem load_S1x512x1024 {e : EltTy} {v : View sig .tc .vmem S1x512x1024 e} (f : v.ty.Contents (Elt F)) :
    v.readAt (Elt F) (Rect.unit (s := S1x512x1024) ![0, 0, 0] S1x512x1024.size inb_S1x512x1024_S1x512x1024_0_0_0).toLoadRect f = v.read (Elt F) f :=
  View.readAt_full v f _

theorem store_S512x512 {e : EltTy} {v : View sig .tc .vmem S512x512 e} (f : v.ty.Contents (Elt F))
    (w : S512x512.Idx → Elt F e) (L : List (View.Piece (Elt F) S512x512 e)) :
    v.read (Elt F) (v.writes (Elt F) f (⟨Rect.unit (s := S512x512) ![0, 0] S512x512.size inb_S512x512_S512x512_0_0, w⟩ :: L)) = w :=
  View.read_writes_full v f _ w L

theorem store_S1x1024x512 {e : EltTy} {v : View sig .tc .vmem S1x1024x512 e} (f : v.ty.Contents (Elt F))
    (w : S1x1024x512.Idx → Elt F e) (L : List (View.Piece (Elt F) S1x1024x512 e)) :
    v.read (Elt F) (v.writes (Elt F) f (⟨Rect.unit (s := S1x1024x512) ![0, 0, 0] S1x1024x512.size inb_S1x1024x512_S1x1024x512_0_0_0, w⟩ :: L)) = w :=
  View.read_writes_full v f _ w L

theorem store_S1x512x1024 {e : EltTy} {v : View sig .tc .vmem S1x512x1024 e} (f : v.ty.Contents (Elt F))
    (w : S1x512x1024.Idx → Elt F e) (L : List (View.Piece (Elt F) S1x512x1024 e)) :
    v.read (Elt F) (v.writes (Elt F) f (⟨Rect.unit (s := S1x512x1024) ![0, 0, 0] S1x512x1024.size inb_S1x512x1024_S1x512x1024_0_0_0, w⟩ :: L)) = w :=
  View.read_writes_full v f _ w L

/-- The scale block with the row of the point's batch replaced. -/
def putScale (i : grid0.Coords) (y : Vec F S3x1024 .f32) (row : Vec F S1x1024 .f32) : Vec F S3x1024 .f32 :=
  VecWindow.put y (k0_off1 i) S1x1024.size row

theorem store_scale (i : grid0.Coords) {v : View sig .tc .vmem S3x1024 .f32} (f : v.ty.Contents (Elt F))
    (h : ∀ a, k0_off1 i a + S1x1024.size a ≤ S3x1024.size a) (w : Vec F S1x1024 .f32) :
    v.read (Elt F) (v.writes (Elt F) f [⟨Rect.unit (s := S3x1024) (k0_off1 i) S1x1024.size h, w⟩])
      = putScale i (v.read (Elt F) f) w := by
  rw [View.read_writes_cons_put v f h w [] rfl]; rfl

/-! What the body stores, from its blocks and the converted weights `w`. -/

/-- The lower bound of the codes. -/
abbrev low : F .f32 := Scalar.ofBits .f32 0xC2FE0000#32

/-- The queries. -/
def outQ (x0 : Vec F S1x1024x512 .bf16) (x1 x2 : Vec F S1x1x512 .f32) (x3 x4 : Vec F S1x512 .f32) (w : Vec F S512x512 .bf16) (s b : Vec F S1x512 .f32) :
    Vec F S1x1024x512 .bf16 :=
  k0_pay13 (k0_pay7 x0 x1 x2 x3 x4) (k0_pay8 x0 x1 x2 x3 x4) low w s b

/-- The keys, transposed. -/
def outK (x0 : Vec F S1x1024x512 .bf16) (x1 x2 : Vec F S1x1x512 .f32) (x3 x4 : Vec F S1x512 .f32) (w : Vec F S512x512 .bf16) (s : Vec F S512x1 .f32) :
    Vec F S1x512x1024 .bf16 :=
  k0_pay2 (k0_pay10 (k0_pay7 x0 x1 x2 x3 x4)) (k0_pay12 (k0_pay8 x0 x1 x2 x3 x4) low) w s

/-- The values. -/
def outV (x0 : Vec F S1x1024x512 .bf16) (x1 x2 : Vec F S1x1x512 .f32) (x3 x4 : Vec F S1x512 .f32) (w : Vec F S512x512 .bf16) (s b : Vec F S1x512 .f32) :
    Vec F S1x1024x512 .bf16 :=
  k0_pay1 (k0_pay14 (k0_pay7 x0 x1 x2 x3 x4) (k0_pay8 x0 x1 x2 x3 x4) low w) (k0_pay15 s) b

/-- The codes. -/
def outCodes (x0 : Vec F S1x1024x512 .bf16) (x1 x2 : Vec F S1x1x512 .f32) (x3 x4 : Vec F S1x512 .f32) : Vec F S1x1024x512 .i8 :=
  k0_pay11 (k0_pay8 x0 x1 x2 x3 x4) low

/-- The scales, as one row. -/
def outScales (x0 : Vec F S1x1024x512 .bf16) (x1 x2 : Vec F S1x1x512 .f32) (x3 x4 : Vec F S1x512 .f32) : Vec F S1x1024 .f32 :=
  k0_pay10 (k0_pay7 x0 x1 x2 x3 x4)

/-! Equal blocks give equal results. -/

theorem outQ_congr {x0 x0' : Vec F S1x1024x512 .bf16} {x1 x1' x2 x2' : Vec F S1x1x512 .f32} {x3 x3' x4 x4' : Vec F S1x512 .f32}
    {w w' : Vec F S512x512 .bf16} {s s' b b' : Vec F S1x512 .f32} (h0 : x0 = x0') (h1 : x1 = x1') (h2 : x2 = x2') (h3 : x3 = x3')
    (h4 : x4 = x4') (h5 : w = w') (h6 : s = s') (h7 : b = b') : outQ x0 x1 x2 x3 x4 w s b = outQ x0' x1' x2' x3' x4' w' s' b' := by
  subst h0 h1 h2 h3 h4 h5 h6 h7; rfl

theorem outK_congr {x0 x0' : Vec F S1x1024x512 .bf16} {x1 x1' x2 x2' : Vec F S1x1x512 .f32} {x3 x3' x4 x4' : Vec F S1x512 .f32}
    {w w' : Vec F S512x512 .bf16} {s s' : Vec F S512x1 .f32} (h0 : x0 = x0') (h1 : x1 = x1') (h2 : x2 = x2') (h3 : x3 = x3')
    (h4 : x4 = x4') (h5 : w = w') (h6 : s = s') : outK x0 x1 x2 x3 x4 w s = outK x0' x1' x2' x3' x4' w' s' := by
  subst h0 h1 h2 h3 h4 h5 h6; rfl

theorem outV_congr {x0 x0' : Vec F S1x1024x512 .bf16} {x1 x1' x2 x2' : Vec F S1x1x512 .f32} {x3 x3' x4 x4' : Vec F S1x512 .f32}
    {w w' : Vec F S512x512 .bf16} {s s' b b' : Vec F S1x512 .f32} (h0 : x0 = x0') (h1 : x1 = x1') (h2 : x2 = x2') (h3 : x3 = x3')
    (h4 : x4 = x4') (h5 : w = w') (h6 : s = s') (h7 : b = b') : outV x0 x1 x2 x3 x4 w s b = outV x0' x1' x2' x3' x4' w' s' b' := by
  subst h0 h1 h2 h3 h4 h5 h6 h7; rfl

theorem outCodes_congr {x0 x0' : Vec F S1x1024x512 .bf16} {x1 x1' x2 x2' : Vec F S1x1x512 .f32} {x3 x3' x4 x4' : Vec F S1x512 .f32}
    (h0 : x0 = x0') (h1 : x1 = x1') (h2 : x2 = x2') (h3 : x3 = x3') (h4 : x4 = x4') :
    outCodes x0 x1 x2 x3 x4 = outCodes x0' x1' x2' x3' x4' := by
  subst h0 h1 h2 h3 h4; rfl

theorem outScales_congr {x0 x0' : Vec F S1x1024x512 .bf16} {x1 x1' x2 x2' : Vec F S1x1x512 .f32} {x3 x3' x4 x4' : Vec F S1x512 .f32}
    (h0 : x0 = x0') (h1 : x1 = x1') (h2 : x2 = x2') (h3 : x3 = x3') (h4 : x4 = x4') :
    outScales x0 x1 x2 x3 x4 = outScales x0' x1' x2' x3' x4' := by
  subst h0 h1 h2 h3 h4; rfl

/-- The body's buffers with their contents: the thirteen input blocks, the five output blocks and the three converted
    weights. -/
def held (c : Dev nD)
    (arg2 : Memref sig .tc .vmem S1x1024x512 .bf16)
    (arg3 : Memref sig .tc .vmem S1x1x512 .f32)
    (arg4 : Memref sig .tc .vmem S1x1x512 .f32)
    (arg5 : Memref sig .tc .vmem S1x512 .f32)
    (arg6 : Memref sig .tc .vmem S1x512 .f32)
    (arg7 : Memref sig .tc .vmem S512x512 .i8)
    (arg8 : Memref sig .tc .vmem S512x512 .i8)
    (arg9 : Memref sig .tc .vmem S512x512 .i8)
    (arg10 : Memref sig .tc .vmem S1x512 .f32)
    (arg11 : Memref sig .tc .vmem S512x1 .f32)
    (arg12 : Memref sig .tc .vmem S1x512 .f32)
    (arg13 : Memref sig .tc .vmem S1x512 .f32)
    (arg14 : Memref sig .tc .vmem S1x512 .f32)
    (arg15 : Memref sig .tc .vmem S1x1024x512 .bf16)
    (arg16 : Memref sig .tc .vmem S1x512x1024 .bf16)
    (arg17 : Memref sig .tc .vmem S1x1024x512 .bf16)
    (arg18 : Memref sig .tc .vmem S1x1024x512 .i8)
    (arg19 : Memref sig .tc .vmem S3x1024 .f32)
    (arg20 : Memref sig .tc .vmem S512x512 .bf16)
    (arg21 : Memref sig .tc .vmem S512x512 .bf16)
    (arg22 : Memref sig .tc .vmem S512x512 .bf16)
    (x0 : Vec F S1x1024x512 .bf16)
    (x1 : Vec F S1x1x512 .f32)
    (x2 : Vec F S1x1x512 .f32)
    (x3 : Vec F S1x512 .f32)
    (x4 : Vec F S1x512 .f32)
    (x5 : Vec F S512x512 .i8)
    (x6 : Vec F S512x512 .i8)
    (x7 : Vec F S512x512 .i8)
    (x8 : Vec F S1x512 .f32)
    (x9 : Vec F S512x1 .f32)
    (x10 : Vec F S1x512 .f32)
    (x11 : Vec F S1x512 .f32)
    (x12 : Vec F S1x512 .f32)
    (y13 : Vec F S1x1024x512 .bf16)
    (y14 : Vec F S1x512x1024 .bf16)
    (y15 : Vec F S1x1024x512 .bf16)
    (y16 : Vec F S1x1024x512 .i8)
    (y17 : Vec F S3x1024 .f32)
    (s0 : Vec F S512x512 .bf16)
    (s1 : Vec F S512x512 .bf16)
    (s2 : Vec F S512x512 .bf16) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17 ∗ owns (c : Thread nD τ) arg20 fullShare s0 ∗ owns (c : Thread nD τ) arg21 fullShare s1 ∗ owns (c : Thread nD τ) arg22 fullShare s2)

end Cert.Qkv.Hand
-- ==== Proof.QkvGiven.RunA.lean ====
module

public import proofs.«01_k».proof.Proof.QkvGiven.Buffers

/-! The first point of the projection call: the weights are converted first. -/

@[expose] public section

set_option maxRecDepth 16384

noncomputable section

namespace Cert.Qkv.Hand

open Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first point. -/
theorem run_A (c : Dev nD) (i : grid0.Coords)
    (arg2 : Memref sig .tc .vmem S1x1024x512 .bf16) (harg2 : arg2.IsWhole)
    (arg3 : Memref sig .tc .vmem S1x1x512 .f32) (harg3 : arg3.IsWhole)
    (arg4 : Memref sig .tc .vmem S1x1x512 .f32) (harg4 : arg4.IsWhole)
    (arg5 : Memref sig .tc .vmem S1x512 .f32) (harg5 : arg5.IsWhole)
    (arg6 : Memref sig .tc .vmem S1x512 .f32) (harg6 : arg6.IsWhole)
    (arg7 : Memref sig .tc .vmem S512x512 .i8) (harg7 : arg7.IsWhole)
    (arg8 : Memref sig .tc .vmem S512x512 .i8) (harg8 : arg8.IsWhole)
    (arg9 : Memref sig .tc .vmem S512x512 .i8) (harg9 : arg9.IsWhole)
    (arg10 : Memref sig .tc .vmem S1x512 .f32) (harg10 : arg10.IsWhole)
    (arg11 : Memref sig .tc .vmem S512x1 .f32) (harg11 : arg11.IsWhole)
    (arg12 : Memref sig .tc .vmem S1x512 .f32) (harg12 : arg12.IsWhole)
    (arg13 : Memref sig .tc .vmem S1x512 .f32) (harg13 : arg13.IsWhole)
    (arg14 : Memref sig .tc .vmem S1x512 .f32) (harg14 : arg14.IsWhole)
    (arg15 : Memref sig .tc .vmem S1x1024x512 .bf16) (harg15 : arg15.IsWhole)
    (arg16 : Memref sig .tc .vmem S1x512x1024 .bf16) (harg16 : arg16.IsWhole)
    (arg17 : Memref sig .tc .vmem S1x1024x512 .bf16) (harg17 : arg17.IsWhole)
    (arg18 : Memref sig .tc .vmem S1x1024x512 .i8) (harg18 : arg18.IsWhole)
    (arg19 : Memref sig .tc .vmem S3x1024 .f32) (harg19 : arg19.IsWhole)
    (arg20 : Memref sig .tc .vmem S512x512 .bf16) (harg20 : arg20.IsWhole)
    (arg21 : Memref sig .tc .vmem S512x512 .bf16) (harg21 : arg21.IsWhole)
    (arg22 : Memref sig .tc .vmem S512x512 .bf16) (harg22 : arg22.IsWhole)
    (hc0 : cond0_0 i)
    (x0 : Vec F S1x1024x512 .bf16)
    (x1 : Vec F S1x1x512 .f32)
    (x2 : Vec F S1x1x512 .f32)
    (x3 : Vec F S1x512 .f32)
    (x4 : Vec F S1x512 .f32)
    (x5 : Vec F S512x512 .i8)
    (x6 : Vec F S512x512 .i8)
    (x7 : Vec F S512x512 .i8)
    (x8 : Vec F S1x512 .f32)
    (x9 : Vec F S512x1 .f32)
    (x10 : Vec F S1x512 .f32)
    (x11 : Vec F S1x512 .f32)
    (x12 : Vec F S1x512 .f32)
    (y13 : Vec F S1x1024x512 .bf16)
    (y14 : Vec F S1x512x1024 .bf16)
    (y15 : Vec F S1x1024x512 .bf16)
    (y16 : Vec F S1x1024x512 .i8)
    (y17 : Vec F S3x1024 .f32)
    (s0 : Vec F S512x512 .bf16)
    (s1 : Vec F S512x512 .bf16)
    (s2 : Vec F S512x512 .bf16) (E : Set ℕ) (K : PUnit → sProp 𝕄) :
    iprop(held c arg2 arg3 arg4 arg5 arg6 arg7 arg8 arg9 arg10 arg11 arg12 arg13 arg14 arg15 arg16 arg17 arg18 arg19 arg20 arg21 arg22 x0 x1 x2 x3 x4 x5 x6 x7 x8 x9 x10 x11 x12 y13 y14 y15 y16 y17 s0 s1 s2
        ∗ (held c arg2 arg3 arg4 arg5 arg6 arg7 arg8 arg9 arg10 arg11 arg12 arg13 arg14 arg15 arg16 arg17 arg18 arg19 arg20 arg21 arg22
            x0 x1 x2 x3 x4 x5 x6 x7 x8 x9 x10 x11 x12 (outQ x0 x1 x2 x3 x4 (k0_pay3 x5) x8 x11) (outK x0 x1 x2 x3 x4 (k0_pay4 x6) x9) (outV x0 x1 x2 x3 x4 (k0_pay5 x7) x10 x12) (outCodes x0 x1 x2 x3 x4) (putScale i y17 (outScales x0 x1 x2 x3 x4)) (k0_pay3 x5) (k0_pay4 x6) (k0_pay5 x7) -∗ K ⟨⟩))
      ⊢ wp frame (wpE (defs₀ (F := F)) Variants.none c none) E (cc0_gn_quant_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_gn_quant_qkv_eq_skeleton]; unfold cc0_gn_quant_qkv_skel
  simp only [k0_part1_eq_skeleton, k0_part2_eq_skeleton]; unfold k0_part1_skel k0_part2_skel
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  obtain rfl := harg20.eq_unread hf20
  obtain rfl := harg21.eq_unread hf21
  obtain rfl := harg22.eq_unread hf22
  sl_exec (disch := first | sl_exact hc0)
  sl_step
  have e20 : run_A.sl.v51 c arg7 harg7 arg20 x5 = k0_pay3 x5 := by
    unfold run_A.sl.v51 run_A.sl.H20_1
    exact (View.readCov_full _ _ _ _ _).trans (congrArg k0_pay3 ((load_S512x512 _).trans (harg7.read_unread _)))
  have e21 : run_A.sl.v83 c arg8 harg8 arg21 x6 = k0_pay4 x6 := by
    unfold run_A.sl.v83 run_A.sl.H21_1
    exact (View.readCov_full _ _ _ _ _).trans (congrArg k0_pay4 ((load_S512x512 _).trans (harg8.read_unread _)))
  have e22 : run_A.sl.v67 c arg9 harg9 arg22 x7 = k0_pay5 x7 := by
    unfold run_A.sl.v67 run_A.sl.H22_1
    exact (View.readCov_full _ _ _ _ _).trans (congrArg k0_pay5 ((load_S512x512 _).trans (harg9.read_unread _)))
  iapply Hk
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact harg13.read_unread _
  isplitl [H14]
  · iexists _; isplitr; swap
    · iexact H14
    · ipureintro; exact harg14.read_unread _
  isplitl [H15]
  · iexists _; isplitr; swap
    · iexact H15
    · ipureintro; dsimp only; exact (store_S1x1024x512 _ _ _).trans (outQ_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _)) e20 ((load_S1x512 _).trans (harg10.read_unread _)) ((load_S1x512 _).trans (harg13.read_unread _)))
  isplitl [H16]
  · iexists _; isplitr; swap
    · iexact H16
    · ipureintro; dsimp only; exact (store_S1x512x1024 _ _ _).trans (outK_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _)) e21 ((load_S512x1 _).trans (harg11.read_unread _)))
  isplitl [H17]
  · iexists _; isplitr; swap
    · iexact H17
    · ipureintro; dsimp only; exact (store_S1x1024x512 _ _ _).trans (outV_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _)) e22 ((load_S1x512 _).trans (harg12.read_unread _)) ((load_S1x512 _).trans (harg14.read_unread _)))
  isplitl [H18]
  · iexists _; isplitr; swap
    · iexact H18
    · ipureintro; dsimp only; exact (store_S1x1024x512 _ _ _).trans (outCodes_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _)))
  isplitl [H19]
  · iexists _; isplitr; swap
    · iexact H19
    · ipureintro; dsimp only; exact (store_scale _ _ _ _).trans (congr (congrArg (putScale i) (harg19.read_unread _)) (outScales_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _))))
  isplitl [H20]
  · iexists _; isplitr; swap
    · iexact H20
    · ipureintro; unfold run_A.sl.H20_1; exact (store_S512x512 _ _ _).trans (congrArg k0_pay3 ((load_S512x512 _).trans (harg7.read_unread _)))
  isplitl [H21]
  · iexists _; isplitr; swap
    · iexact H21
    · ipureintro; unfold run_A.sl.H21_1; exact (store_S512x512 _ _ _).trans (congrArg k0_pay4 ((load_S512x512 _).trans (harg8.read_unread _)))
  · iexists _; isplitr; swap
    · iexact H22
    · ipureintro; unfold run_A.sl.H22_1; exact (store_S512x512 _ _ _).trans (congrArg k0_pay5 ((load_S512x512 _).trans (harg9.read_unread _)))

end Cert.Qkv.Hand
-- ==== Proof.QkvGiven.RunB.lean ====
module

public import proofs.«01_k».proof.Proof.QkvGiven.Buffers

/-! A point of the projection call after the first: the weights are those converted at the first point. -/

@[expose] public section

set_option maxRecDepth 16384

noncomputable section

namespace Cert.Qkv.Hand

open Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A point after the first. -/
theorem run_B (c : Dev nD) (i : grid0.Coords)
    (arg2 : Memref sig .tc .vmem S1x1024x512 .bf16) (harg2 : arg2.IsWhole)
    (arg3 : Memref sig .tc .vmem S1x1x512 .f32) (harg3 : arg3.IsWhole)
    (arg4 : Memref sig .tc .vmem S1x1x512 .f32) (harg4 : arg4.IsWhole)
    (arg5 : Memref sig .tc .vmem S1x512 .f32) (harg5 : arg5.IsWhole)
    (arg6 : Memref sig .tc .vmem S1x512 .f32) (harg6 : arg6.IsWhole)
    (arg7 : Memref sig .tc .vmem S512x512 .i8) (harg7 : arg7.IsWhole)
    (arg8 : Memref sig .tc .vmem S512x512 .i8) (harg8 : arg8.IsWhole)
    (arg9 : Memref sig .tc .vmem S512x512 .i8) (harg9 : arg9.IsWhole)
    (arg10 : Memref sig .tc .vmem S1x512 .f32) (harg10 : arg10.IsWhole)
    (arg11 : Memref sig .tc .vmem S512x1 .f32) (harg11 : arg11.IsWhole)
    (arg12 : Memref sig .tc .vmem S1x512 .f32) (harg12 : arg12.IsWhole)
    (arg13 : Memref sig .tc .vmem S1x512 .f32) (harg13 : arg13.IsWhole)
    (arg14 : Memref sig .tc .vmem S1x512 .f32) (harg14 : arg14.IsWhole)
    (arg15 : Memref sig .tc .vmem S1x1024x512 .bf16) (harg15 : arg15.IsWhole)
    (arg16 : Memref sig .tc .vmem S1x512x1024 .bf16) (harg16 : arg16.IsWhole)
    (arg17 : Memref sig .tc .vmem S1x1024x512 .bf16) (harg17 : arg17.IsWhole)
    (arg18 : Memref sig .tc .vmem S1x1024x512 .i8) (harg18 : arg18.IsWhole)
    (arg19 : Memref sig .tc .vmem S3x1024 .f32) (harg19 : arg19.IsWhole)
    (arg20 : Memref sig .tc .vmem S512x512 .bf16) (harg20 : arg20.IsWhole)
    (arg21 : Memref sig .tc .vmem S512x512 .bf16) (harg21 : arg21.IsWhole)
    (arg22 : Memref sig .tc .vmem S512x512 .bf16) (harg22 : arg22.IsWhole)
    (hc0 : ¬cond0_0 i)
    (x0 : Vec F S1x1024x512 .bf16)
    (x1 : Vec F S1x1x512 .f32)
    (x2 : Vec F S1x1x512 .f32)
    (x3 : Vec F S1x512 .f32)
    (x4 : Vec F S1x512 .f32)
    (x5 : Vec F S512x512 .i8)
    (x6 : Vec F S512x512 .i8)
    (x7 : Vec F S512x512 .i8)
    (x8 : Vec F S1x512 .f32)
    (x9 : Vec F S512x1 .f32)
    (x10 : Vec F S1x512 .f32)
    (x11 : Vec F S1x512 .f32)
    (x12 : Vec F S1x512 .f32)
    (y13 : Vec F S1x1024x512 .bf16)
    (y14 : Vec F S1x512x1024 .bf16)
    (y15 : Vec F S1x1024x512 .bf16)
    (y16 : Vec F S1x1024x512 .i8)
    (y17 : Vec F S3x1024 .f32)
    (s0 : Vec F S512x512 .bf16)
    (s1 : Vec F S512x512 .bf16)
    (s2 : Vec F S512x512 .bf16) (E : Set ℕ) (K : PUnit → sProp 𝕄) :
    iprop(held c arg2 arg3 arg4 arg5 arg6 arg7 arg8 arg9 arg10 arg11 arg12 arg13 arg14 arg15 arg16 arg17 arg18 arg19 arg20 arg21 arg22 x0 x1 x2 x3 x4 x5 x6 x7 x8 x9 x10 x11 x12 y13 y14 y15 y16 y17 s0 s1 s2
        ∗ (held c arg2 arg3 arg4 arg5 arg6 arg7 arg8 arg9 arg10 arg11 arg12 arg13 arg14 arg15 arg16 arg17 arg18 arg19 arg20 arg21 arg22
            x0 x1 x2 x3 x4 x5 x6 x7 x8 x9 x10 x11 x12 (outQ x0 x1 x2 x3 x4 s0 x8 x11) (outK x0 x1 x2 x3 x4 s1 x9) (outV x0 x1 x2 x3 x4 s2 x10 x12) (outCodes x0 x1 x2 x3 x4) (putScale i y17 (outScales x0 x1 x2 x3 x4)) s0 s1 s2 -∗ K ⟨⟩))
      ⊢ wp frame (wpE (defs₀ (F := F)) Variants.none c none) E (cc0_gn_quant_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_gn_quant_qkv_eq_skeleton]; unfold cc0_gn_quant_qkv_skel
  simp only [k0_part1_eq_skeleton, k0_part2_eq_skeleton]; unfold k0_part1_skel k0_part2_skel
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  obtain rfl := harg20.eq_unread hf20
  obtain rfl := harg21.eq_unread hf21
  obtain rfl := harg22.eq_unread hf22
  sl_exec (disch := first | sl_exact hc0)
  sl_step
  iapply Hk
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact harg13.read_unread _
  isplitl [H14]
  · iexists _; isplitr; swap
    · iexact H14
    · ipureintro; exact harg14.read_unread _
  isplitl [H15]
  · iexists _; isplitr; swap
    · iexact H15
    · ipureintro; dsimp only; exact (store_S1x1024x512 _ _ _).trans (outQ_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _)) ((load_S512x512 _).trans (harg20.read_unread _)) ((load_S1x512 _).trans (harg10.read_unread _)) ((load_S1x512 _).trans (harg13.read_unread _)))
  isplitl [H16]
  · iexists _; isplitr; swap
    · iexact H16
    · ipureintro; dsimp only; exact (store_S1x512x1024 _ _ _).trans (outK_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _)) ((load_S512x512 _).trans (harg21.read_unread _)) ((load_S512x1 _).trans (harg11.read_unread _)))
  isplitl [H17]
  · iexists _; isplitr; swap
    · iexact H17
    · ipureintro; dsimp only; exact (store_S1x1024x512 _ _ _).trans (outV_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _)) ((load_S512x512 _).trans (harg22.read_unread _)) ((load_S1x512 _).trans (harg12.read_unread _)) ((load_S1x512 _).trans (harg14.read_unread _)))
  isplitl [H18]
  · iexists _; isplitr; swap
    · iexact H18
    · ipureintro; dsimp only; exact (store_S1x1024x512 _ _ _).trans (outCodes_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _)))
  isplitl [H19]
  · iexists _; isplitr; swap
    · iexact H19
    · ipureintro; dsimp only; exact (store_scale _ _ _ _).trans (congr (congrArg (putScale i) (harg19.read_unread _)) (outScales_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _))))
  isplitl [H20]
  · iexists _; isplitr; swap
    · iexact H20
    · ipureintro; exact harg20.read_unread _
  isplitl [H21]
  · iexists _; isplitr; swap
    · iexact H21
    · ipureintro; exact harg21.read_unread _
  · iexists _; isplitr; swap
    · iexact H22
    · ipureintro; exact harg22.read_unread _

end Cert.Qkv.Hand
-- ==== Proof.QkvGiven.Data.lean ====
module

public import Idealize.ShloMosaic.Lib.Pipeline.DatRel
public import Idealize.ShloMosaic.Lib.Pointwise.Index
public import proofs.«01_k».proof.Proof.QkvGiven.RunA
public import proofs.«01_k».proof.Proof.QkvGiven.RunB

/-! What is claimed of the converted weights and of the output blocks from grid point to grid point of the projection call. -/

@[expose] public section

set_option maxRecDepth 16384

noncomputable section

namespace Cert.Qkv.Hand

open Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The batch of a grid point. -/
def bOf (n : ℕ) : Fin 3 := ⟨n % 3, Nat.mod_lt _ (by decide)⟩

/-! The thirteen input blocks at a point. -/

abbrev X0 (c : Dev nD) (t : Fin cfg0.N) : Vec F S1x1024x512 .bf16 := iblk m c 0 t
abbrev X1 (c : Dev nD) (t : Fin cfg0.N) : Vec F S1x1x512 .f32 := iblk m c 1 t
abbrev X2 (c : Dev nD) (t : Fin cfg0.N) : Vec F S1x1x512 .f32 := iblk m c 2 t
abbrev X3 (c : Dev nD) (t : Fin cfg0.N) : Vec F S1x512 .f32 := iblk m c 3 t
abbrev X4 (c : Dev nD) (t : Fin cfg0.N) : Vec F S1x512 .f32 := iblk m c 4 t
abbrev X5 (c : Dev nD) (t : Fin cfg0.N) : Vec F S512x512 .i8 := iblk m c 5 t
abbrev X6 (c : Dev nD) (t : Fin cfg0.N) : Vec F S512x512 .i8 := iblk m c 6 t
abbrev X7 (c : Dev nD) (t : Fin cfg0.N) : Vec F S512x512 .i8 := iblk m c 7 t
abbrev X8 (c : Dev nD) (t : Fin cfg0.N) : Vec F S1x512 .f32 := iblk m c 8 t
abbrev X9 (c : Dev nD) (t : Fin cfg0.N) : Vec F S512x1 .f32 := iblk m c 9 t
abbrev X10 (c : Dev nD) (t : Fin cfg0.N) : Vec F S1x512 .f32 := iblk m c 10 t
abbrev X11 (c : Dev nD) (t : Fin cfg0.N) : Vec F S1x512 .f32 := iblk m c 11 t
abbrev X12 (c : Dev nD) (t : Fin cfg0.N) : Vec F S1x512 .f32 := iblk m c 12 t

/-! The weights are the same block at every point. -/

theorem X5_const (c : Dev nD) (t t' : Fin cfg0.N) : X5 m c t = X5 m c t' := rfl
theorem X6_const (c : Dev nD) (t t' : Fin cfg0.N) : X6 m c t = X6 m c t' := rfl
theorem X7_const (c : Dev nD) (t t' : Fin cfg0.N) : X7 m c t = X7 m c t' := rfl

/-! What the body stores at a point, from the input blocks. -/

def Q (c : Dev nD) (t : Fin cfg0.N) : Vec F S1x1024x512 .bf16 := outQ (X0 m c t) (X1 m c t) (X2 m c t) (X3 m c t) (X4 m c t) (k0_pay3 (X5 m c t)) (X8 m c t) (X11 m c t)
def Kt (c : Dev nD) (t : Fin cfg0.N) : Vec F S1x512x1024 .bf16 := outK (X0 m c t) (X1 m c t) (X2 m c t) (X3 m c t) (X4 m c t) (k0_pay4 (X6 m c t)) (X9 m c t)
def Vv (c : Dev nD) (t : Fin cfg0.N) : Vec F S1x1024x512 .bf16 := outV (X0 m c t) (X1 m c t) (X2 m c t) (X3 m c t) (X4 m c t) (k0_pay5 (X7 m c t)) (X10 m c t) (X12 m c t)
def Codes (c : Dev nD) (t : Fin cfg0.N) : Vec F S1x1024x512 .i8 := outCodes (X0 m c t) (X1 m c t) (X2 m c t) (X3 m c t) (X4 m c t)
def Scales (c : Dev nD) (t : Fin cfg0.N) : Vec F S1x1024 .f32 := outScales (X0 m c t) (X1 m c t) (X2 m c t) (X3 m c t) (X4 m c t)

/-- What is claimed of the converted weights before point `n`: after the first point, that they are there. -/
def Inv (c : Dev nD) (n : ℕ) (s0 s1 s2 : Vec F S512x512 .bf16) : Prop :=
  n ≠ 0 → ∀ t : Fin cfg0.N, s0 = k0_pay3 (X5 m c t) ∧ s1 = k0_pay4 (X6 m c t) ∧ s2 = k0_pay5 (X7 m c t)

theorem inv_there (c : Dev nD) (t : Fin cfg0.N) (n : ℕ) :
    Inv m c n (k0_pay3 (X5 m c t)) (k0_pay4 (X6 m c t)) (k0_pay5 (X7 m c t)) := fun _ _ => ⟨rfl, rfl, rfl⟩

/-- The converted weights, the generator's register, and what is claimed of the former before point `n`. -/
def phi (c : Dev nD) (n : ℕ) : sProp 𝕄 :=
  iprop((∃ s0 s1 s2, ⌜Inv m c n s0 s1 s2⌝ ∗ owns (c : Thread nD τ) scM0_0 fullShare s0
      ∗ owns (c : Thread nD τ) scM0_1 fullShare s1 ∗ owns (c : Thread nD τ) scM0_2 fullShare s2) ∗ (∃ r, prngReg c r))

/-- The windows held to a predicate: the five outputs. -/
def marks : Fin cfg0.W → Bool := fun w => decide (13 ≤ w.val)

/-- What is claimed of the block of scales after a point: the rows of the batches done so far. -/
def scalesDone (c : Dev nD) (n : ℕ) (y : Vec F S3x1024 .f32) : Prop :=
  ∀ t : Fin cfg0.N, t.val / 3 = n / 3 → t.val ≤ n → ∀ r : Fin 1024, y (ix2 (bOf t.val) r) = Scales m c t (ix2 0 r)

/-- The predicate of each output window. -/
def rel (c : Dev nD) (w : Fin cfg0.W) (t : Fin cfg0.N) (y : (cfg0.win w).block.Idx → Elt F (cfg0.win w).elt) : Prop :=
  match w, y with
  | ⟨13, _⟩, y => y = Q m c t
  | ⟨14, _⟩, y => y = Kt m c t
  | ⟨15, _⟩, y => y = Vv m c t
  | ⟨16, _⟩, y => y = Codes m c t
  | ⟨17, _⟩, y => scalesDone m c t.val y
  | _, _ => True

/-- The data of the run: the inputs keep their blocks, of the outputs only `rel` is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨n + 13, h⟩ => Pipeline.Dat.unnamed (cfg := cfg0) ⟨n + 13, h⟩ t
  Φ t := phi m c t.val
  q _ := fullShare
  owed _ := 0

/-- The run's data, with the five output windows held to their predicates. -/
abbrev rdat (c : Dev nD) := (dats m 0 c).toRRel marks (rel m c)

theorem A_eq (c : Dev nD) (w : Fin cfg0.W) : (dats m 0 c).A w = V m c (Pipeline.arrRef spec0 w) := rfl

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d
theorem before_8 (c : Dev nD) (t : Fin cfg0.N) (d) : (dats m 0 c).before 8 t d = iblk m c 8 t :=
  before0_8_of m (dats m 0 c) (A_eq m c 8) (fun _ => rfl) t d
theorem before_9 (c : Dev nD) (t : Fin cfg0.N) (d) : (dats m 0 c).before 9 t d = iblk m c 9 t :=
  before0_9_of m (dats m 0 c) (A_eq m c 9) (fun _ => rfl) t d
theorem before_10 (c : Dev nD) (t : Fin cfg0.N) (d) : (dats m 0 c).before 10 t d = iblk m c 10 t :=
  before0_10_of m (dats m 0 c) (A_eq m c 10) (fun _ => rfl) t d
theorem before_11 (c : Dev nD) (t : Fin cfg0.N) (d) : (dats m 0 c).before 11 t d = iblk m c 11 t :=
  before0_11_of m (dats m 0 c) (A_eq m c 11) (fun _ => rfl) t d
theorem before_12 (c : Dev nD) (t : Fin cfg0.N) (d) : (dats m 0 c).before 12 t d = iblk m c 12 t :=
  before0_12_of m (dats m 0 c) (A_eq m c 12) (fun _ => rfl) t d

/-- What the block of scales may hold when the body runs: nothing is known at the first batch, else what the point before
    left. -/
theorem finds17 (c : Dev nD) (t : Fin cfg0.N) (y : Vec F S3x1024 .f32) (h : (rdat m c).Finds 17 t y) :
    t.val % 3 ≠ 0 → scalesDone m c (t.val - 1) y := by
  intro h0
  have ht : t.val ≠ 0 := fun e => h0 (by rw [e])
  have hl := ((rdat m c).finds_of_pos (w := 17) (t := t) rfl ht y).mp h
  have hf : ¬ ((cfg0.win 17).flush ⟨t.val - 1, Nat.lt_of_le_of_lt (Nat.sub_le _ _) t.isLt⟩ = true) := fun hf => by
    have := (flush0_17 _).mp hf
    simp only at this
    omega
  rcases hl with hl | hl
  · exact absurd hl hf
  · exact (dats m 0 c).toRRel_leaves (fgt := marks) (Rl := rel m c) (w := 17) rfl hl

/-- The row of scales the body writes into its block: at the batch's row the new scales, elsewhere the old. -/
theorem putScale_at (t : Fin cfg0.N) (y : Vec F S3x1024 .f32) (row : Vec F S1x1024 .f32) (b : Fin 3) (r : Fin 1024) :
    putScale (grid0.coords t) y row (ix2 b r) = if b = bOf t.val then row (ix2 0 r) else y (ix2 b r) := by
  have e : k0_off1 (grid0.coords t) (0 : Fin 2) = t.val % 3 :=
    (by decide +kernel : ∀ t : Fin grid0.N, k0_off1 (grid0.coords t) (0 : Fin 2) = t.val % 3) t
  have e' : k0_off1 (grid0.coords t) (1 : Fin 2) = 0 := rfl
  unfold putScale VecWindow.put
  by_cases hb : b = bOf t.val
  · have hv : b.val = t.val % 3 := congrArg Fin.val hb
    rw [if_pos hb, dif_pos (by
      intro a
      match a with
      | ⟨0, _⟩ => show k0_off1 (grid0.coords t) (0 : Fin 2) ≤ b.val ∧ b.val < k0_off1 (grid0.coords t) (0 : Fin 2) + 1; omega
      | ⟨1, _⟩ => show k0_off1 (grid0.coords t) (1 : Fin 2) ≤ r.val ∧ r.val < k0_off1 (grid0.coords t) (1 : Fin 2) + 1024; have := r.isLt; omega)]
    refine congrArg row (funext fun a => Fin.ext ?_)
    match a with
    | ⟨0, _⟩ => show b.val - k0_off1 (grid0.coords t) (0 : Fin 2) = 0; omega
    | ⟨1, _⟩ => show r.val - k0_off1 (grid0.coords t) (1 : Fin 2) = r.val; omega
  · rw [if_neg hb, dif_neg]
    intro hall
    have h0 : k0_off1 (grid0.coords t) (0 : Fin 2) ≤ b.val ∧ b.val < k0_off1 (grid0.coords t) (0 : Fin 2) + 1 := hall 0
    exact hb (Fin.ext (by show b.val = t.val % 3; omega))

/-- One more row of scales. -/
theorem scalesDone_step (c : Dev nD) (t : Fin cfg0.N) (y : Vec F S3x1024 .f32) (hy : t.val % 3 ≠ 0 → scalesDone m c (t.val - 1) y) :
    scalesDone m c t.val (putScale (grid0.coords t) y (Scales m c t)) := by
  intro u hu hle r
  rw [putScale_at]
  by_cases hb : bOf u.val = bOf t.val
  · have hv : u.val % 3 = t.val % 3 := congrArg Fin.val hb
    obtain rfl : u = t := Fin.ext (by omega)
    rw [if_pos rfl]
  · have hv : u.val % 3 ≠ t.val % 3 := fun e => hb (Fin.ext e)
    rw [if_neg hb]
    exact hy (by omega) u (by omega) (by omega) r

end Cert.Qkv.Hand
-- ==== Proof.QkvGiven.Frame.lean ====
module

public import proofs.«01_k».proof.Proof.QkvGiven.Data

/-! The run of the projection call: from the body at one point to what the result arrays hold after the run. -/

@[expose] public section

set_option maxRecDepth 16384

noncomputable section

namespace Cert.Qkv.Hand

open Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable {m : (ℓ : Loc nD τ sig) → Buf (Elt F) ℓ} (ρ : Dev nD → PrngReg)

variable (m) in
/-- What the body is given at a point. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ Y, ⌜(rdat m c).Finds 13 t Y⌝ ∗ owns (c : Thread nD τ) (ms0_13 t) fullShare Y) ∗ (∃ Y, ⌜(rdat m c).Finds 14 t Y⌝ ∗ owns (c : Thread nD τ) (ms0_14 t) fullShare Y) ∗ (∃ Y, ⌜(rdat m c).Finds 15 t Y⌝ ∗ owns (c : Thread nD τ) (ms0_15 t) fullShare Y) ∗ (∃ Y, ⌜(rdat m c).Finds 16 t Y⌝ ∗ owns (c : Thread nD τ) (ms0_16 t) fullShare Y) ∗ (∃ Y, ⌜(rdat m c).Finds 17 t Y⌝ ∗ owns (c : Thread nD τ) (ms0_17 t) fullShare Y))

variable (m) in
/-- What it gives back. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ (∃ X, ⌜rel m c 13 t X⌝ ∗ owns (c : Thread nD τ) (ms0_13 t) fullShare X) ∗ (∃ X, ⌜rel m c 14 t X⌝ ∗ owns (c : Thread nD τ) (ms0_14 t) fullShare X) ∗ (∃ X, ⌜rel m c 15 t X⌝ ∗ owns (c : Thread nD τ) (ms0_15 t) fullShare X) ∗ (∃ X, ⌜rel m c 16 t X⌝ ∗ owns (c : Thread nD τ) (ms0_16 t) fullShare X) ∗ (∃ X, ⌜rel m c 17 t X⌝ ∗ owns (c : Thread nD τ) (ms0_17 t) fullShare X))

set_option maxHeartbeats 4000000 in
/-- The body at the first point. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).owesAt () t.succ = (dats m 0 c).owesAt () t.castSucc from rfl]
  rw [show (dats m 0 c).Φ t.succ = phi m c (t.val + 1) from rfl, show (dats m 0 c).Φ t.castSucc = phi m c t.val from rfl]
  unfold phi
  iintro ⟨⟨⟨%s0, %s1, %s2, %hi, S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%y13, %hy13, H13⟩, ⟨%y14, %hy14, H14⟩, ⟨%y15, %hy15, H15⟩, ⟨%y16, %hy16, H16⟩, ⟨%y17, %hy17, H17⟩⟩
  iapply (run_A c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (Memref.isWhole_whole cc0_scratch0) _ (Memref.isWhole_whole cc0_scratch1) _ (Memref.isWhole_whole cc0_scratch2) ((hcond0_0 t).mpr h) (X0 m c t) (X1 m c t) (X2 m c t) (X3 m c t) (X4 m c t) (X5 m c t) (X6 m c t) (X7 m c t) (X8 m c t) (X9 m c t) (X10 m c t) (X11 m c t) (X12 m c t) y13 y14 y15 y16 y17 s0 s1 s2 Set.univ _)
  isplitl [H0 H1 H2 H3 H4 H5 H6 H7 H8 H9 H10 H11 H12 H13 H14 H15 H16 H17 S0 S1 S2]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [S0]; · iexact S0
    isplitl [S1]; · iexact S1
    iexact S2
  unfold held
  iintro ⟨H0, H1, H2, H3, H4, H5, H6, H7, H8, H9, H10, H11, H12, H13, H14, H15, H16, H17, S0, S1, S2⟩
  isplitl [S0 S1 S2 Hg]
  · isplitr [Hg]
    · iexists k0_pay3 (X5 m c t), k0_pay4 (X6 m c t), k0_pay5 (X7 m c t)
      isplitr
      · ipureintro; exact inv_there m c t (t.val + 1)
      isplitl [S0]; · iexact S0
      isplitl [S1]; · iexact S1
      iexact S2
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr
    swap; · iexact H13
    ipureintro; rfl
  isplitl [H14]
  · iexists _; isplitr
    swap; · iexact H14
    ipureintro; rfl
  isplitl [H15]
  · iexists _; isplitr
    swap; · iexact H15
    ipureintro; rfl
  isplitl [H16]
  · iexists _; isplitr
    swap; · iexact H16
    ipureintro; rfl
  · iexists _; isplitr
    swap; · iexact H17
    ipureintro; exact scalesDone_step m c t y17 (finds17 m c t y17 hy17)

set_option maxHeartbeats 4000000 in
/-- The body at a later point. -/
theorem sound_B (c : Dev nD) (t : Fin cfg0.N) (h : t.val ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).owesAt () t.succ = (dats m 0 c).owesAt () t.castSucc from rfl]
  rw [show (dats m 0 c).Φ t.succ = phi m c (t.val + 1) from rfl, show (dats m 0 c).Φ t.castSucc = phi m c t.val from rfl]
  unfold phi
  iintro ⟨⟨⟨%s0, %s1, %s2, %hi, S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%y13, %hy13, H13⟩, ⟨%y14, %hy14, H14⟩, ⟨%y15, %hy15, H15⟩, ⟨%y16, %hy16, H16⟩, ⟨%y17, %hy17, H17⟩⟩
  obtain ⟨rfl, rfl, rfl⟩ := hi h t
  iapply (run_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (Memref.isWhole_whole cc0_scratch0) _ (Memref.isWhole_whole cc0_scratch1) _ (Memref.isWhole_whole cc0_scratch2) (fun e => h ((hcond0_0 t).mp e)) (X0 m c t) (X1 m c t) (X2 m c t) (X3 m c t) (X4 m c t) (X5 m c t) (X6 m c t) (X7 m c t) (X8 m c t) (X9 m c t) (X10 m c t) (X11 m c t) (X12 m c t) y13 y14 y15 y16 y17 (k0_pay3 (X5 m c t)) (k0_pay4 (X6 m c t)) (k0_pay5 (X7 m c t)) Set.univ _)
  isplitl [H0 H1 H2 H3 H4 H5 H6 H7 H8 H9 H10 H11 H12 H13 H14 H15 H16 H17 S0 S1 S2]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [S0]; · iexact S0
    isplitl [S1]; · iexact S1
    iexact S2
  unfold held
  iintro ⟨H0, H1, H2, H3, H4, H5, H6, H7, H8, H9, H10, H11, H12, H13, H14, H15, H16, H17, S0, S1, S2⟩
  isplitl [S0 S1 S2 Hg]
  · isplitr [Hg]
    · iexists k0_pay3 (X5 m c t), k0_pay4 (X6 m c t), k0_pay5 (X7 m c t)
      isplitr
      · ipureintro; exact inv_there m c t (t.val + 1)
      isplitl [S0]; · iexact S0
      isplitl [S1]; · iexact S1
      iexact S2
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr
    swap; · iexact H13
    ipureintro; rfl
  isplitl [H14]
  · iexists _; isplitr
    swap; · iexact H14
    ipureintro; rfl
  isplitl [H15]
  · iexists _; isplitr
    swap; · iexact H15
    ipureintro; rfl
  isplitl [H16]
  · iexists _; isplitr
    swap; · iexact H16
    ipureintro; rfl
  · iexists _; isplitr
    swap; · iexact H17
    ipureintro; exact scalesDone_step m c t y17 (finds17 m c t y17 hy17)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_A c t h
  · exact sound_B c t h

theorem defs₀_row (t : Fin cfg0.N) :
    (defs₀ (F := F)) .tc cfg0.body (cfg0.bodyArgs t (cfg0.slots t)) = bodyAt0 t := by
  unfold defs₀; rw [Defs.onTc_tc]

/-- The body's obligation, with the outputs held to their predicates. -/
theorem body_obligation (c : Dev nD) :
    BodyObligationRel (dats m 0 c) (defs₀ (F := F)) Variants.none () Set.univ marks (rel m c) := fun t => by
  rw [bigSep_W0, bigSep_W0, defs₀_row]
  exact triple_restated (sound_body c t) rfl .rfl fun _ => .rfl

theorem hin (c : Dev nD) : Pipeline.ΦA spec0 c ⊢ (dats m 0 c).Φ 0 := by
  rw [show (dats m 0 c).Φ 0 = phi m c 0 from rfl, PhiA0_eq]
  unfold phi
  iintro ⟨⟨⟨%s0, S0⟩, ⟨%s1, S1⟩, ⟨%s2, S2⟩⟩, Hg⟩
  isplitr [Hg]
  · iexists s0, s1, s2
    isplitr
    · ipureintro; exact fun h => absurd rfl h
    isplitl [S0]; · iexact S0
    isplitl [S1]; · iexact S1
    iexact S2
  · iexact Hg

theorem hout (c : Dev nD) : (dats m 0 c).Φ (Fin.last cfg0.N) ⊢ Pipeline.ΦA spec0 c := by
  rw [show (dats m 0 c).Φ (Fin.last cfg0.N) = phi m c cfg0.N from rfl, PhiA0_eq]
  unfold phi
  iintro ⟨⟨%s0, %s1, %s2, -, S0, S1, S2⟩, Hg⟩
  isplitr [Hg]
  · isplitl [S0]; · iexists _; iexact S0
    isplitl [S1]; · iexists _; iexact S1
    iexists _; iexact S2
  · iexact Hg

set_option backward.isDefEq.respectTransparency.types false in
variable (m) in
/-- The run of the whole call, with every semaphore at zero at the end. -/
theorem run_main_quiescent : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => (body_obligation c).toRRel) (hshare := fun c => (dats m 0 c).share_full fun _ => rfl)
    (howed := fun _ _ => rfl) (V := V m) (hmain := hmain m Variants.none) (hA := A_eq m) (hin := hin) (hout := hout)

variable (m) in
theorem run_main : θ_run defs (onTc (τ := τ) (main (F := F))) (s₀ m ρ)
    (Pipeline.RDat.FramePost (cfgs 0) (fun c => rdat m c) (V m)) :=
  (θ_run defs _ _).mono (fun _ h => h.1) (run_main_quiescent m ρ)

end Cert.Qkv.Hand
-- ==== Proof.QkvGiven.Args.lean ====
module

public import proofs.«01_k».proof.Proof.QkvGiven.Frame

/-! The projection call runs to an end, leaves its argument arrays as they were, and leaves every semaphore counter at zero. -/

@[expose] public section

set_option maxRecDepth 16384

noncomputable section

namespace Cert.Qkv.Hand

open Cert.Qkv Cert.Qkv.Gen Idealize.ShloMosaic.Pipeline
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {m : (ℓ : Loc nD τ sig) → Buf (Elt F) ℓ} (ρ : Dev nD → PrngReg)

/-- After the run the argument arrays are as launched. -/
theorem args_kept {r : PUnit × MemSt nD τ sig (Elt F)} (h : RDat.FramePost (cfgs 0) (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  obtain ⟨hw, hr⟩ := h c
  have key : ∀ w : Fin cfg0.W, (cfg0.win w).isOut = false → r.2.mem ((cfg0.spec w).arr.view.loc (c.tc : Thread nD τ)) = (dats m 0 c).A w := fun w hin => by
    have e := hw w
    rw [RDat.ArrAt_in _ w hin] at e
    exact e
  exact ⟨(key 0 rfl).trans ((A_eq m c 0).trans (V_main_arg0 m c)),
    (key 1 rfl).trans ((A_eq m c 1).trans (V_main_arg1 m c)),
    (key 2 rfl).trans ((A_eq m c 2).trans (V_main_arg2 m c)),
    (hr main_arg3 (Pipeline.mem_restRefs_of main_arg3 (by decide) (by decide))).trans (V_main_arg3 m c),
    (hr main_arg4 (Pipeline.mem_restRefs_of main_arg4 (by decide) (by decide))).trans (V_main_arg4 m c),
    (key 5 rfl).trans ((A_eq m c 5).trans (V_main_arg5 m c)),
    (key 6 rfl).trans ((A_eq m c 6).trans (V_main_arg6 m c)),
    (key 7 rfl).trans ((A_eq m c 7).trans (V_main_arg7 m c)),
    (hr main_arg8 (Pipeline.mem_restRefs_of main_arg8 (by decide) (by decide))).trans (V_main_arg8 m c),
    (hr main_arg9 (Pipeline.mem_restRefs_of main_arg9 (by decide) (by decide))).trans (V_main_arg9 m c),
    (hr main_arg10 (Pipeline.mem_restRefs_of main_arg10 (by decide) (by decide))).trans (V_main_arg10 m c),
    (hr main_arg11 (Pipeline.mem_restRefs_of main_arg11 (by decide) (by decide))).trans (V_main_arg11 m c),
    (hr main_arg12 (Pipeline.mem_restRefs_of main_arg12 (by decide) (by decide))).trans (V_main_arg12 m c)⟩

variable (m) in
/-- The call ends, with its arguments kept and the counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0) :=
  (θ_run defs _ _).mono (fun _ h => ⟨args_kept h.1, h.2⟩) (run_main_quiescent m ρ)

end Cert.Qkv.Hand
-- ==== Proof.Qkv.Points.lean ====
module

public import proofs.«01_k».proof.Proof.Gen.QkvIdeal.Skeleton
public import proofs.«01_k».proof.Proof.Gen.QkvIdeal.Frame

/-! The grid points of the projection call: the point at which the weights are converted, the staging memrefs the body is
given, and the scratch buffers it carries from point to point. -/

@[expose] public section

set_option maxRecDepth 16384

noncomputable section

namespace Cert.QkvIdeal.Hand

open Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch of the body -/

/-- The condition of the branch that converts the weights, from the grid coordinates. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — decided over the grid. -/
theorem hcond0_0 : ∀ t : Fin cfg0.N, cond0_0 (grid0.coords t) ↔ t.val = 0 :=
  (by decide +kernel : ∀ t : Fin grid0.N, cond0_0 (grid0.coords t) ↔ t.val = 0)

/-! ## Each window's staging memref at a point, and its wholeness -/

abbrev ms0_0 (t : Fin cfg0.N) : Memref sig .tc .vmem S1x1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024x512 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1024x512 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1024x512 .i8 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S3x1024 .f32 := win0_17.stage (cfg0.slots t 17)
abbrev hs0_17 (t : Fin cfg0.N) : (ms0_17 t).IsWhole := hstage0_17 ((cfg0.slots t 17).cast nbuf0_17)

/-! The scratch buffers: the three converted weights. -/

abbrev scM0_0 : Memref sig .tc .vmem S512x512 .bf16 := Memref.whole cc0_scratch0
abbrev scM0_1 : Memref sig .tc .vmem S512x512 .bf16 := Memref.whole cc0_scratch1
abbrev scM0_2 : Memref sig .tc .vmem S512x512 .bf16 := Memref.whole cc0_scratch2

/-- The scratch buffers owned at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.QkvIdeal.Hand
-- ==== Proof.Qkv.Buffers.lean ====
module

public import Idealize.ShloMosaic.Lib.VecWindow
public import proofs.«01_k».proof.Proof.Qkv.Points

/-! The buffers one point of the projection call works on, named together with their contents, and what the body stores in
them. -/

@[expose] public section

set_option maxRecDepth 16384

noncomputable section

namespace Cert.QkvIdeal.Hand

open Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! Loads and stores of a whole buffer, at the shapes of this call. -/

theorem load_S512x512 {e : EltTy} {v : View sig .tc .vmem S512x512 e} (f : v.ty.Contents (Elt F)) :
    v.readAt (Elt F) (Rect.unit (s := S512x512) ![0, 0] S512x512.size inb_S512x512_S512x512_0_0).toLoadRect f = v.read (Elt F) f :=
  View.readAt_full v f _

theorem load_S512x1 {e : EltTy} {v : View sig .tc .vmem S512x1 e} (f : v.ty.Contents (Elt F)) :
    v.readAt (Elt F) (Rect.unit (s := S512x1) ![0, 0] S512x1.size inb_S512x1_S512x1_0_0).toLoadRect f = v.read (Elt F) f :=
  View.readAt_full v f _

theorem load_S1x512 {e : EltTy} {v : View sig .tc .vmem S1x512 e} (f : v.ty.Contents (Elt F)) :
    v.readAt (Elt F) (Rect.unit (s := S1x512) ![0, 0] S1x512.size inb_S1x512_S1x512_0_0).toLoadRect f = v.read (Elt F) f :=
  View.readAt_full v f _

theorem load_S1x1x512 {e : EltTy} {v : View sig .tc .vmem S1x1x512 e} (f : v.ty.Contents (Elt F)) :
    v.readAt (Elt F) (Rect.unit (s := S1x1x512) ![0, 0, 0] S1x1x512.size inb_S1x1x512_S1x1x512_0_0_0).toLoadRect f = v.read (Elt F) f :=
  View.readAt_full v f _

theorem load_S1x1024x512 {e : EltTy} {v : View sig .tc .vmem S1x1024x512 e} (f : v.ty.Contents (Elt F)) :
    v.readAt (Elt F) (Rect.unit (s := S1x1024x512) ![0, 0, 0] S1x1024x512.size inb_S1x1024x512_S1x1024x512_0_0_0).toLoadRect f = v.read (Elt F) f :=
  View.readAt_full v f _

theorem load_S1x512x1024 {e : EltTy} {v : View sig .tc .vmem S1x512x1024 e} (f : v.ty.Contents (Elt F)) :
    v.readAt (Elt F) (Rect.unit (s := S1x512x1024) ![0, 0, 0] S1x512x1024.size inb_S1x512x1024_S1x512x1024_0_0_0).toLoadRect f = v.read (Elt F) f :=
  View.readAt_full v f _

theorem store_S512x512 {e : EltTy} {v : View sig .tc .vmem S512x512 e} (f : v.ty.Contents (Elt F))
    (w : S512x512.Idx → Elt F e) (L : List (View.Piece (Elt F) S512x512 e)) :
    v.read (Elt F) (v.writes (Elt F) f (⟨Rect.unit (s := S512x512) ![0, 0] S512x512.size inb_S512x512_S512x512_0_0, w⟩ :: L)) = w :=
  View.read_writes_full v f _ w L

theorem store_S1x1024x512 {e : EltTy} {v : View sig .tc .vmem S1x1024x512 e} (f : v.ty.Contents (Elt F))
    (w : S1x1024x512.Idx → Elt F e) (L : List (View.Piece (Elt F) S1x1024x512 e)) :
    v.read (Elt F) (v.writes (Elt F) f (⟨Rect.unit (s := S1x1024x512) ![0, 0, 0] S1x1024x512.size inb_S1x1024x512_S1x1024x512_0_0_0, w⟩ :: L)) = w :=
  View.read_writes_full v f _ w L

theorem store_S1x512x1024 {e : EltTy} {v : View sig .tc .vmem S1x512x1024 e} (f : v.ty.Contents (Elt F))
    (w : S1x512x1024.Idx → Elt F e) (L : List (View.Piece (Elt F) S1x512x1024 e)) :
    v.read (Elt F) (v.writes (Elt F) f (⟨Rect.unit (s := S1x512x1024) ![0, 0, 0] S1x512x1024.size inb_S1x512x1024_S1x512x1024_0_0_0, w⟩ :: L)) = w :=
  View.read_writes_full v f _ w L

/-- The scale block with the row of the point's batch replaced. -/
def putScale (i : grid0.Coords) (y : Vec F S3x1024 .f32) (row : Vec F S1x1024 .f32) : Vec F S3x1024 .f32 :=
  VecWindow.put y (k0_off1 i) S1x1024.size row

theorem store_scale (i : grid0.Coords) {v : View sig .tc .vmem S3x1024 .f32} (f : v.ty.Contents (Elt F))
    (h : ∀ a, k0_off1 i a + S1x1024.size a ≤ S3x1024.size a) (w : Vec F S1x1024 .f32) :
    v.read (Elt F) (v.writes (Elt F) f [⟨Rect.unit (s := S3x1024) (k0_off1 i) S1x1024.size h, w⟩])
      = putScale i (v.read (Elt F) f) w := by
  rw [View.read_writes_cons_put v f h w [] rfl]; rfl

/-! What the body stores, from its blocks and the converted weights `w`. -/

/-- The lower bound of the codes. -/
abbrev low : F .f32 := Scalar.ofBits .f32 0xC2FE0000#32

/-- The queries. -/
def outQ (x0 : Vec F S1x1024x512 .bf16) (x1 x2 : Vec F S1x1x512 .f32) (x3 x4 : Vec F S1x512 .f32) (w : Vec F S512x512 .bf16) (s b : Vec F S1x512 .f32) :
    Vec F S1x1024x512 .bf16 :=
  k0_pay13 (k0_pay7 x0 x1 x2 x3 x4) (k0_pay8 x0 x1 x2 x3 x4) low w s b

/-- The keys, transposed. -/
def outK (x0 : Vec F S1x1024x512 .bf16) (x1 x2 : Vec F S1x1x512 .f32) (x3 x4 : Vec F S1x512 .f32) (w : Vec F S512x512 .bf16) (s : Vec F S512x1 .f32) :
    Vec F S1x512x1024 .bf16 :=
  k0_pay2 (k0_pay10 (k0_pay7 x0 x1 x2 x3 x4)) (k0_pay12 (k0_pay8 x0 x1 x2 x3 x4) low) w s

/-- The values. -/
def outV (x0 : Vec F S1x1024x512 .bf16) (x1 x2 : Vec F S1x1x512 .f32) (x3 x4 : Vec F S1x512 .f32) (w : Vec F S512x512 .bf16) (s b : Vec F S1x512 .f32) :
    Vec F S1x1024x512 .bf16 :=
  k0_pay1 (k0_pay14 (k0_pay7 x0 x1 x2 x3 x4) (k0_pay8 x0 x1 x2 x3 x4) low w) (k0_pay15 s) b

/-- The codes. -/
def outCodes (x0 : Vec F S1x1024x512 .bf16) (x1 x2 : Vec F S1x1x512 .f32) (x3 x4 : Vec F S1x512 .f32) : Vec F S1x1024x512 .i8 :=
  k0_pay11 (k0_pay8 x0 x1 x2 x3 x4) low

/-- The scales, as one row. -/
def outScales (x0 : Vec F S1x1024x512 .bf16) (x1 x2 : Vec F S1x1x512 .f32) (x3 x4 : Vec F S1x512 .f32) : Vec F S1x1024 .f32 :=
  k0_pay10 (k0_pay7 x0 x1 x2 x3 x4)

/-! Equal blocks give equal results. -/

theorem outQ_congr {x0 x0' : Vec F S1x1024x512 .bf16} {x1 x1' x2 x2' : Vec F S1x1x512 .f32} {x3 x3' x4 x4' : Vec F S1x512 .f32}
    {w w' : Vec F S512x512 .bf16} {s s' b b' : Vec F S1x512 .f32} (h0 : x0 = x0') (h1 : x1 = x1') (h2 : x2 = x2') (h3 : x3 = x3')
    (h4 : x4 = x4') (h5 : w = w') (h6 : s = s') (h7 : b = b') : outQ x0 x1 x2 x3 x4 w s b = outQ x0' x1' x2' x3' x4' w' s' b' := by
  subst h0 h1 h2 h3 h4 h5 h6 h7; rfl

theorem outK_congr {x0 x0' : Vec F S1x1024x512 .bf16} {x1 x1' x2 x2' : Vec F S1x1x512 .f32} {x3 x3' x4 x4' : Vec F S1x512 .f32}
    {w w' : Vec F S512x512 .bf16} {s s' : Vec F S512x1 .f32} (h0 : x0 = x0') (h1 : x1 = x1') (h2 : x2 = x2') (h3 : x3 = x3')
    (h4 : x4 = x4') (h5 : w = w') (h6 : s = s') : outK x0 x1 x2 x3 x4 w s = outK x0' x1' x2' x3' x4' w' s' := by
  subst h0 h1 h2 h3 h4 h5 h6; rfl

theorem outV_congr {x0 x0' : Vec F S1x1024x512 .bf16} {x1 x1' x2 x2' : Vec F S1x1x512 .f32} {x3 x3' x4 x4' : Vec F S1x512 .f32}
    {w w' : Vec F S512x512 .bf16} {s s' b b' : Vec F S1x512 .f32} (h0 : x0 = x0') (h1 : x1 = x1') (h2 : x2 = x2') (h3 : x3 = x3')
    (h4 : x4 = x4') (h5 : w = w') (h6 : s = s') (h7 : b = b') : outV x0 x1 x2 x3 x4 w s b = outV x0' x1' x2' x3' x4' w' s' b' := by
  subst h0 h1 h2 h3 h4 h5 h6 h7; rfl

theorem outCodes_congr {x0 x0' : Vec F S1x1024x512 .bf16} {x1 x1' x2 x2' : Vec F S1x1x512 .f32} {x3 x3' x4 x4' : Vec F S1x512 .f32}
    (h0 : x0 = x0') (h1 : x1 = x1') (h2 : x2 = x2') (h3 : x3 = x3') (h4 : x4 = x4') :
    outCodes x0 x1 x2 x3 x4 = outCodes x0' x1' x2' x3' x4' := by
  subst h0 h1 h2 h3 h4; rfl

theorem outScales_congr {x0 x0' : Vec F S1x1024x512 .bf16} {x1 x1' x2 x2' : Vec F S1x1x512 .f32} {x3 x3' x4 x4' : Vec F S1x512 .f32}
    (h0 : x0 = x0') (h1 : x1 = x1') (h2 : x2 = x2') (h3 : x3 = x3') (h4 : x4 = x4') :
    outScales x0 x1 x2 x3 x4 = outScales x0' x1' x2' x3' x4' := by
  subst h0 h1 h2 h3 h4; rfl

/-- The body's buffers with their contents: the thirteen input blocks, the five output blocks and the three converted
    weights. -/
def held (c : Dev nD)
    (arg2 : Memref sig .tc .vmem S1x1024x512 .bf16)
    (arg3 : Memref sig .tc .vmem S1x1x512 .f32)
    (arg4 : Memref sig .tc .vmem S1x1x512 .f32)
    (arg5 : Memref sig .tc .vmem S1x512 .f32)
    (arg6 : Memref sig .tc .vmem S1x512 .f32)
    (arg7 : Memref sig .tc .vmem S512x512 .i8)
    (arg8 : Memref sig .tc .vmem S512x512 .i8)
    (arg9 : Memref sig .tc .vmem S512x512 .i8)
    (arg10 : Memref sig .tc .vmem S1x512 .f32)
    (arg11 : Memref sig .tc .vmem S512x1 .f32)
    (arg12 : Memref sig .tc .vmem S1x512 .f32)
    (arg13 : Memref sig .tc .vmem S1x512 .f32)
    (arg14 : Memref sig .tc .vmem S1x512 .f32)
    (arg15 : Memref sig .tc .vmem S1x1024x512 .bf16)
    (arg16 : Memref sig .tc .vmem S1x512x1024 .bf16)
    (arg17 : Memref sig .tc .vmem S1x1024x512 .bf16)
    (arg18 : Memref sig .tc .vmem S1x1024x512 .i8)
    (arg19 : Memref sig .tc .vmem S3x1024 .f32)
    (arg20 : Memref sig .tc .vmem S512x512 .bf16)
    (arg21 : Memref sig .tc .vmem S512x512 .bf16)
    (arg22 : Memref sig .tc .vmem S512x512 .bf16)
    (x0 : Vec F S1x1024x512 .bf16)
    (x1 : Vec F S1x1x512 .f32)
    (x2 : Vec F S1x1x512 .f32)
    (x3 : Vec F S1x512 .f32)
    (x4 : Vec F S1x512 .f32)
    (x5 : Vec F S512x512 .i8)
    (x6 : Vec F S512x512 .i8)
    (x7 : Vec F S512x512 .i8)
    (x8 : Vec F S1x512 .f32)
    (x9 : Vec F S512x1 .f32)
    (x10 : Vec F S1x512 .f32)
    (x11 : Vec F S1x512 .f32)
    (x12 : Vec F S1x512 .f32)
    (y13 : Vec F S1x1024x512 .bf16)
    (y14 : Vec F S1x512x1024 .bf16)
    (y15 : Vec F S1x1024x512 .bf16)
    (y16 : Vec F S1x1024x512 .i8)
    (y17 : Vec F S3x1024 .f32)
    (s0 : Vec F S512x512 .bf16)
    (s1 : Vec F S512x512 .bf16)
    (s2 : Vec F S512x512 .bf16) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17 ∗ owns (c : Thread nD τ) arg20 fullShare s0 ∗ owns (c : Thread nD τ) arg21 fullShare s1 ∗ owns (c : Thread nD τ) arg22 fullShare s2)

end Cert.QkvIdeal.Hand
-- ==== Proof.Qkv.RunA.lean ====
module

public import proofs.«01_k».proof.Proof.Qkv.Buffers

/-! The first point of the projection call: the weights are converted first. -/

@[expose] public section

set_option maxRecDepth 16384

noncomputable section

namespace Cert.QkvIdeal.Hand

open Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The first point. -/
theorem run_A (c : Dev nD) (i : grid0.Coords)
    (arg2 : Memref sig .tc .vmem S1x1024x512 .bf16) (harg2 : arg2.IsWhole)
    (arg3 : Memref sig .tc .vmem S1x1x512 .f32) (harg3 : arg3.IsWhole)
    (arg4 : Memref sig .tc .vmem S1x1x512 .f32) (harg4 : arg4.IsWhole)
    (arg5 : Memref sig .tc .vmem S1x512 .f32) (harg5 : arg5.IsWhole)
    (arg6 : Memref sig .tc .vmem S1x512 .f32) (harg6 : arg6.IsWhole)
    (arg7 : Memref sig .tc .vmem S512x512 .i8) (harg7 : arg7.IsWhole)
    (arg8 : Memref sig .tc .vmem S512x512 .i8) (harg8 : arg8.IsWhole)
    (arg9 : Memref sig .tc .vmem S512x512 .i8) (harg9 : arg9.IsWhole)
    (arg10 : Memref sig .tc .vmem S1x512 .f32) (harg10 : arg10.IsWhole)
    (arg11 : Memref sig .tc .vmem S512x1 .f32) (harg11 : arg11.IsWhole)
    (arg12 : Memref sig .tc .vmem S1x512 .f32) (harg12 : arg12.IsWhole)
    (arg13 : Memref sig .tc .vmem S1x512 .f32) (harg13 : arg13.IsWhole)
    (arg14 : Memref sig .tc .vmem S1x512 .f32) (harg14 : arg14.IsWhole)
    (arg15 : Memref sig .tc .vmem S1x1024x512 .bf16) (harg15 : arg15.IsWhole)
    (arg16 : Memref sig .tc .vmem S1x512x1024 .bf16) (harg16 : arg16.IsWhole)
    (arg17 : Memref sig .tc .vmem S1x1024x512 .bf16) (harg17 : arg17.IsWhole)
    (arg18 : Memref sig .tc .vmem S1x1024x512 .i8) (harg18 : arg18.IsWhole)
    (arg19 : Memref sig .tc .vmem S3x1024 .f32) (harg19 : arg19.IsWhole)
    (arg20 : Memref sig .tc .vmem S512x512 .bf16) (harg20 : arg20.IsWhole)
    (arg21 : Memref sig .tc .vmem S512x512 .bf16) (harg21 : arg21.IsWhole)
    (arg22 : Memref sig .tc .vmem S512x512 .bf16) (harg22 : arg22.IsWhole)
    (hc0 : cond0_0 i)
    (x0 : Vec F S1x1024x512 .bf16)
    (x1 : Vec F S1x1x512 .f32)
    (x2 : Vec F S1x1x512 .f32)
    (x3 : Vec F S1x512 .f32)
    (x4 : Vec F S1x512 .f32)
    (x5 : Vec F S512x512 .i8)
    (x6 : Vec F S512x512 .i8)
    (x7 : Vec F S512x512 .i8)
    (x8 : Vec F S1x512 .f32)
    (x9 : Vec F S512x1 .f32)
    (x10 : Vec F S1x512 .f32)
    (x11 : Vec F S1x512 .f32)
    (x12 : Vec F S1x512 .f32)
    (y13 : Vec F S1x1024x512 .bf16)
    (y14 : Vec F S1x512x1024 .bf16)
    (y15 : Vec F S1x1024x512 .bf16)
    (y16 : Vec F S1x1024x512 .i8)
    (y17 : Vec F S3x1024 .f32)
    (s0 : Vec F S512x512 .bf16)
    (s1 : Vec F S512x512 .bf16)
    (s2 : Vec F S512x512 .bf16) (E : Set ℕ) (K : PUnit → sProp 𝕄) :
    iprop(held c arg2 arg3 arg4 arg5 arg6 arg7 arg8 arg9 arg10 arg11 arg12 arg13 arg14 arg15 arg16 arg17 arg18 arg19 arg20 arg21 arg22 x0 x1 x2 x3 x4 x5 x6 x7 x8 x9 x10 x11 x12 y13 y14 y15 y16 y17 s0 s1 s2
        ∗ (held c arg2 arg3 arg4 arg5 arg6 arg7 arg8 arg9 arg10 arg11 arg12 arg13 arg14 arg15 arg16 arg17 arg18 arg19 arg20 arg21 arg22
            x0 x1 x2 x3 x4 x5 x6 x7 x8 x9 x10 x11 x12 (outQ x0 x1 x2 x3 x4 (k0_pay3 x5) x8 x11) (outK x0 x1 x2 x3 x4 (k0_pay4 x6) x9) (outV x0 x1 x2 x3 x4 (k0_pay5 x7) x10 x12) (outCodes x0 x1 x2 x3 x4) (putScale i y17 (outScales x0 x1 x2 x3 x4)) (k0_pay3 x5) (k0_pay4 x6) (k0_pay5 x7) -∗ K ⟨⟩))
      ⊢ wp frame (wpE (defs₀ (F := F)) Variants.none c none) E (cc0_gn_quant_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_gn_quant_qkv_eq_skeleton]; unfold cc0_gn_quant_qkv_skel
  simp only [k0_part1_eq_skeleton, k0_part2_eq_skeleton]; unfold k0_part1_skel k0_part2_skel
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  obtain rfl := harg20.eq_unread hf20
  obtain rfl := harg21.eq_unread hf21
  obtain rfl := harg22.eq_unread hf22
  sl_exec (disch := first | sl_exact hc0)
  sl_step
  have e20 : run_A.sl.v51 c arg7 harg7 arg20 x5 = k0_pay3 x5 := by
    unfold run_A.sl.v51 run_A.sl.H20_1
    exact (View.readCov_full _ _ _ _ _).trans (congrArg k0_pay3 ((load_S512x512 _).trans (harg7.read_unread _)))
  have e21 : run_A.sl.v83 c arg8 harg8 arg21 x6 = k0_pay4 x6 := by
    unfold run_A.sl.v83 run_A.sl.H21_1
    exact (View.readCov_full _ _ _ _ _).trans (congrArg k0_pay4 ((load_S512x512 _).trans (harg8.read_unread _)))
  have e22 : run_A.sl.v67 c arg9 harg9 arg22 x7 = k0_pay5 x7 := by
    unfold run_A.sl.v67 run_A.sl.H22_1
    exact (View.readCov_full _ _ _ _ _).trans (congrArg k0_pay5 ((load_S512x512 _).trans (harg9.read_unread _)))
  iapply Hk
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact harg13.read_unread _
  isplitl [H14]
  · iexists _; isplitr; swap
    · iexact H14
    · ipureintro; exact harg14.read_unread _
  isplitl [H15]
  · iexists _; isplitr; swap
    · iexact H15
    · ipureintro; dsimp only; exact (store_S1x1024x512 _ _ _).trans (outQ_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _)) e20 ((load_S1x512 _).trans (harg10.read_unread _)) ((load_S1x512 _).trans (harg13.read_unread _)))
  isplitl [H16]
  · iexists _; isplitr; swap
    · iexact H16
    · ipureintro; dsimp only; exact (store_S1x512x1024 _ _ _).trans (outK_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _)) e21 ((load_S512x1 _).trans (harg11.read_unread _)))
  isplitl [H17]
  · iexists _; isplitr; swap
    · iexact H17
    · ipureintro; dsimp only; exact (store_S1x1024x512 _ _ _).trans (outV_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _)) e22 ((load_S1x512 _).trans (harg12.read_unread _)) ((load_S1x512 _).trans (harg14.read_unread _)))
  isplitl [H18]
  · iexists _; isplitr; swap
    · iexact H18
    · ipureintro; dsimp only; exact (store_S1x1024x512 _ _ _).trans (outCodes_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _)))
  isplitl [H19]
  · iexists _; isplitr; swap
    · iexact H19
    · ipureintro; dsimp only; exact (store_scale _ _ _ _).trans (congr (congrArg (putScale i) (harg19.read_unread _)) (outScales_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _))))
  isplitl [H20]
  · iexists _; isplitr; swap
    · iexact H20
    · ipureintro; unfold run_A.sl.H20_1; exact (store_S512x512 _ _ _).trans (congrArg k0_pay3 ((load_S512x512 _).trans (harg7.read_unread _)))
  isplitl [H21]
  · iexists _; isplitr; swap
    · iexact H21
    · ipureintro; unfold run_A.sl.H21_1; exact (store_S512x512 _ _ _).trans (congrArg k0_pay4 ((load_S512x512 _).trans (harg8.read_unread _)))
  · iexists _; isplitr; swap
    · iexact H22
    · ipureintro; unfold run_A.sl.H22_1; exact (store_S512x512 _ _ _).trans (congrArg k0_pay5 ((load_S512x512 _).trans (harg9.read_unread _)))

end Cert.QkvIdeal.Hand
-- ==== Proof.Qkv.RunB.lean ====
module

public import proofs.«01_k».proof.Proof.Qkv.Buffers

/-! A point of the projection call after the first: the weights are those converted at the first point. -/

@[expose] public section

set_option maxRecDepth 16384

noncomputable section

namespace Cert.QkvIdeal.Hand

open Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- A point after the first. -/
theorem run_B (c : Dev nD) (i : grid0.Coords)
    (arg2 : Memref sig .tc .vmem S1x1024x512 .bf16) (harg2 : arg2.IsWhole)
    (arg3 : Memref sig .tc .vmem S1x1x512 .f32) (harg3 : arg3.IsWhole)
    (arg4 : Memref sig .tc .vmem S1x1x512 .f32) (harg4 : arg4.IsWhole)
    (arg5 : Memref sig .tc .vmem S1x512 .f32) (harg5 : arg5.IsWhole)
    (arg6 : Memref sig .tc .vmem S1x512 .f32) (harg6 : arg6.IsWhole)
    (arg7 : Memref sig .tc .vmem S512x512 .i8) (harg7 : arg7.IsWhole)
    (arg8 : Memref sig .tc .vmem S512x512 .i8) (harg8 : arg8.IsWhole)
    (arg9 : Memref sig .tc .vmem S512x512 .i8) (harg9 : arg9.IsWhole)
    (arg10 : Memref sig .tc .vmem S1x512 .f32) (harg10 : arg10.IsWhole)
    (arg11 : Memref sig .tc .vmem S512x1 .f32) (harg11 : arg11.IsWhole)
    (arg12 : Memref sig .tc .vmem S1x512 .f32) (harg12 : arg12.IsWhole)
    (arg13 : Memref sig .tc .vmem S1x512 .f32) (harg13 : arg13.IsWhole)
    (arg14 : Memref sig .tc .vmem S1x512 .f32) (harg14 : arg14.IsWhole)
    (arg15 : Memref sig .tc .vmem S1x1024x512 .bf16) (harg15 : arg15.IsWhole)
    (arg16 : Memref sig .tc .vmem S1x512x1024 .bf16) (harg16 : arg16.IsWhole)
    (arg17 : Memref sig .tc .vmem S1x1024x512 .bf16) (harg17 : arg17.IsWhole)
    (arg18 : Memref sig .tc .vmem S1x1024x512 .i8) (harg18 : arg18.IsWhole)
    (arg19 : Memref sig .tc .vmem S3x1024 .f32) (harg19 : arg19.IsWhole)
    (arg20 : Memref sig .tc .vmem S512x512 .bf16) (harg20 : arg20.IsWhole)
    (arg21 : Memref sig .tc .vmem S512x512 .bf16) (harg21 : arg21.IsWhole)
    (arg22 : Memref sig .tc .vmem S512x512 .bf16) (harg22 : arg22.IsWhole)
    (hc0 : ¬cond0_0 i)
    (x0 : Vec F S1x1024x512 .bf16)
    (x1 : Vec F S1x1x512 .f32)
    (x2 : Vec F S1x1x512 .f32)
    (x3 : Vec F S1x512 .f32)
    (x4 : Vec F S1x512 .f32)
    (x5 : Vec F S512x512 .i8)
    (x6 : Vec F S512x512 .i8)
    (x7 : Vec F S512x512 .i8)
    (x8 : Vec F S1x512 .f32)
    (x9 : Vec F S512x1 .f32)
    (x10 : Vec F S1x512 .f32)
    (x11 : Vec F S1x512 .f32)
    (x12 : Vec F S1x512 .f32)
    (y13 : Vec F S1x1024x512 .bf16)
    (y14 : Vec F S1x512x1024 .bf16)
    (y15 : Vec F S1x1024x512 .bf16)
    (y16 : Vec F S1x1024x512 .i8)
    (y17 : Vec F S3x1024 .f32)
    (s0 : Vec F S512x512 .bf16)
    (s1 : Vec F S512x512 .bf16)
    (s2 : Vec F S512x512 .bf16) (E : Set ℕ) (K : PUnit → sProp 𝕄) :
    iprop(held c arg2 arg3 arg4 arg5 arg6 arg7 arg8 arg9 arg10 arg11 arg12 arg13 arg14 arg15 arg16 arg17 arg18 arg19 arg20 arg21 arg22 x0 x1 x2 x3 x4 x5 x6 x7 x8 x9 x10 x11 x12 y13 y14 y15 y16 y17 s0 s1 s2
        ∗ (held c arg2 arg3 arg4 arg5 arg6 arg7 arg8 arg9 arg10 arg11 arg12 arg13 arg14 arg15 arg16 arg17 arg18 arg19 arg20 arg21 arg22
            x0 x1 x2 x3 x4 x5 x6 x7 x8 x9 x10 x11 x12 (outQ x0 x1 x2 x3 x4 s0 x8 x11) (outK x0 x1 x2 x3 x4 s1 x9) (outV x0 x1 x2 x3 x4 s2 x10 x12) (outCodes x0 x1 x2 x3 x4) (putScale i y17 (outScales x0 x1 x2 x3 x4)) s0 s1 s2 -∗ K ⟨⟩))
      ⊢ wp frame (wpE (defs₀ (F := F)) Variants.none c none) E (cc0_gn_quant_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_gn_quant_qkv_eq_skeleton]; unfold cc0_gn_quant_qkv_skel
  simp only [k0_part1_eq_skeleton, k0_part2_eq_skeleton]; unfold k0_part1_skel k0_part2_skel
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  obtain rfl := harg20.eq_unread hf20
  obtain rfl := harg21.eq_unread hf21
  obtain rfl := harg22.eq_unread hf22
  sl_exec (disch := first | sl_exact hc0)
  sl_step
  iapply Hk
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact harg13.read_unread _
  isplitl [H14]
  · iexists _; isplitr; swap
    · iexact H14
    · ipureintro; exact harg14.read_unread _
  isplitl [H15]
  · iexists _; isplitr; swap
    · iexact H15
    · ipureintro; dsimp only; exact (store_S1x1024x512 _ _ _).trans (outQ_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _)) ((load_S512x512 _).trans (harg20.read_unread _)) ((load_S1x512 _).trans (harg10.read_unread _)) ((load_S1x512 _).trans (harg13.read_unread _)))
  isplitl [H16]
  · iexists _; isplitr; swap
    · iexact H16
    · ipureintro; dsimp only; exact (store_S1x512x1024 _ _ _).trans (outK_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _)) ((load_S512x512 _).trans (harg21.read_unread _)) ((load_S512x1 _).trans (harg11.read_unread _)))
  isplitl [H17]
  · iexists _; isplitr; swap
    · iexact H17
    · ipureintro; dsimp only; exact (store_S1x1024x512 _ _ _).trans (outV_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _)) ((load_S512x512 _).trans (harg22.read_unread _)) ((load_S1x512 _).trans (harg12.read_unread _)) ((load_S1x512 _).trans (harg14.read_unread _)))
  isplitl [H18]
  · iexists _; isplitr; swap
    · iexact H18
    · ipureintro; dsimp only; exact (store_S1x1024x512 _ _ _).trans (outCodes_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _)))
  isplitl [H19]
  · iexists _; isplitr; swap
    · iexact H19
    · ipureintro; dsimp only; exact (store_scale _ _ _ _).trans (congr (congrArg (putScale i) (harg19.read_unread _)) (outScales_congr ((load_S1x1024x512 _).trans (harg2.read_unread _)) ((load_S1x1x512 _).trans (harg3.read_unread _)) ((load_S1x1x512 _).trans (harg4.read_unread _)) ((load_S1x512 _).trans (harg5.read_unread _)) ((load_S1x512 _).trans (harg6.read_unread _))))
  isplitl [H20]
  · iexists _; isplitr; swap
    · iexact H20
    · ipureintro; exact harg20.read_unread _
  isplitl [H21]
  · iexists _; isplitr; swap
    · iexact H21
    · ipureintro; exact harg21.read_unread _
  · iexists _; isplitr; swap
    · iexact H22
    · ipureintro; exact harg22.read_unread _

end Cert.QkvIdeal.Hand
-- ==== Proof.Qkv.Data.lean ====
module

public import Idealize.ShloMosaic.Lib.Pipeline.DatRel
public import Idealize.ShloMosaic.Lib.Pointwise.Index
public import proofs.«01_k».proof.Proof.Qkv.RunA
public import proofs.«01_k».proof.Proof.Qkv.RunB

/-! What is claimed of the converted weights and of the output blocks from grid point to grid point of the projection call. -/

@[expose] public section

set_option maxRecDepth 16384

noncomputable section

namespace Cert.QkvIdeal.Hand

open Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The batch of a grid point. -/
def bOf (n : ℕ) : Fin 3 := ⟨n % 3, Nat.mod_lt _ (by decide)⟩

/-! The thirteen input blocks at a point. -/

abbrev X0 (c : Dev nD) (t : Fin cfg0.N) : Vec F S1x1024x512 .bf16 := iblk m c 0 t
abbrev X1 (c : Dev nD) (t : Fin cfg0.N) : Vec F S1x1x512 .f32 := iblk m c 1 t
abbrev X2 (c : Dev nD) (t : Fin cfg0.N) : Vec F S1x1x512 .f32 := iblk m c 2 t
abbrev X3 (c : Dev nD) (t : Fin cfg0.N) : Vec F S1x512 .f32 := iblk m c 3 t
abbrev X4 (c : Dev nD) (t : Fin cfg0.N) : Vec F S1x512 .f32 := iblk m c 4 t
abbrev X5 (c : Dev nD) (t : Fin cfg0.N) : Vec F S512x512 .i8 := iblk m c 5 t
abbrev X6 (c : Dev nD) (t : Fin cfg0.N) : Vec F S512x512 .i8 := iblk m c 6 t
abbrev X7 (c : Dev nD) (t : Fin cfg0.N) : Vec F S512x512 .i8 := iblk m c 7 t
abbrev X8 (c : Dev nD) (t : Fin cfg0.N) : Vec F S1x512 .f32 := iblk m c 8 t
abbrev X9 (c : Dev nD) (t : Fin cfg0.N) : Vec F S512x1 .f32 := iblk m c 9 t
abbrev X10 (c : Dev nD) (t : Fin cfg0.N) : Vec F S1x512 .f32 := iblk m c 10 t
abbrev X11 (c : Dev nD) (t : Fin cfg0.N) : Vec F S1x512 .f32 := iblk m c 11 t
abbrev X12 (c : Dev nD) (t : Fin cfg0.N) : Vec F S1x512 .f32 := iblk m c 12 t

/-! The weights are the same block at every point. -/

theorem X5_const (c : Dev nD) (t t' : Fin cfg0.N) : X5 m c t = X5 m c t' := rfl
theorem X6_const (c : Dev nD) (t t' : Fin cfg0.N) : X6 m c t = X6 m c t' := rfl
theorem X7_const (c : Dev nD) (t t' : Fin cfg0.N) : X7 m c t = X7 m c t' := rfl

/-! What the body stores at a point, from the input blocks. -/

def Q (c : Dev nD) (t : Fin cfg0.N) : Vec F S1x1024x512 .bf16 := outQ (X0 m c t) (X1 m c t) (X2 m c t) (X3 m c t) (X4 m c t) (k0_pay3 (X5 m c t)) (X8 m c t) (X11 m c t)
def Kt (c : Dev nD) (t : Fin cfg0.N) : Vec F S1x512x1024 .bf16 := outK (X0 m c t) (X1 m c t) (X2 m c t) (X3 m c t) (X4 m c t) (k0_pay4 (X6 m c t)) (X9 m c t)
def Vv (c : Dev nD) (t : Fin cfg0.N) : Vec F S1x1024x512 .bf16 := outV (X0 m c t) (X1 m c t) (X2 m c t) (X3 m c t) (X4 m c t) (k0_pay5 (X7 m c t)) (X10 m c t) (X12 m c t)
def Codes (c : Dev nD) (t : Fin cfg0.N) : Vec F S1x1024x512 .i8 := outCodes (X0 m c t) (X1 m c t) (X2 m c t) (X3 m c t) (X4 m c t)
def Scales (c : Dev nD) (t : Fin cfg0.N) : Vec F S1x1024 .f32 := outScales (X0 m c t) (X1 m c t) (X2 m c t) (X3 m c t) (X4 m c t)

/-- What is claimed of the converted weights before point `n`: after the first point, that they are there. -/
def Inv (c : Dev nD) (n : ℕ) (s0 s1 s2 : Vec F S512x512 .bf16) : Prop :=
  n ≠ 0 → ∀ t : Fin cfg0.N, s0 = k0_pay3 (X5 m c t) ∧ s1 = k0_pay4 (X6 m c t) ∧ s2 = k0_pay5 (X7 m c t)

theorem inv_there (c : Dev nD) (t : Fin cfg0.N) (n : ℕ) :
    Inv m c n (k0_pay3 (X5 m c t)) (k0_pay4 (X6 m c t)) (k0_pay5 (X7 m c t)) := fun _ _ => ⟨rfl, rfl, rfl⟩

/-- The converted weights, the generator's register, and what is claimed of the former before point `n`. -/
def phi (c : Dev nD) (n : ℕ) : sProp 𝕄 :=
  iprop((∃ s0 s1 s2, ⌜Inv m c n s0 s1 s2⌝ ∗ owns (c : Thread nD τ) scM0_0 fullShare s0
      ∗ owns (c : Thread nD τ) scM0_1 fullShare s1 ∗ owns (c : Thread nD τ) scM0_2 fullShare s2) ∗ (∃ r, prngReg c r))

/-- The windows held to a predicate: the five outputs. -/
def marks : Fin cfg0.W → Bool := fun w => decide (13 ≤ w.val)

/-- What is claimed of the block of scales after a point: the rows of the batches done so far. -/
def scalesDone (c : Dev nD) (n : ℕ) (y : Vec F S3x1024 .f32) : Prop :=
  ∀ t : Fin cfg0.N, t.val / 3 = n / 3 → t.val ≤ n → ∀ r : Fin 1024, y (ix2 (bOf t.val) r) = Scales m c t (ix2 0 r)

/-- The predicate of each output window. -/
def rel (c : Dev nD) (w : Fin cfg0.W) (t : Fin cfg0.N) (y : (cfg0.win w).block.Idx → Elt F (cfg0.win w).elt) : Prop :=
  match w, y with
  | ⟨13, _⟩, y => y = Q m c t
  | ⟨14, _⟩, y => y = Kt m c t
  | ⟨15, _⟩, y => y = Vv m c t
  | ⟨16, _⟩, y => y = Codes m c t
  | ⟨17, _⟩, y => scalesDone m c t.val y
  | _, _ => True

/-- The data of the run: the inputs keep their blocks, of the outputs only `rel` is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨n + 13, h⟩ => Pipeline.Dat.unnamed (cfg := cfg0) ⟨n + 13, h⟩ t
  Φ t := phi m c t.val
  q _ := fullShare
  owed _ := 0

/-- The run's data, with the five output windows held to their predicates. -/
abbrev rdat (c : Dev nD) := (dats m 0 c).toRRel marks (rel m c)

theorem A_eq (c : Dev nD) (w : Fin cfg0.W) : (dats m 0 c).A w = V m c (Pipeline.arrRef spec0 w) := rfl

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d
theorem before_8 (c : Dev nD) (t : Fin cfg0.N) (d) : (dats m 0 c).before 8 t d = iblk m c 8 t :=
  before0_8_of m (dats m 0 c) (A_eq m c 8) (fun _ => rfl) t d
theorem before_9 (c : Dev nD) (t : Fin cfg0.N) (d) : (dats m 0 c).before 9 t d = iblk m c 9 t :=
  before0_9_of m (dats m 0 c) (A_eq m c 9) (fun _ => rfl) t d
theorem before_10 (c : Dev nD) (t : Fin cfg0.N) (d) : (dats m 0 c).before 10 t d = iblk m c 10 t :=
  before0_10_of m (dats m 0 c) (A_eq m c 10) (fun _ => rfl) t d
theorem before_11 (c : Dev nD) (t : Fin cfg0.N) (d) : (dats m 0 c).before 11 t d = iblk m c 11 t :=
  before0_11_of m (dats m 0 c) (A_eq m c 11) (fun _ => rfl) t d
theorem before_12 (c : Dev nD) (t : Fin cfg0.N) (d) : (dats m 0 c).before 12 t d = iblk m c 12 t :=
  before0_12_of m (dats m 0 c) (A_eq m c 12) (fun _ => rfl) t d

/-- What the block of scales may hold when the body runs: nothing is known at the first batch, else what the point before
    left. -/
theorem finds17 (c : Dev nD) (t : Fin cfg0.N) (y : Vec F S3x1024 .f32) (h : (rdat m c).Finds 17 t y) :
    t.val % 3 ≠ 0 → scalesDone m c (t.val - 1) y := by
  intro h0
  have ht : t.val ≠ 0 := fun e => h0 (by rw [e])
  have hl := ((rdat m c).finds_of_pos (w := 17) (t := t) rfl ht y).mp h
  have hf : ¬ ((cfg0.win 17).flush ⟨t.val - 1, Nat.lt_of_le_of_lt (Nat.sub_le _ _) t.isLt⟩ = true) := fun hf => by
    have := (flush0_17 _).mp hf
    simp only at this
    omega
  rcases hl with hl | hl
  · exact absurd hl hf
  · exact (dats m 0 c).toRRel_leaves (fgt := marks) (Rl := rel m c) (w := 17) rfl hl

/-- The row of scales the body writes into its block: at the batch's row the new scales, elsewhere the old. -/
theorem putScale_at (t : Fin cfg0.N) (y : Vec F S3x1024 .f32) (row : Vec F S1x1024 .f32) (b : Fin 3) (r : Fin 1024) :
    putScale (grid0.coords t) y row (ix2 b r) = if b = bOf t.val then row (ix2 0 r) else y (ix2 b r) := by
  have e : k0_off1 (grid0.coords t) (0 : Fin 2) = t.val % 3 :=
    (by decide +kernel : ∀ t : Fin grid0.N, k0_off1 (grid0.coords t) (0 : Fin 2) = t.val % 3) t
  have e' : k0_off1 (grid0.coords t) (1 : Fin 2) = 0 := rfl
  unfold putScale VecWindow.put
  by_cases hb : b = bOf t.val
  · have hv : b.val = t.val % 3 := congrArg Fin.val hb
    rw [if_pos hb, dif_pos (by
      intro a
      match a with
      | ⟨0, _⟩ => show k0_off1 (grid0.coords t) (0 : Fin 2) ≤ b.val ∧ b.val < k0_off1 (grid0.coords t) (0 : Fin 2) + 1; omega
      | ⟨1, _⟩ => show k0_off1 (grid0.coords t) (1 : Fin 2) ≤ r.val ∧ r.val < k0_off1 (grid0.coords t) (1 : Fin 2) + 1024; have := r.isLt; omega)]
    refine congrArg row (funext fun a => Fin.ext ?_)
    match a with
    | ⟨0, _⟩ => show b.val - k0_off1 (grid0.coords t) (0 : Fin 2) = 0; omega
    | ⟨1, _⟩ => show r.val - k0_off1 (grid0.coords t) (1 : Fin 2) = r.val; omega
  · rw [if_neg hb, dif_neg]
    intro hall
    have h0 : k0_off1 (grid0.coords t) (0 : Fin 2) ≤ b.val ∧ b.val < k0_off1 (grid0.coords t) (0 : Fin 2) + 1 := hall 0
    exact hb (Fin.ext (by show b.val = t.val % 3; omega))

/-- One more row of scales. -/
theorem scalesDone_step (c : Dev nD) (t : Fin cfg0.N) (y : Vec F S3x1024 .f32) (hy : t.val % 3 ≠ 0 → scalesDone m c (t.val - 1) y) :
    scalesDone m c t.val (putScale (grid0.coords t) y (Scales m c t)) := by
  intro u hu hle r
  rw [putScale_at]
  by_cases hb : bOf u.val = bOf t.val
  · have hv : u.val % 3 = t.val % 3 := congrArg Fin.val hb
    obtain rfl : u = t := Fin.ext (by omega)
    rw [if_pos rfl]
  · have hv : u.val % 3 ≠ t.val % 3 := fun e => hb (Fin.ext e)
    rw [if_neg hb]
    exact hy (by omega) u (by omega) (by omega) r

end Cert.QkvIdeal.Hand
-- ==== Proof.Qkv.Frame.lean ====
module

public import proofs.«01_k».proof.Proof.Qkv.Data

/-! The run of the projection call: from the body at one point to what the result arrays hold after the run. -/

@[expose] public section

set_option maxRecDepth 16384

noncomputable section

namespace Cert.QkvIdeal.Hand

open Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F] [Named F]

local notation "𝕄" => MT nD τ sig Unit (Elt F) ℕ (UR sig nD τ) ℕ

variable {m : (ℓ : Loc nD τ sig) → Buf (Elt F) ℓ} (ρ : Dev nD → PrngReg)

variable (m) in
/-- What the body is given at a point. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ Y, ⌜(rdat m c).Finds 13 t Y⌝ ∗ owns (c : Thread nD τ) (ms0_13 t) fullShare Y) ∗ (∃ Y, ⌜(rdat m c).Finds 14 t Y⌝ ∗ owns (c : Thread nD τ) (ms0_14 t) fullShare Y) ∗ (∃ Y, ⌜(rdat m c).Finds 15 t Y⌝ ∗ owns (c : Thread nD τ) (ms0_15 t) fullShare Y) ∗ (∃ Y, ⌜(rdat m c).Finds 16 t Y⌝ ∗ owns (c : Thread nD τ) (ms0_16 t) fullShare Y) ∗ (∃ Y, ⌜(rdat m c).Finds 17 t Y⌝ ∗ owns (c : Thread nD τ) (ms0_17 t) fullShare Y))

variable (m) in
/-- What it gives back. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ (∃ X, ⌜rel m c 13 t X⌝ ∗ owns (c : Thread nD τ) (ms0_13 t) fullShare X) ∗ (∃ X, ⌜rel m c 14 t X⌝ ∗ owns (c : Thread nD τ) (ms0_14 t) fullShare X) ∗ (∃ X, ⌜rel m c 15 t X⌝ ∗ owns (c : Thread nD τ) (ms0_15 t) fullShare X) ∗ (∃ X, ⌜rel m c 16 t X⌝ ∗ owns (c : Thread nD τ) (ms0_16 t) fullShare X) ∗ (∃ X, ⌜rel m c 17 t X⌝ ∗ owns (c : Thread nD τ) (ms0_17 t) fullShare X))

set_option maxHeartbeats 4000000 in
/-- The body at the first point. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).owesAt () t.succ = (dats m 0 c).owesAt () t.castSucc from rfl]
  rw [show (dats m 0 c).Φ t.succ = phi m c (t.val + 1) from rfl, show (dats m 0 c).Φ t.castSucc = phi m c t.val from rfl]
  unfold phi
  iintro ⟨⟨⟨%s0, %s1, %s2, %hi, S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%y13, %hy13, H13⟩, ⟨%y14, %hy14, H14⟩, ⟨%y15, %hy15, H15⟩, ⟨%y16, %hy16, H16⟩, ⟨%y17, %hy17, H17⟩⟩
  iapply (run_A c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (Memref.isWhole_whole cc0_scratch0) _ (Memref.isWhole_whole cc0_scratch1) _ (Memref.isWhole_whole cc0_scratch2) ((hcond0_0 t).mpr h) (X0 m c t) (X1 m c t) (X2 m c t) (X3 m c t) (X4 m c t) (X5 m c t) (X6 m c t) (X7 m c t) (X8 m c t) (X9 m c t) (X10 m c t) (X11 m c t) (X12 m c t) y13 y14 y15 y16 y17 s0 s1 s2 Set.univ _)
  isplitl [H0 H1 H2 H3 H4 H5 H6 H7 H8 H9 H10 H11 H12 H13 H14 H15 H16 H17 S0 S1 S2]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [S0]; · iexact S0
    isplitl [S1]; · iexact S1
    iexact S2
  unfold held
  iintro ⟨H0, H1, H2, H3, H4, H5, H6, H7, H8, H9, H10, H11, H12, H13, H14, H15, H16, H17, S0, S1, S2⟩
  isplitl [S0 S1 S2 Hg]
  · isplitr [Hg]
    · iexists k0_pay3 (X5 m c t), k0_pay4 (X6 m c t), k0_pay5 (X7 m c t)
      isplitr
      · ipureintro; exact inv_there m c t (t.val + 1)
      isplitl [S0]; · iexact S0
      isplitl [S1]; · iexact S1
      iexact S2
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr
    swap; · iexact H13
    ipureintro; rfl
  isplitl [H14]
  · iexists _; isplitr
    swap; · iexact H14
    ipureintro; rfl
  isplitl [H15]
  · iexists _; isplitr
    swap; · iexact H15
    ipureintro; rfl
  isplitl [H16]
  · iexists _; isplitr
    swap; · iexact H16
    ipureintro; rfl
  · iexists _; isplitr
    swap; · iexact H17
    ipureintro; exact scalesDone_step m c t y17 (finds17 m c t y17 hy17)

set_option maxHeartbeats 4000000 in
/-- The body at a later point. -/
theorem sound_B (c : Dev nD) (t : Fin cfg0.N) (h : t.val ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).owesAt () t.succ = (dats m 0 c).owesAt () t.castSucc from rfl]
  rw [show (dats m 0 c).Φ t.succ = phi m c (t.val + 1) from rfl, show (dats m 0 c).Φ t.castSucc = phi m c t.val from rfl]
  unfold phi
  iintro ⟨⟨⟨%s0, %s1, %s2, %hi, S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%y13, %hy13, H13⟩, ⟨%y14, %hy14, H14⟩, ⟨%y15, %hy15, H15⟩, ⟨%y16, %hy16, H16⟩, ⟨%y17, %hy17, H17⟩⟩
  obtain ⟨rfl, rfl, rfl⟩ := hi h t
  iapply (run_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (Memref.isWhole_whole cc0_scratch0) _ (Memref.isWhole_whole cc0_scratch1) _ (Memref.isWhole_whole cc0_scratch2) (fun e => h ((hcond0_0 t).mp e)) (X0 m c t) (X1 m c t) (X2 m c t) (X3 m c t) (X4 m c t) (X5 m c t) (X6 m c t) (X7 m c t) (X8 m c t) (X9 m c t) (X10 m c t) (X11 m c t) (X12 m c t) y13 y14 y15 y16 y17 (k0_pay3 (X5 m c t)) (k0_pay4 (X6 m c t)) (k0_pay5 (X7 m c t)) Set.univ _)
  isplitl [H0 H1 H2 H3 H4 H5 H6 H7 H8 H9 H10 H11 H12 H13 H14 H15 H16 H17 S0 S1 S2]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [S0]; · iexact S0
    isplitl [S1]; · iexact S1
    iexact S2
  unfold held
  iintro ⟨H0, H1, H2, H3, H4, H5, H6, H7, H8, H9, H10, H11, H12, H13, H14, H15, H16, H17, S0, S1, S2⟩
  isplitl [S0 S1 S2 Hg]
  · isplitr [Hg]
    · iexists k0_pay3 (X5 m c t), k0_pay4 (X6 m c t), k0_pay5 (X7 m c t)
      isplitr
      · ipureintro; exact inv_there m c t (t.val + 1)
      isplitl [S0]; · iexact S0
      isplitl [S1]; · iexact S1
      iexact S2
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr
    swap; · iexact H13
    ipureintro; rfl
  isplitl [H14]
  · iexists _; isplitr
    swap; · iexact H14
    ipureintro; rfl
  isplitl [H15]
  · iexists _; isplitr
    swap; · iexact H15
    ipureintro; rfl
  isplitl [H16]
  · iexists _; isplitr
    swap; · iexact H16
    ipureintro; rfl
  · iexists _; isplitr
    swap; · iexact H17
    ipureintro; exact scalesDone_step m c t y17 (finds17 m c t y17 hy17)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_A c t h
  · exact sound_B c t h

theorem defs₀_row (t : Fin cfg0.N) :
    (defs₀ (F := F)) .tc cfg0.body (cfg0.bodyArgs t (cfg0.slots t)) = bodyAt0 t := by
  unfold defs₀; rw [Defs.onTc_tc]

/-- The body's obligation, with the outputs held to their predicates. -/
theorem body_obligation (c : Dev nD) :
    BodyObligationRel (dats m 0 c) (defs₀ (F := F)) Variants.none () Set.univ marks (rel m c) := fun t => by
  rw [bigSep_W0, bigSep_W0, defs₀_row]
  exact triple_restated (sound_body c t) rfl .rfl fun _ => .rfl

theorem hin (c : Dev nD) : Pipeline.ΦA spec0 c ⊢ (dats m 0 c).Φ 0 := by
  rw [show (dats m 0 c).Φ 0 = phi m c 0 from rfl, PhiA0_eq]
  unfold phi
  iintro ⟨⟨⟨%s0, S0⟩, ⟨%s1, S1⟩, ⟨%s2, S2⟩⟩, Hg⟩
  isplitr [Hg]
  · iexists s0, s1, s2
    isplitr
    · ipureintro; exact fun h => absurd rfl h
    isplitl [S0]; · iexact S0
    isplitl [S1]; · iexact S1
    iexact S2
  · iexact Hg

theorem hout (c : Dev nD) : (dats m 0 c).Φ (Fin.last cfg0.N) ⊢ Pipeline.ΦA spec0 c := by
  rw [show (dats m 0 c).Φ (Fin.last cfg0.N) = phi m c cfg0.N from rfl, PhiA0_eq]
  unfold phi
  iintro ⟨⟨%s0, %s1, %s2, -, S0, S1, S2⟩, Hg⟩
  isplitr [Hg]
  · isplitl [S0]; · iexists _; iexact S0
    isplitl [S1]; · iexists _; iexact S1
    iexists _; iexact S2
  · iexact Hg

set_option backward.isDefEq.respectTransparency.types false in
variable (m) in
/-- The run of the whole call, with every semaphore at zero at the end. -/
theorem run_main_quiescent : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => (body_obligation c).toRRel) (hshare := fun c => (dats m 0 c).share_full fun _ => rfl)
    (howed := fun _ _ => rfl) (V := V m) (hmain := hmain m Variants.none) (hA := A_eq m) (hin := hin) (hout := hout)

variable (m) in
theorem run_main : θ_run defs (onTc (τ := τ) (main (F := F))) (s₀ m ρ)
    (Pipeline.RDat.FramePost (cfgs 0) (fun c => rdat m c) (V m)) :=
  (θ_run defs _ _).mono (fun _ h => h.1) (run_main_quiescent m ρ)

end Cert.QkvIdeal.Hand
-- ==== Proof.Qkv.Args.lean ====
module

public import proofs.«01_k».proof.Proof.Qkv.Frame

/-! The projection call runs to an end, leaves its argument arrays as they were, and leaves every semaphore counter at zero. -/

@[expose] public section

set_option maxRecDepth 16384

noncomputable section

namespace Cert.QkvIdeal.Hand

open Cert.QkvIdeal Cert.QkvIdeal.Gen Idealize.ShloMosaic.Pipeline
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {m : (ℓ : Loc nD τ sig) → Buf (Elt F) ℓ} (ρ : Dev nD → PrngReg)

/-- After the run the argument arrays are as launched. -/
theorem args_kept {r : PUnit × MemSt nD τ sig (Elt F)} (h : RDat.FramePost (cfgs 0) (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  obtain ⟨hw, hr⟩ := h c
  have key : ∀ w : Fin cfg0.W, (cfg0.win w).isOut = false → r.2.mem ((cfg0.spec w).arr.view.loc (c.tc : Thread nD τ)) = (dats m 0 c).A w := fun w hin => by
    have e := hw w
    rw [RDat.ArrAt_in _ w hin] at e
    exact e
  exact ⟨(key 0 rfl).trans ((A_eq m c 0).trans (V_main_arg0 m c)),
    (key 1 rfl).trans ((A_eq m c 1).trans (V_main_arg1 m c)),
    (key 2 rfl).trans ((A_eq m c 2).trans (V_main_arg2 m c)),
    (hr main_arg3 (Pipeline.mem_restRefs_of main_arg3 (by decide) (by decide))).trans (V_main_arg3 m c),
    (hr main_arg4 (Pipeline.mem_restRefs_of main_arg4 (by decide) (by decide))).trans (V_main_arg4 m c),
    (key 5 rfl).trans ((A_eq m c 5).trans (V_main_arg5 m c)),
    (key 6 rfl).trans ((A_eq m c 6).trans (V_main_arg6 m c)),
    (key 7 rfl).trans ((A_eq m c 7).trans (V_main_arg7 m c)),
    (hr main_arg8 (Pipeline.mem_restRefs_of main_arg8 (by decide) (by decide))).trans (V_main_arg8 m c),
    (hr main_arg9 (Pipeline.mem_restRefs_of main_arg9 (by decide) (by decide))).trans (V_main_arg9 m c),
    (hr main_arg10 (Pipeline.mem_restRefs_of main_arg10 (by decide) (by decide))).trans (V_main_arg10 m c),
    (hr main_arg11 (Pipeline.mem_restRefs_of main_arg11 (by decide) (by decide))).trans (V_main_arg11 m c),
    (hr main_arg12 (Pipeline.mem_restRefs_of main_arg12 (by decide) (by decide))).trans (V_main_arg12 m c)⟩

variable (m) in
/-- The call ends, with its arguments kept and the counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0) :=
  (θ_run defs _ _).mono (fun _ h => ⟨args_kept h.1, h.2⟩) (run_main_quiescent m ρ)

end Cert.QkvIdeal.Hand
-- ==== Proof.Qkv.Payload.lean ====
module

public import proofs.«01_k».proof.Proof.Attention.Quant
public import proofs.«01_k».proof.Proof.Qkv.Buffers
public import Idealize.ShloMosaic.Lib.Pointwise

/-! What the body of the projection call stores, at an index, on the extended reals: from the normalised rows of its block, their
scales and codes, and the rows through the three quantised projections. -/

@[expose] public section

set_option maxRecDepth 16384

noncomputable section

namespace Cert.QkvIdeal.Hand

open Cert.QkvIdeal Cert.QkvIdeal.Gen Cert.Quant Idealize.ShloMosaic Idealize.ShloMosaic.Pointwise

/-- The name `inv_127` of this call is `1 / 127`. -/
theorem named_inv_127 : (Named.named Cert.QkvIdeal.κ "inv_127" 0x3C010204#32 : Ideal .f32) = ((1 / 127 : ℝ) : EReal) :=
  IdealRules.named_const.ideal_named_scalar _ _ _ _ rfl

/-- The row through a quantised projection without bias. -/
def rowKey (f : Fin 512 → EReal) (w : Fin 512 → Fin 512 → EReal) (s : Fin 512 → EReal) (d : Fin 512) : EReal :=
  (∑ x, rowQ f x * w x d) * rowScale f * s d

variable (x0 : Vec Ideal S1x1024x512 .bf16) (x1 x2 : Vec Ideal S1x1x512 .f32) (x3 x4 : Vec Ideal S1x512 .f32)

/-- Row `r` of the block, normalised. -/
def rowH (r : Fin 1024) (d : Fin 512) : EReal :=
  (x0 (ix3 0 r d) - x1 (ix3 0 0 d)) * x2 (ix3 0 0 d) * x3 (ix2 0 d) + x4 (ix2 0 d)

/-- The normalised rows. -/
theorem pay6_at (r : Fin 1024) (d : Fin 512) : k0_pay6 x0 x1 x2 x3 x4 (ix2 r d) = rowH x0 x1 x2 x3 x4 r d := by
  unfold rowH
  pointwise [k0_pay6]

/-- The scale of a row. -/
theorem pay7_at (r : Fin 1024) : k0_pay7 x0 x1 x2 x3 x4 (ix2 r 0) = rowScale (rowH x0 x1 x2 x3 x4 r) := by
  unfold rowScale rowMax
  simp only [← pay6_at]
  rw [← ofBits_neg_inf, ← named_inv_127]
  pointwise [k0_pay7]

/-- The rounded and clipped values of a row. -/
theorem pay9_at (r : Fin 1024) (d : Fin 512) :
    k0_pay9 (F := Ideal) (k0_pay8 x0 x1 x2 x3 x4) low (ix2 r d) = rowQ (rowH x0 x1 x2 x3 x4 r) d := by
  unfold rowQ
  rw [← pay7_at, ← ofBits_127, ← ofBits_neg_127, ← pay6_at]
  pointwise [k0_pay9, k0_pay8]

/-- The codes of a row. -/
theorem outCodes_at (r : Fin 1024) (d : Fin 512) :
    outCodes x0 x1 x2 x3 x4 (ix3 0 r d) = Ideal.fptosi 8 (rowQ (rowH x0 x1 x2 x3 x4 r) d) := by
  rw [← pay9_at]
  unfold outCodes
  generalize k0_pay8 x0 x1 x2 x3 x4 = a
  pointwise [k0_pay11]
  rfl

/-- The scales of the rows, as one row. -/
theorem outScales_at (r : Fin 1024) : outScales x0 x1 x2 x3 x4 (ix2 0 r) = rowScale (rowH x0 x1 x2 x3 x4 r) := by
  rw [← pay7_at]
  unfold outScales
  generalize k0_pay7 x0 x1 x2 x3 x4 = a
  pointwise [k0_pay10]

/-! The converted weights; those of the keys are transposed. -/

theorem pay3_at (w : Vec Ideal S512x512 .i8) (x d : Fin 512) :
    k0_pay3 (F := Ideal) w (ix2 x d) = (((w (ix2 x d)).toInt : ℝ) : EReal) := by
  pointwise [k0_pay3]
  rfl

theorem pay4_at (w : Vec Ideal S512x512 .i8) (x d : Fin 512) :
    k0_pay4 (F := Ideal) w (ix2 x d) = (((w (ix2 d x)).toInt : ℝ) : EReal) := by
  pointwise [k0_pay4]
  rfl

theorem pay5_at (w : Vec Ideal S512x512 .i8) (x d : Fin 512) :
    k0_pay5 (F := Ideal) w (ix2 x d) = (((w (ix2 x d)).toInt : ℝ) : EReal) := by
  pointwise [k0_pay5]
  rfl

/-- The queries. -/
theorem outQ_at (w : Vec Ideal S512x512 .bf16) (s b : Vec Ideal S1x512 .f32) (r : Fin 1024) (d : Fin 512) :
    outQ x0 x1 x2 x3 x4 w s b (ix3 0 r d)
      = rowProj (rowH x0 x1 x2 x3 x4 r) (fun x d => w (ix2 x d)) (fun d => s (ix2 0 d)) (fun d => b (ix2 0 d)) d := by
  unfold rowProj outQ
  simp only [← pay7_at, ← pay9_at]
  generalize k0_pay7 x0 x1 x2 x3 x4 = a
  generalize k0_pay8 x0 x1 x2 x3 x4 = e
  pointwise [k0_pay13, k0_pay12]

/-- The values. -/
theorem outV_at (w : Vec Ideal S512x512 .bf16) (s b : Vec Ideal S1x512 .f32) (r : Fin 1024) (d : Fin 512) :
    outV x0 x1 x2 x3 x4 w s b (ix3 0 r d)
      = rowProj (rowH x0 x1 x2 x3 x4 r) (fun x d => w (ix2 x d)) (fun d => s (ix2 0 d)) (fun d => b (ix2 0 d)) d := by
  unfold rowProj outV
  simp only [← pay7_at, ← pay9_at]
  generalize k0_pay7 x0 x1 x2 x3 x4 = a
  generalize k0_pay8 x0 x1 x2 x3 x4 = e
  pointwise [k0_pay1, k0_pay14, k0_pay15, k0_pay12]

/-- The keys, transposed: the product has the weights on the left. -/
theorem outK_at (w : Vec Ideal S512x512 .bf16) (s : Vec Ideal S512x1 .f32) (d : Fin 512) (r : Fin 1024) :
    outK x0 x1 x2 x3 x4 w s (ix3 0 d r)
      = rowKey (rowH x0 x1 x2 x3 x4 r) (fun x d => w (ix2 d x)) (fun d => s (ix2 d 0)) d := by
  unfold rowKey outK
  simp only [← pay7_at, ← pay9_at]
  have e : (∑ x : Fin 512, k0_pay9 (F := Ideal) (k0_pay8 x0 x1 x2 x3 x4) low (ix2 r x) * w (ix2 d x))
      = ∑ x : Fin 512, w (ix2 d x) * k0_pay9 (F := Ideal) (k0_pay8 x0 x1 x2 x3 x4) low (ix2 r x) :=
    Finset.sum_congr rfl fun x _ => mul_comm _ _
  rw [e]
  generalize k0_pay7 x0 x1 x2 x3 x4 = a
  generalize k0_pay8 x0 x1 x2 x3 x4 = e
  pointwise [k0_pay2, k0_pay10, k0_pay12]

end Cert.QkvIdeal.Hand
-- ==== Proof.Qkv.Blocks.lean ====
module

public import proofs.«01_k».proof.Proof.Qkv.Data
public import Idealize.ShloMosaic.Lib.Pointwise.Index
public import Idealize.ShloMosaic.Lib.Pipeline.Value
public import Idealize.ShloMosaic.Lib.ValueLayoutCasts

/-! The blocks of the input arrays that the body of the projection call is given at a grid point, read at an index. -/

@[expose] public section

set_option maxRecDepth 16384

noncomputable section

namespace Cert.QkvIdeal.Hand

open Cert.QkvIdeal Cert.QkvIdeal.Gen Idealize.ShloMosaic Idealize.ShloMosaic.TcCoe Idealize.SL.Sem Idealize.ShloMosaic.Pipeline

variable {F : FTy → Type} [FloatOps F] [Named F] (m : (ℓ : Loc nD τ sig) → Buf (Elt F) ℓ)

/-- The array row of row `r` of a grid point's block of rows. -/
def iOf (n : ℕ) (r : Fin 1024) : Fin 32768 := ⟨1024 * (n / 3 % 32) + r.val, by have := r.isLt; have := Nat.mod_lt (n / 3) (by decide : 0 < 32); omega⟩

/-- A grid point's block of rows, from the point's bound. -/
theorem third (t : Fin cfg0.N) : t.val / 3 % 32 = t.val / 3 := by
  have h : t.val < 96 := lt_of_lt_of_eq t.isLt N_0
  omega

theorem idx_0 : ∀ t : Fin grid0.N, win0_0.index t 0 = t.val % 3 ∧ win0_0.index t 1 = t.val / 3 ∧ win0_0.index t 2 = 0 := by
  decide +kernel
theorem idx_1 : ∀ t : Fin grid0.N, win0_1.index t 0 = t.val % 3 ∧ win0_1.index t 1 = 0 ∧ win0_1.index t 2 = 0 := by
  decide +kernel
theorem idx_2 : ∀ t : Fin grid0.N, win0_2.index t 0 = t.val % 3 ∧ win0_2.index t 1 = 0 ∧ win0_2.index t 2 = 0 := by
  decide +kernel
theorem idx_3 : ∀ t : Fin grid0.N, win0_3.index t 0 = 0 ∧ win0_3.index t 1 = 0 := by
  decide +kernel
theorem idx_4 : ∀ t : Fin grid0.N, win0_4.index t 0 = 0 ∧ win0_4.index t 1 = 0 := by
  decide +kernel
theorem idx_5 : ∀ t : Fin grid0.N, win0_5.index t 0 = 0 ∧ win0_5.index t 1 = 0 := by
  decide +kernel
theorem idx_6 : ∀ t : Fin grid0.N, win0_6.index t 0 = 0 ∧ win0_6.index t 1 = 0 := by
  decide +kernel
theorem idx_7 : ∀ t : Fin grid0.N, win0_7.index t 0 = 0 ∧ win0_7.index t 1 = 0 := by
  decide +kernel
theorem idx_8 : ∀ t : Fin grid0.N, win0_8.index t 0 = 0 ∧ win0_8.index t 1 = 0 := by
  decide +kernel
theorem idx_9 : ∀ t : Fin grid0.N, win0_9.index t 0 = 0 ∧ win0_9.index t 1 = 0 := by
  decide +kernel
theorem idx_10 : ∀ t : Fin grid0.N, win0_10.index t 0 = 0 ∧ win0_10.index t 1 = 0 := by
  decide +kernel
theorem idx_11 : ∀ t : Fin grid0.N, win0_11.index t 0 = 0 ∧ win0_11.index t 1 = 0 := by
  decide +kernel
theorem idx_12 : ∀ t : Fin grid0.N, win0_12.index t 0 = 0 ∧ win0_12.index t 1 = 0 := by
  decide +kernel

/-- The block of the activations. -/
theorem X0_at (c : Dev nD) (t : Fin cfg0.N) (r : Fin 1024) (d : Fin 512) :
    X0 m c t (ix3 0 r d) = m ((c : Thread nD τ).loc main_arg0) (ix3 (bOf t.val) (iOf t.val r) d) := by
  obtain ⟨e0, e1, e2⟩ := idx_0 t
  have ht := third t
  show V m c main_arg0 (((cfg0.win 0).blk t).view.emb (ix3 0 r d)) = _
  rw [V_main_arg0]
  refine congrArg _ (funext fun a => Fin.ext ?_)
  match a with
  | ⟨0, _⟩ => show win0_0.index t (0 : Fin 3) * 1 + 1 * 0 = t.val % 3; omega
  | ⟨1, _⟩ => show win0_0.index t (1 : Fin 3) * 1024 + 1 * r.val = 1024 * (t.val / 3 % 32) + r.val; omega
  | ⟨2, _⟩ => show win0_0.index t (2 : Fin 3) * 512 + 1 * d.val = d.val; omega

/-- The batch's means. -/
theorem X1_at (c : Dev nD) (t : Fin cfg0.N) (d : Fin 512) :
    X1 m c t (ix3 0 0 d) = m ((c : Thread nD τ).loc main_arg1) (ix3 (bOf t.val) 0 d) := by
  obtain ⟨e0, e1, e2⟩ := idx_1 t
  show V m c main_arg1 (((cfg0.win 1).blk t).view.emb (ix3 0 0 d)) = _
  rw [V_main_arg1]
  refine congrArg _ (funext fun a => Fin.ext ?_)
  match a with
  | ⟨0, _⟩ => show win0_1.index t (0 : Fin 3) * 1 + 1 * 0 = t.val % 3; omega
  | ⟨1, _⟩ => show win0_1.index t (1 : Fin 3) * 1 + 1 * 0 = 0; omega
  | ⟨2, _⟩ => show win0_1.index t (2 : Fin 3) * 512 + 1 * d.val = d.val; omega

/-- The batch's inverse deviations. -/
theorem X2_at (c : Dev nD) (t : Fin cfg0.N) (d : Fin 512) :
    X2 m c t (ix3 0 0 d) = m ((c : Thread nD τ).loc main_arg2) (ix3 (bOf t.val) 0 d) := by
  obtain ⟨e0, e1, e2⟩ := idx_2 t
  show V m c main_arg2 (((cfg0.win 2).blk t).view.emb (ix3 0 0 d)) = _
  rw [V_main_arg2]
  refine congrArg _ (funext fun a => Fin.ext ?_)
  match a with
  | ⟨0, _⟩ => show win0_2.index t (0 : Fin 3) * 1 + 1 * 0 = t.val % 3; omega
  | ⟨1, _⟩ => show win0_2.index t (1 : Fin 3) * 1 + 1 * 0 = 0; omega
  | ⟨2, _⟩ => show win0_2.index t (2 : Fin 3) * 512 + 1 * d.val = d.val; omega

/-! The weights: the whole array at every point. -/

theorem X5_at (c : Dev nD) (t : Fin cfg0.N) (x d : Fin 512) :
    X5 m c t (ix2 x d) = m ((c : Thread nD τ).loc main_arg5) (ix2 x d) := by
  obtain ⟨e0, e1⟩ := idx_5 t
  show V m c main_arg5 (((cfg0.win 5).blk t).view.emb (ix2 x d)) = _
  rw [V_main_arg5]
  refine congrArg _ (funext fun a => Fin.ext ?_)
  match a with
  | ⟨0, _⟩ => show win0_5.index t (0 : Fin 2) * 512 + 1 * x.val = x.val; omega
  | ⟨1, _⟩ => show win0_5.index t (1 : Fin 2) * 512 + 1 * d.val = d.val; omega

theorem X6_at (c : Dev nD) (t : Fin cfg0.N) (x d : Fin 512) :
    X6 m c t (ix2 x d) = m ((c : Thread nD τ).loc main_arg6) (ix2 x d) := by
  obtain ⟨e0, e1⟩ := idx_6 t
  show V m c main_arg6 (((cfg0.win 6).blk t).view.emb (ix2 x d)) = _
  rw [V_main_arg6]
  refine congrArg _ (funext fun a => Fin.ext ?_)
  match a with
  | ⟨0, _⟩ => show win0_6.index t (0 : Fin 2) * 512 + 1 * x.val = x.val; omega
  | ⟨1, _⟩ => show win0_6.index t (1 : Fin 2) * 512 + 1 * d.val = d.val; omega

theorem X7_at (c : Dev nD) (t : Fin cfg0.N) (x d : Fin 512) :
    X7 m c t (ix2 x d) = m ((c : Thread nD τ).loc main_arg7) (ix2 x d) := by
  obtain ⟨e0, e1⟩ := idx_7 t
  show V m c main_arg7 (((cfg0.win 7).blk t).view.emb (ix2 x d)) = _
  rw [V_main_arg7]
  refine congrArg _ (funext fun a => Fin.ext ?_)
  match a with
  | ⟨0, _⟩ => show win0_7.index t (0 : Fin 2) * 512 + 1 * x.val = x.val; omega
  | ⟨1, _⟩ => show win0_7.index t (1 : Fin 2) * 512 + 1 * d.val = d.val; omega

/-! The arguments of 512 numbers, reshaped to a row; the scales of the keys' weights are reshaped to a column. -/

theorem V_main_v0 (c : Dev nD) (d : Fin 512) :
    (V m c main_v0 : Vec F S1x512 .f32) (ix2 0 d) = (m ((c : Thread nD τ).loc main_arg3) : Vec F S512 .f32) (ix1 d) := by
  have h : V m c main_v0 = shapeCast S1x512 (m ((c : Thread nD τ).loc main_arg3) : Vec F S512 .f32) shapeCasts_S512_S1x512 := by
    show StableHlo.after hostOps0 _ (Proc.devRef .tc main_v0) = _
    after_results
    rfl
  rw [h]
  exact ValueIdx.shapeCast_a_1a_apply _ _ 0 d

theorem X3_at (c : Dev nD) (t : Fin cfg0.N) (d : Fin 512) :
    X3 m c t (ix2 0 d) = (m ((c : Thread nD τ).loc main_arg3) : Vec F S512 .f32) (ix1 d) := by
  obtain ⟨e0, e1⟩ := idx_3 t
  rw [← V_main_v0 m c d]
  show V m c main_v0 (((cfg0.win 3).blk t).view.emb (ix2 0 d)) = _
  refine congrArg _ (funext fun a => Fin.ext ?_)
  match a with
  | ⟨0, _⟩ => show win0_3.index t (0 : Fin 2) * 1 + 1 * 0 = 0; omega
  | ⟨1, _⟩ => show win0_3.index t (1 : Fin 2) * 512 + 1 * d.val = d.val; omega

theorem V_main_v1 (c : Dev nD) (d : Fin 512) :
    (V m c main_v1 : Vec F S1x512 .f32) (ix2 0 d) = (m ((c : Thread nD τ).loc main_arg4) : Vec F S512 .f32) (ix1 d) := by
  have h : V m c main_v1 = shapeCast S1x512 (m ((c : Thread nD τ).loc main_arg4) : Vec F S512 .f32) shapeCasts_S512_S1x512 := by
    show StableHlo.after hostOps0 _ (Proc.devRef .tc main_v1) = _
    after_results
    rfl
  rw [h]
  exact ValueIdx.shapeCast_a_1a_apply _ _ 0 d

theorem X4_at (c : Dev nD) (t : Fin cfg0.N) (d : Fin 512) :
    X4 m c t (ix2 0 d) = (m ((c : Thread nD τ).loc main_arg4) : Vec F S512 .f32) (ix1 d) := by
  obtain ⟨e0, e1⟩ := idx_4 t
  rw [← V_main_v1 m c d]
  show V m c main_v1 (((cfg0.win 4).blk t).view.emb (ix2 0 d)) = _
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * d.val = d.val; omega

theorem V_main_v2 (c : Dev nD) (d : Fin 512) :
    (V m c main_v2 : Vec F S1x512 .f32) (ix2 0 d) = (m ((c : Thread nD τ).loc main_arg8) : Vec F S512 .f32) (ix1 d) := by
  have h : V m c main_v2 = shapeCast S1x512 (m ((c : Thread nD τ).loc main_arg8) : Vec F S512 .f32) shapeCasts_S512_S1x512 := by
    show StableHlo.after hostOps0 _ (Proc.devRef .tc main_v2) = _
    after_results
    rfl
  rw [h]
  exact ValueIdx.shapeCast_a_1a_apply _ _ 0 d

theorem X8_at (c : Dev nD) (t : Fin cfg0.N) (d : Fin 512) :
    X8 m c t (ix2 0 d) = (m ((c : Thread nD τ).loc main_arg8) : Vec F S512 .f32) (ix1 d) := by
  obtain ⟨e0, e1⟩ := idx_8 t
  rw [← V_main_v2 m c d]
  show V m c main_v2 (((cfg0.win 8).blk t).view.emb (ix2 0 d)) = _
  refine congrArg _ (funext fun a => Fin.ext ?_)
  match a with
  | ⟨0, _⟩ => show win0_8.index t (0 : Fin 2) * 1 + 1 * 0 = 0; omega
  | ⟨1, _⟩ => show win0_8.index t (1 : Fin 2) * 512 + 1 * d.val = d.val; omega

theorem V_main_v4 (c : Dev nD) (d : Fin 512) :
    (V m c main_v4 : Vec F S1x512 .f32) (ix2 0 d) = (m ((c : Thread nD τ).loc main_arg10) : Vec F S512 .f32) (ix1 d) := by
  have h : V m c main_v4 = shapeCast S1x512 (m ((c : Thread nD τ).loc main_arg10) : Vec F S512 .f32) shapeCasts_S512_S1x512 := by
    show StableHlo.after hostOps0 _ (Proc.devRef .tc main_v4) = _
    after_results
    rfl
  rw [h]
  exact ValueIdx.shapeCast_a_1a_apply _ _ 0 d

theorem X10_at (c : Dev nD) (t : Fin cfg0.N) (d : Fin 512) :
    X10 m c t (ix2 0 d) = (m ((c : Thread nD τ).loc main_arg10) : Vec F S512 .f32) (ix1 d) := by
  obtain ⟨e0, e1⟩ := idx_10 t
  rw [← V_main_v4 m c d]
  show V m c main_v4 (((cfg0.win 10).blk t).view.emb (ix2 0 d)) = _
  refine congrArg _ (funext fun a => Fin.ext ?_)
  match a with
  | ⟨0, _⟩ => show win0_10.index t (0 : Fin 2) * 1 + 1 * 0 = 0; omega
  | ⟨1, _⟩ => show win0_10.index t (1 : Fin 2) * 512 + 1 * d.val = d.val; omega

theorem V_main_v5 (c : Dev nD) (d : Fin 512) :
    (V m c main_v5 : Vec F S1x512 .f32) (ix2 0 d) = (m ((c : Thread nD τ).loc main_arg11) : Vec F S512 .f32) (ix1 d) := by
  have h : V m c main_v5 = shapeCast S1x512 (m ((c : Thread nD τ).loc main_arg11) : Vec F S512 .f32) shapeCasts_S512_S1x512 := by
    show StableHlo.after hostOps0 _ (Proc.devRef .tc main_v5) = _
    after_results
    rfl
  rw [h]
  exact ValueIdx.shapeCast_a_1a_apply _ _ 0 d

theorem X11_at (c : Dev nD) (t : Fin cfg0.N) (d : Fin 512) :
    X11 m c t (ix2 0 d) = (m ((c : Thread nD τ).loc main_arg11) : Vec F S512 .f32) (ix1 d) := by
  obtain ⟨e0, e1⟩ := idx_11 t
  rw [← V_main_v5 m c d]
  show V m c main_v5 (((cfg0.win 11).blk t).view.emb (ix2 0 d)) = _
  refine congrArg _ (funext fun a => Fin.ext ?_)
  match a with
  | ⟨0, _⟩ => show win0_11.index t (0 : Fin 2) * 1 + 1 * 0 = 0; omega
  | ⟨1, _⟩ => show win0_11.index t (1 : Fin 2) * 512 + 1 * d.val = d.val; omega

theorem V_main_v6 (c : Dev nD) (d : Fin 512) :
    (V m c main_v6 : Vec F S1x512 .f32) (ix2 0 d) = (m ((c : Thread nD τ).loc main_arg12) : Vec F S512 .f32) (ix1 d) := by
  have h : V m c main_v6 = shapeCast S1x512 (m ((c : Thread nD τ).loc main_arg12) : Vec F S512 .f32) shapeCasts_S512_S1x512 := by
    show StableHlo.after hostOps0 _ (Proc.devRef .tc main_v6) = _
    after_results
    rfl
  rw [h]
  exact ValueIdx.shapeCast_a_1a_apply _ _ 0 d

theorem X12_at (c : Dev nD) (t : Fin cfg0.N) (d : Fin 512) :
    X12 m c t (ix2 0 d) = (m ((c : Thread nD τ).loc main_arg12) : Vec F S512 .f32) (ix1 d) := by
  obtain ⟨e0, e1⟩ := idx_12 t
  rw [← V_main_v6 m c d]
  show V m c main_v6 (((cfg0.win 12).blk t).view.emb (ix2 0 d)) = _
  refine congrArg _ (funext fun a => Fin.ext ?_)
  match a with
  | ⟨0, _⟩ => show win0_12.index t (0 : Fin 2) * 1 + 1 * 0 = 0; omega
  | ⟨1, _⟩ => show win0_12.index t (1 : Fin 2) * 512 + 1 * d.val = d.val; omega

theorem V_main_v3 (c : Dev nD) (d : Fin 512) :
    (V m c main_v3 : Vec F S512x1 .f32) (ix2 d 0) = (m ((c : Thread nD τ).loc main_arg9) : Vec F S512 .f32) (ix1 d) := by
  have h : V m c main_v3 = shapeCast S512x1 (m ((c : Thread nD τ).loc main_arg9) : Vec F S512 .f32) shapeCasts_S512_S512x1 := by
    show StableHlo.after hostOps0 _ (Proc.devRef .tc main_v3) = _
    after_results
    rfl
  rw [h]
  exact ValueIdx.shapeCast_a_a1_apply _ _ d 0

theorem X9_at (c : Dev nD) (t : Fin cfg0.N) (d : Fin 512) :
    X9 m c t (ix2 d 0) = (m ((c : Thread nD τ).loc main_arg9) : Vec F S512 .f32) (ix1 d) := by
  obtain ⟨e0, e1⟩ := idx_9 t
  rw [← V_main_v3 m c d]
  show V m c main_v3 (((cfg0.win 9).blk t).view.emb (ix2 d 0)) = _
  refine congrArg _ (funext fun a => Fin.ext ?_)
  match a with
  | ⟨0, _⟩ => show win0_9.index t (0 : Fin 2) * 512 + 1 * d.val = d.val; omega
  | ⟨1, _⟩ => show win0_9.index t (1 : Fin 2) * 1 + 1 * 0 = 0; omega

end Cert.QkvIdeal.Hand
-- ==== Proof.Qkv.Places.lean ====
module

public import proofs.«01_k».proof.Proof.Qkv.Blocks
public import Idealize.ShloMosaic.Lib.Pipeline.ValueKit.Geometry
public import Idealize.ShloMosaic.Lib.Pipeline.ArrRel

/-! Where the blocks of the five result arrays lie, and that the blocks written back fill the arrays. -/

@[expose] public section

set_option maxRecDepth 16384

noncomputable section

namespace Cert.QkvIdeal.Hand

open Cert.QkvIdeal Cert.QkvIdeal.Gen Idealize.ShloMosaic Idealize.ShloMosaic.TcCoe Idealize.SL.Sem Idealize.ShloMosaic.Pipeline

theorem idx_13 : ∀ t : Fin grid0.N, win0_13.index t 0 = t.val % 3 ∧ win0_13.index t 1 = t.val / 3 ∧ win0_13.index t 2 = 0 := by
  decide +kernel
theorem idx_14 : ∀ t : Fin grid0.N, win0_14.index t 0 = t.val % 3 ∧ win0_14.index t 1 = 0 ∧ win0_14.index t 2 = t.val / 3 := by
  decide +kernel
theorem idx_15 : ∀ t : Fin grid0.N, win0_15.index t 0 = t.val % 3 ∧ win0_15.index t 1 = t.val / 3 ∧ win0_15.index t 2 = 0 := by
  decide +kernel
theorem idx_16 : ∀ t : Fin grid0.N, win0_16.index t 0 = t.val % 3 ∧ win0_16.index t 1 = t.val / 3 ∧ win0_16.index t 2 = 0 := by
  decide +kernel
theorem idx_17 : ∀ t : Fin grid0.N, win0_17.index t 0 = 0 ∧ win0_17.index t 1 = t.val / 3 := by
  decide +kernel

/-- Where the block of window 13 lies in its array. -/
theorem emb_13 (t : Fin cfg0.N) (r : Fin 1024) (d : Fin 512) :
    ((cfg0.win 13).blk t).view.emb (ix3 0 r d) = (ix3 (bOf t.val) (iOf t.val r) d : S3x32768x512.Idx) := by
  obtain ⟨e0, e1, e2⟩ := idx_13 t
  have ht := third t
  refine funext fun a => Fin.ext ?_
  match a with
  | ⟨0, _⟩ => show win0_13.index t (0 : Fin 3) * 1 + 1 * 0 = t.val % 3; omega
  | ⟨1, _⟩ => show win0_13.index t (1 : Fin 3) * 1024 + 1 * r.val = 1024 * (t.val / 3 % 32) + r.val; omega
  | ⟨2, _⟩ => show win0_13.index t (2 : Fin 3) * 512 + 1 * d.val = d.val; omega

/-- Where the block of window 15 lies in its array. -/
theorem emb_15 (t : Fin cfg0.N) (r : Fin 1024) (d : Fin 512) :
    ((cfg0.win 15).blk t).view.emb (ix3 0 r d) = (ix3 (bOf t.val) (iOf t.val r) d : S3x32768x512.Idx) := by
  obtain ⟨e0, e1, e2⟩ := idx_15 t
  have ht := third t
  refine funext fun a => Fin.ext ?_
  match a with
  | ⟨0, _⟩ => show win0_15.index t (0 : Fin 3) * 1 + 1 * 0 = t.val % 3; omega
  | ⟨1, _⟩ => show win0_15.index t (1 : Fin 3) * 1024 + 1 * r.val = 1024 * (t.val / 3 % 32) + r.val; omega
  | ⟨2, _⟩ => show win0_15.index t (2 : Fin 3) * 512 + 1 * d.val = d.val; omega

/-- Where the block of window 16 lies in its array. -/
theorem emb_16 (t : Fin cfg0.N) (r : Fin 1024) (d : Fin 512) :
    ((cfg0.win 16).blk t).view.emb (ix3 0 r d) = (ix3 (bOf t.val) (iOf t.val r) d : S3x32768x512.Idx) := by
  obtain ⟨e0, e1, e2⟩ := idx_16 t
  have ht := third t
  refine funext fun a => Fin.ext ?_
  match a with
  | ⟨0, _⟩ => show win0_16.index t (0 : Fin 3) * 1 + 1 * 0 = t.val % 3; omega
  | ⟨1, _⟩ => show win0_16.index t (1 : Fin 3) * 1024 + 1 * r.val = 1024 * (t.val / 3 % 32) + r.val; omega
  | ⟨2, _⟩ => show win0_16.index t (2 : Fin 3) * 512 + 1 * d.val = d.val; omega

/-- Where the block of window 14 lies in its array. -/
theorem emb_14 (t : Fin cfg0.N) (d : Fin 512) (r : Fin 1024) :
    ((cfg0.win 14).blk t).view.emb (ix3 0 d r) = (ix3 (bOf t.val) d (iOf t.val r) : S3x512x32768.Idx) := by
  obtain ⟨e0, e1, e2⟩ := idx_14 t
  have ht := third t
  refine funext fun a => Fin.ext ?_
  match a with
  | ⟨0, _⟩ => show win0_14.index t (0 : Fin 3) * 1 + 1 * 0 = t.val % 3; omega
  | ⟨1, _⟩ => show win0_14.index t (1 : Fin 3) * 512 + 1 * d.val = d.val; omega
  | ⟨2, _⟩ => show win0_14.index t (2 : Fin 3) * 1024 + 1 * r.val = 1024 * (t.val / 3 % 32) + r.val; omega

/-- Where the block of window 17 lies in its array. -/
theorem emb_17 (t : Fin cfg0.N) (b : Fin 3) (r : Fin 1024) :
    ((cfg0.win 17).blk t).view.emb (ix2 b r) = (ix2 b (iOf t.val r) : S3x32768.Idx) := by
  obtain ⟨e0, e1⟩ := idx_17 t
  have ht := third t
  refine funext fun a => Fin.ext ?_
  match a with
  | ⟨0, _⟩ => show win0_17.index t (0 : Fin 2) * 3 + 1 * b.val = b.val; omega
  | ⟨1, _⟩ => show win0_17.index t (1 : Fin 2) * 1024 + 1 * r.val = 1024 * (t.val / 3 % 32) + r.val; omega

theorem rows_self (y : S1x1024x512.Idx) : y = ix3 0 (y 1) (y 2) := funext fun a => Fin.ext (by
  match a with
  | ⟨0, _⟩ => exact Nat.lt_one_iff.mp (y 0).isLt
  | ⟨1, _⟩ => rfl
  | ⟨2, _⟩ => rfl)

theorem cols_self (y : S1x512x1024.Idx) : y = ix3 0 (y 1) (y 2) := funext fun a => Fin.ext (by
  match a with
  | ⟨0, _⟩ => exact Nat.lt_one_iff.mp (y 0).isLt
  | ⟨1, _⟩ => rfl
  | ⟨2, _⟩ => rfl)

theorem ix2_self (y : S3x1024.Idx) : y = ix2 (y 0) (y 1) := funext fun a => Fin.ext (by
  match a with
  | ⟨0, _⟩ => rfl
  | ⟨1, _⟩ => rfl)

/-! The written blocks fill their arrays. -/

theorem covers_13 : (cfg0.win 13).Covers := by decide +kernel
theorem covers_14 : (cfg0.win 14).Covers := by decide +kernel
theorem covers_15 : (cfg0.win 15).Covers := by decide +kernel
theorem covers_16 : (cfg0.win 16).Covers := by decide +kernel
theorem covers_17 : (cfg0.win 17).Covers := by decide +kernel

end Cert.QkvIdeal.Hand
-- ==== Proof.Qkv.Result.lean ====
module

public import proofs.«01_k».proof.Proof.Qkv.Payload
public import proofs.«01_k».proof.Proof.Qkv.Args
public import proofs.«01_k».proof.Proof.Qkv.Places
public import Idealize.ShloMosaic.Lib.Pipeline.ArrRel

/-! The five result arrays of the projection call after the run, on the extended reals. -/

@[expose] public section

set_option maxRecDepth 16384

noncomputable section

namespace Cert.QkvIdeal.Hand

open Cert.QkvIdeal Cert.QkvIdeal.Gen Cert.Quant Idealize.ShloMosaic Idealize.ShloMosaic.TcCoe Idealize.SL.Sem
  Idealize.ShloMosaic.Pipeline

variable (m : (ℓ : Loc nD τ sig) → Buf (Elt Ideal) ℓ)

/-! The arguments. -/

abbrev arg0 (c : Dev nD) : Vec Ideal S3x32768x512 .bf16 := m ((c : Thread nD τ).loc main_arg0)
abbrev arg1 (c : Dev nD) : Vec Ideal S3x1x512 .f32 := m ((c : Thread nD τ).loc main_arg1)
abbrev arg2 (c : Dev nD) : Vec Ideal S3x1x512 .f32 := m ((c : Thread nD τ).loc main_arg2)
abbrev arg3 (c : Dev nD) : Vec Ideal S512 .f32 := m ((c : Thread nD τ).loc main_arg3)
abbrev arg4 (c : Dev nD) : Vec Ideal S512 .f32 := m ((c : Thread nD τ).loc main_arg4)
abbrev arg5 (c : Dev nD) : Vec Ideal S512x512 .i8 := m ((c : Thread nD τ).loc main_arg5)
abbrev arg6 (c : Dev nD) : Vec Ideal S512x512 .i8 := m ((c : Thread nD τ).loc main_arg6)
abbrev arg7 (c : Dev nD) : Vec Ideal S512x512 .i8 := m ((c : Thread nD τ).loc main_arg7)
abbrev arg8 (c : Dev nD) : Vec Ideal S512 .f32 := m ((c : Thread nD τ).loc main_arg8)
abbrev arg9 (c : Dev nD) : Vec Ideal S512 .f32 := m ((c : Thread nD τ).loc main_arg9)
abbrev arg10 (c : Dev nD) : Vec Ideal S512 .f32 := m ((c : Thread nD τ).loc main_arg10)
abbrev arg11 (c : Dev nD) : Vec Ideal S512 .f32 := m ((c : Thread nD τ).loc main_arg11)
abbrev arg12 (c : Dev nD) : Vec Ideal S512 .f32 := m ((c : Thread nD τ).loc main_arg12)

/-- Row `i` of batch `b`, normalised. -/
def hRow (c : Dev nD) (b : Fin 3) (i : Fin 32768) (d : Fin 512) : EReal :=
  (arg0 m c (ix3 b i d) - arg1 m c (ix3 b 0 d)) * arg2 m c (ix3 b 0 d) * arg3 m c (ix1 d) + arg4 m c (ix1 d)

/-! The rows through the three projections. -/

def qRow (c : Dev nD) (b : Fin 3) (i : Fin 32768) (d : Fin 512) : EReal :=
  rowProj (hRow m c b i) (fun y d => (((arg5 m c (ix2 y d)).toInt : ℝ) : EReal)) (fun d => arg8 m c (ix1 d)) (fun d => arg11 m c (ix1 d)) d
def kRow (c : Dev nD) (b : Fin 3) (i : Fin 32768) (d : Fin 512) : EReal :=
  rowKey (hRow m c b i) (fun y d => (((arg6 m c (ix2 y d)).toInt : ℝ) : EReal)) (fun d => arg9 m c (ix1 d)) d
def vRow (c : Dev nD) (b : Fin 3) (i : Fin 32768) (d : Fin 512) : EReal :=
  rowProj (hRow m c b i) (fun y d => (((arg7 m c (ix2 y d)).toInt : ℝ) : EReal)) (fun d => arg10 m c (ix1 d)) (fun d => arg12 m c (ix1 d)) d

/-! The five result arrays. -/

def qArr (c : Dev nD) : Vec Ideal S3x32768x512 .bf16 := fun i => qRow m c (i 0) (i 1) (i 2)
def kArr (c : Dev nD) : Vec Ideal S3x512x32768 .bf16 := fun i => kRow m c (i 0) (i 2) (i 1)
def vArr (c : Dev nD) : Vec Ideal S3x32768x512 .bf16 := fun i => vRow m c (i 0) (i 1) (i 2)
def codeArr (c : Dev nD) : Vec Ideal S3x32768x512 .i8 := fun i => Ideal.fptosi 8 (rowQ (hRow m c (i 0) (i 1)) (i 2))
def scaleArr (c : Dev nD) : Vec Ideal S3x32768 .f32 := fun i => rowScale (hRow m c (i 0) (i 1))

theorem qArr_at (c : Dev nD) (b : Fin 3) (i : Fin 32768) (d : Fin 512) : qArr m c (ix3 b i d) = qRow m c b i d := rfl
theorem kArr_at (c : Dev nD) (b : Fin 3) (d : Fin 512) (i : Fin 32768) : kArr m c (ix3 b d i) = kRow m c b i d := rfl
theorem vArr_at (c : Dev nD) (b : Fin 3) (i : Fin 32768) (d : Fin 512) : vArr m c (ix3 b i d) = vRow m c b i d := rfl
theorem codeArr_at (c : Dev nD) (b : Fin 3) (i : Fin 32768) (d : Fin 512) :
    codeArr m c (ix3 b i d) = Ideal.fptosi 8 (rowQ (hRow m c b i) d) := rfl
theorem scaleArr_at (c : Dev nD) (b : Fin 3) (i : Fin 32768) : scaleArr m c (ix2 b i) = rowScale (hRow m c b i) := rfl

/-- A normalised row of a block is the array's. -/
theorem rowH_eq (c : Dev nD) (t : Fin cfg0.N) (r : Fin 1024) :
    rowH (X0 m c t) (X1 m c t) (X2 m c t) (X3 m c t) (X4 m c t) r = hRow m c (bOf t.val) (iOf t.val r) := by
  funext d
  unfold rowH hRow
  rw [X0_at, X1_at, X2_at, X3_at, X4_at]

/-! What the body stores at a point is the result array there. -/

theorem Q_at (c : Dev nD) (t : Fin cfg0.N) (r : Fin 1024) (d : Fin 512) :
    Q m c t (ix3 0 r d) = qRow m c (bOf t.val) (iOf t.val r) d := by
  unfold Q qRow
  rw [outQ_at, rowH_eq]
  simp only [pay3_at, X5_at, X8_at, X11_at]

theorem Kt_at (c : Dev nD) (t : Fin cfg0.N) (d : Fin 512) (r : Fin 1024) :
    Kt m c t (ix3 0 d r) = kRow m c (bOf t.val) (iOf t.val r) d := by
  unfold Kt kRow
  rw [outK_at, rowH_eq]
  simp only [pay4_at, X6_at, X9_at]

theorem Vv_at (c : Dev nD) (t : Fin cfg0.N) (r : Fin 1024) (d : Fin 512) :
    Vv m c t (ix3 0 r d) = vRow m c (bOf t.val) (iOf t.val r) d := by
  unfold Vv vRow
  rw [outV_at, rowH_eq]
  simp only [pay5_at, X7_at, X10_at, X12_at]

theorem Codes_at (c : Dev nD) (t : Fin cfg0.N) (r : Fin 1024) (d : Fin 512) :
    Codes m c t (ix3 0 r d) = Ideal.fptosi 8 (rowQ (hRow m c (bOf t.val) (iOf t.val r)) d) := by
  unfold Codes
  rw [outCodes_at, rowH_eq]

theorem Scales_at (c : Dev nD) (t : Fin cfg0.N) (r : Fin 1024) :
    Scales m c t (ix2 0 r) = rowScale (hRow m c (bOf t.val) (iOf t.val r)) := by
  unfold Scales
  rw [outScales_at, rowH_eq]

/-- What is written at a point through window 13 is the result array there. -/
theorem at_13 (c : Dev nD) (t : Fin cfg0.N) (X : S1x1024x512.Idx → Elt Ideal (cfg0.win 13).elt) (h : X = Q m c t) (y : S1x1024x512.Idx) :
    X y = qArr m c (((cfg0.win 13).blk t).view.emb y) := by
  obtain ⟨r, d, rfl⟩ : ∃ r d, y = ix3 0 r d := ⟨y 1, y 2, rows_self y⟩
  have e := Q_at m c t r d
  rw [emb_13, qArr_at, h]
  exact e

/-- Result array 0, from what the body leaves in its blocks. -/
theorem arr_13 (c : Dev nD) (dat : Dat τ (Elt Ideal) Unit ℕ (UR sig nD τ) ℕ cfg0 c)
    (h : ∀ t, (cfg0.win 13).flush t = true → dat.after 13 t = Q m c t) : dat.arrAt 13 cfg0.N = qArr m c :=
  dat.arrAt_eq_of_covers 13 _ covers_13 fun t hf y => at_13 m c t _ (h t hf) y

/-- What is written at a point through window 14 is the result array there. -/
theorem at_14 (c : Dev nD) (t : Fin cfg0.N) (X : S1x512x1024.Idx → Elt Ideal (cfg0.win 14).elt) (h : X = Kt m c t) (y : S1x512x1024.Idx) :
    X y = kArr m c (((cfg0.win 14).blk t).view.emb y) := by
  obtain ⟨d, r, rfl⟩ : ∃ d r, y = ix3 0 d r := ⟨y 1, y 2, cols_self y⟩
  have e := Kt_at m c t d r
  rw [emb_14, kArr_at, h]
  exact e

/-- Result array 1, from what the body leaves in its blocks. -/
theorem arr_14 (c : Dev nD) (dat : Dat τ (Elt Ideal) Unit ℕ (UR sig nD τ) ℕ cfg0 c)
    (h : ∀ t, (cfg0.win 14).flush t = true → dat.after 14 t = Kt m c t) : dat.arrAt 14 cfg0.N = kArr m c :=
  dat.arrAt_eq_of_covers 14 _ covers_14 fun t hf y => at_14 m c t _ (h t hf) y

/-- What is written at a point through window 15 is the result array there. -/
theorem at_15 (c : Dev nD) (t : Fin cfg0.N) (X : S1x1024x512.Idx → Elt Ideal (cfg0.win 15).elt) (h : X = Vv m c t) (y : S1x1024x512.Idx) :
    X y = vArr m c (((cfg0.win 15).blk t).view.emb y) := by
  obtain ⟨r, d, rfl⟩ : ∃ r d, y = ix3 0 r d := ⟨y 1, y 2, rows_self y⟩
  have e := Vv_at m c t r d
  rw [emb_15, vArr_at, h]
  exact e

/-- Result array 2, from what the body leaves in its blocks. -/
theorem arr_15 (c : Dev nD) (dat : Dat τ (Elt Ideal) Unit ℕ (UR sig nD τ) ℕ cfg0 c)
    (h : ∀ t, (cfg0.win 15).flush t = true → dat.after 15 t = Vv m c t) : dat.arrAt 15 cfg0.N = vArr m c :=
  dat.arrAt_eq_of_covers 15 _ covers_15 fun t hf y => at_15 m c t _ (h t hf) y

/-- What is written at a point through window 16 is the result array there. -/
theorem at_16 (c : Dev nD) (t : Fin cfg0.N) (X : S1x1024x512.Idx → Elt Ideal (cfg0.win 16).elt) (h : X = Codes m c t) (y : S1x1024x512.Idx) :
    X y = codeArr m c (((cfg0.win 16).blk t).view.emb y) := by
  obtain ⟨r, d, rfl⟩ : ∃ r d, y = ix3 0 r d := ⟨y 1, y 2, rows_self y⟩
  have e := Codes_at m c t r d
  rw [emb_16, codeArr_at, h]
  exact e

/-- Result array 3, from what the body leaves in its blocks. -/
theorem arr_16 (c : Dev nD) (dat : Dat τ (Elt Ideal) Unit ℕ (UR sig nD τ) ℕ cfg0 c)
    (h : ∀ t, (cfg0.win 16).flush t = true → dat.after 16 t = Codes m c t) : dat.arrAt 16 cfg0.N = codeArr m c :=
  dat.arrAt_eq_of_covers 16 _ covers_16 fun t hf y => at_16 m c t _ (h t hf) y

/-- What is written through window 17, after the last batch of a block of rows, is the result array there. -/
theorem at_17 (c : Dev nD) (t : Fin cfg0.N) (hf : (cfg0.win 17).flush t = true) (X : S3x1024.Idx → Elt Ideal (cfg0.win 17).elt)
    (h : scalesDone m c t.val X) (y : S3x1024.Idx) : X y = scaleArr m c (((cfg0.win 17).blk t).view.emb y) := by
  obtain ⟨b, r, rfl⟩ : ∃ b r, y = ix2 b r := ⟨y 0, y 1, ix2_self y⟩
  have hm := (flush0_17 t).mp hf
  have hb : b.val < 3 := b.isLt
  have ht := t.isLt
  have key := h ⟨3 * (t.val / 3) + b.val, by omega⟩ (by show (3 * (t.val / 3) + b.val) / 3 = t.val / 3; omega)
    (by show 3 * (t.val / 3) + b.val ≤ t.val; omega) r
  have e1 : bOf (3 * (t.val / 3) + b.val) = b := Fin.ext (by show (3 * (t.val / 3) + b.val) % 3 = b.val; omega)
  have e2 : iOf (3 * (t.val / 3) + b.val) r = iOf t.val r := Fin.ext (by
    show 1024 * ((3 * (t.val / 3) + b.val) / 3 % 32) + r.val = 1024 * (t.val / 3 % 32) + r.val
    omega)
  have e := key.trans (Scales_at m c ⟨3 * (t.val / 3) + b.val, by omega⟩ r)
  dsimp only at e
  rw [e1, e2] at e
  rw [emb_17, scaleArr_at]
  exact e

/-- Result array 4, from what the body leaves in its blocks. -/
theorem arr_17 (c : Dev nD) (dat : Dat τ (Elt Ideal) Unit ℕ (UR sig nD τ) ℕ cfg0 c)
    (h : ∀ t, (cfg0.win 17).flush t = true → scalesDone m c t.val (dat.after 17 t)) : dat.arrAt 17 cfg0.N = scaleArr m c :=
  dat.arrAt_eq_of_covers 17 _ covers_17 fun t hf y => at_17 m c t hf _ (h t hf) y

/-- After the run. -/
theorem results {r : PUnit × MemSt nD τ sig (Elt Ideal)} (h : RDat.FramePost (cfgs 0) (fun c => rdat m c) (V m) r) (c : Dev nD) :
    r.2.mem ((c.tc : Thread nD τ).loc main_v7_0) = qArr m c
      ∧ r.2.mem ((c.tc : Thread nD τ).loc main_v7_1) = kArr m c
      ∧ r.2.mem ((c.tc : Thread nD τ).loc main_v7_2) = vArr m c
      ∧ r.2.mem ((c.tc : Thread nD τ).loc main_v7_3) = codeArr m c
      ∧ r.2.mem ((c.tc : Thread nD τ).loc main_v7_4) = scaleArr m c := by
  obtain ⟨after, hl, ha⟩ := h.exists_exact c
  have hr : ∀ w, marks w = true → ∀ t, (cfg0.win w).flush t = true → rel m c w t (after w t) := fun w hw t hf =>
    (dats m 0 c).toRRel_leaves (fgt := marks) (Rl := rel m c) (w := w) hw (hl w t hf)
  exact ⟨(ha 13).trans (arr_13 m c _ fun t hf => hr 13 rfl t hf), (ha 14).trans (arr_14 m c _ fun t hf => hr 14 rfl t hf),
    (ha 15).trans (arr_15 m c _ fun t hf => hr 15 rfl t hf), (ha 16).trans (arr_16 m c _ fun t hf => hr 16 rfl t hf),
    (ha 17).trans (arr_17 m c _ fun t hf => hr 17 rfl t hf)⟩

end Cert.QkvIdeal.Hand
-- ==== Proof.Qkv.Reference.lean ====
module

public import proofs.«01_k».proof.Proof.Attention.Quant
public import proofs.«01_k».proof.Proof.Qkv.Payload
public import proofs.«01_k».proof.Proof.Gen.QkvRefIdeal.Read
public import Idealize.ShloMosaic.Lib.KernelVsHost
public import Idealize.ShloMosaic.Lib.Pointwise.Index

/-! What the reference of the projection call (normalisation, quantisation, the three projections) is at an index, on the
extended reals. -/

@[expose] public section

noncomputable section

namespace Cert.QkvRefIdeal.Hand

open Cert.QkvRefIdeal Cert.QkvRefIdeal.Gen Cert.QkvRefIdeal.Read Cert.Quant Idealize.ShloMosaic

variable (x0 : Vec Ideal S3x32768x512 .bf16) (x1 x2 : Vec Ideal S3x1x512 .f32) (x3 x4 : Vec Ideal S512 .f32)
  (w : Vec Ideal S512x512 .i8) (s t : Vec Ideal S512 .f32)

/-- Row `i` of batch `b`, normalised. -/
def refRow (b : Fin 3) (i : Fin 32768) (d : Fin 512) : EReal :=
  (x0 (ix3 b i d) - x1 (ix3 b 0 d)) * x2 (ix3 b 0 d) * x3 (ix1 d) + x4 (ix1 d)

/-- The normalised activations. -/
theorem v10_at (b : Fin 3) (i : Fin 32768) (d : Fin 512) :
    val_main_v10 (F := Ideal) x0 x1 x2 x3 x4 (ix3 b i d) = refRow x0 x1 x2 x3 x4 b i d := by
  have h1 : idx_main_v1 (ix3 b i d) = ix3 b 0 d := funext fun a => Fin.ext (by match a with | ⟨0, _⟩ => rfl | ⟨1, _⟩ => rfl | ⟨2, _⟩ => rfl)
  have h3 : idx_main_v3 (ix3 b i d) = ix3 b 0 d := funext fun a => Fin.ext (by match a with | ⟨0, _⟩ => rfl | ⟨1, _⟩ => rfl | ⟨2, _⟩ => rfl)
  have h5 : idx_main_v5 (idx_main_v6 (ix3 b i d)) = ix1 d := funext fun a => Fin.ext (by match a with | ⟨0, _⟩ => rfl)
  have h8 : idx_main_v8 (idx_main_v9 (ix3 b i d)) = ix1 d := funext fun a => Fin.ext (by match a with | ⟨0, _⟩ => rfl)
  rw [val_main_v10_apply, val_main_v9_apply, val_main_v8_apply, val_main_v7_apply, val_main_v6_apply, val_main_v5_apply,
    val_main_v4_apply, val_main_v3_apply, val_main_v2_apply, val_main_v1_apply, val_main_v0_apply, h1, h3, h5, h8]
  rfl

/-- The largest magnitude of a row. -/
theorem v12_at (b : Fin 3) (i : Fin 32768) : val_main_v12 (F := Ideal) x0 x1 x2 x3 x4 (ix2 b i) = rowMax (refRow x0 x1 x2 x3 x4 b i) := by
  have e : ∀ d, val_main_v11 (F := Ideal) x0 x1 x2 x3 x4 (ix3 b i d) = FloatOps.absf (F := Ideal) (φ := .f32) (refRow x0 x1 x2 x3 x4 b i d) := fun d =>
    (val_main_v11_apply x0 x1 x2 x3 x4 (ix3 b i d)).trans (congrArg _ (v10_at x0 x1 x2 x3 x4 b i d))
  unfold val_main_v12
  generalize val_main_v11 (F := Ideal) x0 x1 x2 x3 x4 = y at e
  unfold val_main_cst
  refine (congrFun (hostReduce_maximumf_eq_multiReduction (F := Ideal) (s := S3x32768x512) (t := S3x32768) (u := S_) (φ := .f32) (axes := [2]) y
    0xFF800000#32 reducesTo_S3x32768x512_S3x32768_d2 h_S_ (by decide) (.inl rfl) rfl) (ix2 b i)).trans ?_
  refine (Ideal.multiReduction_maximumf_single (φ := .f32) (s := S3x32768x512) (t := S3x32768) (a := 2) y _ _ _ _ _).trans ?_
  show Finset.univ.fold max (Ideal.ofBits .f32 0xFF800000#32) _ = _
  rw [ofBits_neg_inf]
  refine congrArg (Finset.univ.fold max ⊥) (funext fun d => ?_)
  refine Eq.trans ?_ (e d)
  exact congrArg y (funext fun a => Fin.ext (by match a with | ⟨0, _⟩ => rfl | ⟨1, _⟩ => rfl | ⟨2, _⟩ => rfl))

/-- The scale of a row. -/
theorem v17_at (b : Fin 3) (i : Fin 32768) : val_main_v17 (F := Ideal) x0 x1 x2 x3 x4 (ix2 b i) = rowScale (refRow x0 x1 x2 x3 x4 b i) := by
  rw [val_main_v17_apply, val_main_v16_apply, val_main_v14_apply, v12_at, val_main_v13_apply, val_main_v15_apply, val_main_call0_v1_apply,
    val_main_call0_v0_apply]
  have h4 : val_main_cst_0 (F := Ideal) (idx_main_v13 (ix2 b i)) = 0 := Ideal.ofBits_zero_f32
  have h5 : val_main_cst_1 (F := Ideal) (idx_main_v15 (ix2 b i)) = ((127 : ℝ) : EReal) := ofBits_127
  have h6 : val_main_cst_2 (F := Ideal) (idx_main_call0_v1 (ix2 b i)) = 1 := ofBits_one
  rw [h4, h5, h6]
  unfold rowScale
  generalize rowMax (refRow x0 x1 x2 x3 x4 b i) = M
  show Scalar.select (Ideal.cmp .oeq M 0) (1 : EReal) (Ideal.div M ((127 : ℝ) : EReal)) = _
  rw [Ideal.div_coe (by norm_num : (127 : ℝ) ≠ 0)]
  by_cases h : M = 0
  · simp [Scalar.select, Ideal.cmp, h]
  · simp [Scalar.select, Ideal.cmp, h]

/-- The rounded and clipped values of a row. -/
theorem v22_at (b : Fin 3) (i : Fin 32768) (d : Fin 512) :
    val_main_v22 (F := Ideal) x0 x1 x2 x3 x4 (ix3 b i d) = rowQ (refRow x0 x1 x2 x3 x4 b i) d := by
  have hi : idx_main_v18 (idx_main_v19 (ix3 b i d)) = ix2 b i := funext fun a => Fin.ext (by match a with | ⟨0, _⟩ => rfl | ⟨1, _⟩ => rfl)
  rw [val_main_v22_apply, val_main_call2_v2_apply, val_main_call2_v4_apply, val_main_call2_v1_apply, val_main_v21_apply, val_main_v20_apply,
    val_main_v19_apply, val_main_v18_apply, hi, v17_at, v10_at]
  have h7 : val_main_call2_v3 (F := Ideal) (idx_main_call2_v4 (ix3 b i d)) = ((127 : ℝ) : EReal) := ofBits_127
  have h8 : val_main_call2_v0 (F := Ideal) (idx_main_call2_v1 (ix3 b i d)) = ((-127 : ℝ) : EReal) := ofBits_neg_127
  rw [h7, h8]
  unfold rowQ
  generalize rowScale (refRow x0 x1 x2 x3 x4 b i) = c
  generalize refRow x0 x1 x2 x3 x4 b i d = z
  rfl

/-- The codes of a row. -/
theorem v24_at (b : Fin 3) (i : Fin 32768) (d : Fin 512) :
    val_main_v24 (F := Ideal) x0 x1 x2 x3 x4 (ix3 b i d) = Ideal.fptosi 8 (rowQ (refRow x0 x1 x2 x3 x4 b i) d) := by
  rw [val_main_v24_apply, val_main_v23_apply, v22_at]
  exact code_eq _ _

/-! The codes and the weights read back as numbers, once for each projection. -/

theorem v27_at (b : Fin 3) (i : Fin 32768) (d : Fin 512) :
    val_main_v27 (F := Ideal) x0 x1 x2 x3 x4 (ix3 b i d) = rowQ (refRow x0 x1 x2 x3 x4 b i) d := by
  rw [val_main_v27_apply, val_main_v26_apply, val_main_v25_apply, v24_at]
  exact decode_eq _ _

theorem v44_at (b : Fin 3) (i : Fin 32768) (d : Fin 512) :
    val_main_v44 (F := Ideal) x0 x1 x2 x3 x4 (ix3 b i d) = rowQ (refRow x0 x1 x2 x3 x4 b i) d := by
  rw [val_main_v44_apply, val_main_v43_apply, val_main_v42_apply, v24_at]
  exact decode_eq _ _

theorem v58_at (b : Fin 3) (i : Fin 32768) (d : Fin 512) :
    val_main_v58 (F := Ideal) x0 x1 x2 x3 x4 (ix3 b i d) = rowQ (refRow x0 x1 x2 x3 x4 b i) d := by
  rw [val_main_v58_apply, val_main_v57_apply, val_main_v56_apply, v24_at]
  exact decode_eq _ _

theorem v30_at (y d : Fin 512) : val_main_v30 (F := Ideal) w (ix2 y d) = (((w (ix2 y d)).toInt : ℝ) : EReal) := by
  rw [val_main_v30_apply, val_main_v29_apply, val_main_v28_apply]
  show (((BitVec.signExtend 32 (w (ix2 y d))).toInt : ℝ) : EReal) = _
  rw [BitVec.toInt_signExtend_of_le (by norm_num)]

theorem v47_at (y d : Fin 512) : val_main_v47 (F := Ideal) w (ix2 y d) = (((w (ix2 y d)).toInt : ℝ) : EReal) := by
  rw [val_main_v47_apply, val_main_v46_apply, val_main_v45_apply]
  show (((BitVec.signExtend 32 (w (ix2 y d))).toInt : ℝ) : EReal) = _
  rw [BitVec.toInt_signExtend_of_le (by norm_num)]

theorem v61_at (y d : Fin 512) : val_main_v61 (F := Ideal) w (ix2 y d) = (((w (ix2 y d)).toInt : ℝ) : EReal) := by
  rw [val_main_v61_apply, val_main_v60_apply, val_main_v59_apply]
  show (((BitVec.signExtend 32 (w (ix2 y d))).toInt : ℝ) : EReal) = _
  rw [BitVec.toInt_signExtend_of_le (by norm_num)]

/-- The queries. -/
theorem v41_at (b : Fin 3) (i : Fin 32768) (d : Fin 512) :
    val_main_v41 (F := Ideal) x0 x1 x2 x3 x4 w s t (ix3 b i d)
      = rowProj (refRow x0 x1 x2 x3 x4 b i) (fun y d => (((w (ix2 y d)).toInt : ℝ) : EReal)) (fun d => s (ix1 d)) (fun d => t (ix1 d)) d := by
  have hi : idx_main_v32 (idx_main_v33 (ix3 b i d)) = ix2 b i := funext fun a => Fin.ext (by match a with | ⟨0, _⟩ => rfl | ⟨1, _⟩ => rfl)
  have hs : idx_main_v35 (idx_main_v36 (ix3 b i d)) = ix1 d := funext fun a => Fin.ext (by match a with | ⟨0, _⟩ => rfl)
  have ht : idx_main_v38 (idx_main_v39 (ix3 b i d)) = ix1 d := funext fun a => Fin.ext (by match a with | ⟨0, _⟩ => rfl)
  have hd : (∑ y : Fin 512, (val_main_v27 (F := Ideal) x0 x1 x2 x3 x4) (lidx_main_v31 (ix3 b i d) y) * (val_main_v30 (F := Ideal) w) (ridx_main_v31 (ix3 b i d) y))
      = ∑ y : Fin 512, rowQ (refRow x0 x1 x2 x3 x4 b i) y * (((w (ix2 y d)).toInt : ℝ) : EReal) := by
    refine Finset.sum_congr rfl fun y _ => ?_
    have hl : lidx_main_v31 (ix3 b i d) y = ix3 b i y := funext fun a => Fin.ext (by match a with | ⟨0, _⟩ => rfl | ⟨1, _⟩ => rfl | ⟨2, _⟩ => rfl)
    have hr : ridx_main_v31 (ix3 b i d) y = ix2 y d := funext fun a => Fin.ext (by match a with | ⟨0, _⟩ => rfl | ⟨1, _⟩ => rfl)
    rw [hl, hr, v27_at, v30_at]
  rw [val_main_v41_apply, val_main_v40_apply, val_main_v39_apply, val_main_v38_apply, val_main_v37_apply, val_main_v36_apply,
    val_main_v35_apply, val_main_v34_apply, val_main_v33_apply, val_main_v32_apply, hi, hs, ht, v17_at, val_main_v31_apply, hd]
  rfl

/-- The values. -/
theorem v72_at (b : Fin 3) (i : Fin 32768) (d : Fin 512) :
    val_main_v72 (F := Ideal) x0 x1 x2 x3 x4 w s t (ix3 b i d)
      = rowProj (refRow x0 x1 x2 x3 x4 b i) (fun y d => (((w (ix2 y d)).toInt : ℝ) : EReal)) (fun d => s (ix1 d)) (fun d => t (ix1 d)) d := by
  have hi : idx_main_v63 (idx_main_v64 (ix3 b i d)) = ix2 b i := funext fun a => Fin.ext (by match a with | ⟨0, _⟩ => rfl | ⟨1, _⟩ => rfl)
  have hs : idx_main_v66 (idx_main_v67 (ix3 b i d)) = ix1 d := funext fun a => Fin.ext (by match a with | ⟨0, _⟩ => rfl)
  have ht : idx_main_v69 (idx_main_v70 (ix3 b i d)) = ix1 d := funext fun a => Fin.ext (by match a with | ⟨0, _⟩ => rfl)
  have hd : (∑ y : Fin 512, (val_main_v58 (F := Ideal) x0 x1 x2 x3 x4) (lidx_main_v62 (ix3 b i d) y) * (val_main_v61 (F := Ideal) w) (ridx_main_v62 (ix3 b i d) y))
      = ∑ y : Fin 512, rowQ (refRow x0 x1 x2 x3 x4 b i) y * (((w (ix2 y d)).toInt : ℝ) : EReal) := by
    refine Finset.sum_congr rfl fun y _ => ?_
    have hl : lidx_main_v62 (ix3 b i d) y = ix3 b i y := funext fun a => Fin.ext (by match a with | ⟨0, _⟩ => rfl | ⟨1, _⟩ => rfl | ⟨2, _⟩ => rfl)
    have hr : ridx_main_v62 (ix3 b i d) y = ix2 y d := funext fun a => Fin.ext (by match a with | ⟨0, _⟩ => rfl | ⟨1, _⟩ => rfl)
    rw [hl, hr, v58_at, v61_at]
  rw [val_main_v72_apply, val_main_v71_apply, val_main_v70_apply, val_main_v69_apply, val_main_v68_apply, val_main_v67_apply,
    val_main_v66_apply, val_main_v65_apply, val_main_v64_apply, val_main_v63_apply, hi, hs, ht, v17_at, val_main_v62_apply, hd]
  rfl

/-- The keys: no bias, and written with a row's numbers down a column. -/
theorem v73_at (b : Fin 3) (d : Fin 512) (i : Fin 32768) :
    val_main_v73 (F := Ideal) x0 x1 x2 x3 x4 w s (ix3 b d i)
      = Cert.QkvIdeal.Hand.rowKey (refRow x0 x1 x2 x3 x4 b i) (fun y d => (((w (ix2 y d)).toInt : ℝ) : EReal)) (fun d => s (ix1 d)) d := by
  have h73 : idx_main_v73 (ix3 b d i) = ix3 b i d := funext fun a => Fin.ext (by match a with | ⟨0, _⟩ => rfl | ⟨1, _⟩ => rfl | ⟨2, _⟩ => rfl)
  have hi : idx_main_v49 (idx_main_v50 (ix3 b i d)) = ix2 b i := funext fun a => Fin.ext (by match a with | ⟨0, _⟩ => rfl | ⟨1, _⟩ => rfl)
  have hs : idx_main_v52 (idx_main_v53 (ix3 b i d)) = ix1 d := funext fun a => Fin.ext (by match a with | ⟨0, _⟩ => rfl)
  have hd : (∑ y : Fin 512, (val_main_v44 (F := Ideal) x0 x1 x2 x3 x4) (lidx_main_v48 (ix3 b i d) y) * (val_main_v47 (F := Ideal) w) (ridx_main_v48 (ix3 b i d) y))
      = ∑ y : Fin 512, rowQ (refRow x0 x1 x2 x3 x4 b i) y * (((w (ix2 y d)).toInt : ℝ) : EReal) := by
    refine Finset.sum_congr rfl fun y _ => ?_
    have hl : lidx_main_v48 (ix3 b i d) y = ix3 b i y := funext fun a => Fin.ext (by match a with | ⟨0, _⟩ => rfl | ⟨1, _⟩ => rfl | ⟨2, _⟩ => rfl)
    have hr : ridx_main_v48 (ix3 b i d) y = ix2 y d := funext fun a => Fin.ext (by match a with | ⟨0, _⟩ => rfl | ⟨1, _⟩ => rfl)
    rw [hl, hr, v44_at, v47_at]
  rw [val_main_v73_apply, h73, val_main_v55_apply, val_main_v54_apply, val_main_v53_apply, val_main_v52_apply, val_main_v51_apply,
    val_main_v50_apply, val_main_v49_apply, hi, hs, v17_at, val_main_v48_apply, hd]
  rfl

end Cert.QkvRefIdeal.Hand
-- ==== Proof.Qkv.Claims.lean ====
module

public import proofs.«01_k».proof.Defs
public import proofs.«01_k».proof.Proof.Qkv.Result
public import proofs.«01_k».proof.Proof.Qkv.Reference
public import proofs.«01_k».proof.Proof.Gen.QkvRefIdeal.Run

/-! The projection call and its reference end with the same five results on the extended reals. -/

@[expose] public section

set_option maxRecDepth 16384

noncomputable section

namespace Cert.QkvIdeal.Hand

open Cert.QkvIdeal Cert.QkvIdeal.Gen Cert.Quant Idealize.ShloMosaic Idealize.ShloMosaic.TcCoe Idealize.SL.Sem
  Idealize.ShloMosaic.Pipeline

variable (m : (ℓ : Loc nD τ sig) → Buf (Elt Ideal) ℓ)

/-! An index is its coordinates. -/

theorem split_rows (i : S3x32768x512.Idx) : ∃ (b : Fin 3) (r : Fin 32768) (d : Fin 512), i = ix3 b r d :=
  ⟨i 0, i 1, i 2, funext fun a => by match a with | ⟨0, _⟩ => rfl | ⟨1, _⟩ => rfl | ⟨2, _⟩ => rfl⟩

theorem split_cols (i : S3x512x32768.Idx) : ∃ (b : Fin 3) (d : Fin 512) (r : Fin 32768), i = ix3 b d r :=
  ⟨i 0, i 1, i 2, funext fun a => by match a with | ⟨0, _⟩ => rfl | ⟨1, _⟩ => rfl | ⟨2, _⟩ => rfl⟩

theorem split_scales (i : S3x32768.Idx) : ∃ (b : Fin 3) (r : Fin 32768), i = ix2 b r :=
  ⟨i 0, i 1, funext fun a => by match a with | ⟨0, _⟩ => rfl | ⟨1, _⟩ => rfl⟩

/-- The reference's normalised rows are the call's. -/
theorem refRow_eq (c : Dev nD) : Cert.QkvRefIdeal.Hand.refRow (arg0 m c) (arg1 m c) (arg2 m c) (arg3 m c) (arg4 m c) = hRow m c := rfl

/-! The reference's five results are the arrays that the call leaves. -/

theorem ref_q_at (c : Dev nD) (b : Fin 3) (r : Fin 32768) (d : Fin 512) :
    Cert.QkvRefIdeal.Read.val_main_v41 (F := Ideal) (arg0 m c) (arg1 m c) (arg2 m c) (arg3 m c) (arg4 m c) (arg5 m c) (arg8 m c) (arg11 m c) (ix3 b r d) = qArr m c (ix3 b r d) := by
  refine (Cert.QkvRefIdeal.Hand.v41_at (arg0 m c) (arg1 m c) (arg2 m c) (arg3 m c) (arg4 m c) (arg5 m c) (arg8 m c) (arg11 m c) b r d).trans ?_
  rw [refRow_eq, qArr_at]
  rfl

theorem ref_q (c : Dev nD) : Cert.QkvRefIdeal.Read.val_main_v41 (F := Ideal) (arg0 m c) (arg1 m c) (arg2 m c) (arg3 m c) (arg4 m c) (arg5 m c) (arg8 m c) (arg11 m c) = qArr m c :=
  funext fun i => by
    obtain ⟨b, r, d, rfl⟩ := split_rows i
    exact ref_q_at m c b r d

theorem ref_k_at (c : Dev nD) (b : Fin 3) (d : Fin 512) (r : Fin 32768) :
    Cert.QkvRefIdeal.Read.val_main_v73 (F := Ideal) (arg0 m c) (arg1 m c) (arg2 m c) (arg3 m c) (arg4 m c) (arg6 m c) (arg9 m c) (ix3 b d r) = kArr m c (ix3 b d r) := by
  refine (Cert.QkvRefIdeal.Hand.v73_at (arg0 m c) (arg1 m c) (arg2 m c) (arg3 m c) (arg4 m c) (arg6 m c) (arg9 m c) b d r).trans ?_
  rw [refRow_eq, kArr_at]
  rfl

theorem ref_k (c : Dev nD) : Cert.QkvRefIdeal.Read.val_main_v73 (F := Ideal) (arg0 m c) (arg1 m c) (arg2 m c) (arg3 m c) (arg4 m c) (arg6 m c) (arg9 m c) = kArr m c :=
  funext fun i => by
    obtain ⟨b, d, r, rfl⟩ := split_cols i
    exact ref_k_at m c b d r

theorem ref_v_at (c : Dev nD) (b : Fin 3) (r : Fin 32768) (d : Fin 512) :
    Cert.QkvRefIdeal.Read.val_main_v72 (F := Ideal) (arg0 m c) (arg1 m c) (arg2 m c) (arg3 m c) (arg4 m c) (arg7 m c) (arg10 m c) (arg12 m c) (ix3 b r d) = vArr m c (ix3 b r d) := by
  refine (Cert.QkvRefIdeal.Hand.v72_at (arg0 m c) (arg1 m c) (arg2 m c) (arg3 m c) (arg4 m c) (arg7 m c) (arg10 m c) (arg12 m c) b r d).trans ?_
  rw [refRow_eq, vArr_at]
  rfl

theorem ref_v (c : Dev nD) : Cert.QkvRefIdeal.Read.val_main_v72 (F := Ideal) (arg0 m c) (arg1 m c) (arg2 m c) (arg3 m c) (arg4 m c) (arg7 m c) (arg10 m c) (arg12 m c) = vArr m c :=
  funext fun i => by
    obtain ⟨b, r, d, rfl⟩ := split_rows i
    exact ref_v_at m c b r d

theorem ref_codes_at (c : Dev nD) (b : Fin 3) (r : Fin 32768) (d : Fin 512) :
    Cert.QkvRefIdeal.Read.val_main_v24 (F := Ideal) (arg0 m c) (arg1 m c) (arg2 m c) (arg3 m c) (arg4 m c) (ix3 b r d) = codeArr m c (ix3 b r d) := by
  refine (Cert.QkvRefIdeal.Hand.v24_at (arg0 m c) (arg1 m c) (arg2 m c) (arg3 m c) (arg4 m c) b r d).trans ?_
  rw [refRow_eq, codeArr_at]

theorem ref_codes (c : Dev nD) : Cert.QkvRefIdeal.Read.val_main_v24 (F := Ideal) (arg0 m c) (arg1 m c) (arg2 m c) (arg3 m c) (arg4 m c)  = codeArr m c :=
  funext fun i => by
    obtain ⟨b, r, d, rfl⟩ := split_rows i
    exact ref_codes_at m c b r d

theorem ref_scale_at (c : Dev nD) (b : Fin 3) (r : Fin 32768) :
    Cert.QkvRefIdeal.Read.val_main_v17 (F := Ideal) (arg0 m c) (arg1 m c) (arg2 m c) (arg3 m c) (arg4 m c) (ix2 b r) = scaleArr m c (ix2 b r) := by
  refine (Cert.QkvRefIdeal.Hand.v17_at (arg0 m c) (arg1 m c) (arg2 m c) (arg3 m c) (arg4 m c) b r).trans ?_
  rw [refRow_eq, scaleArr_at]

theorem ref_scale (c : Dev nD) : Cert.QkvRefIdeal.Read.val_main_v17 (F := Ideal) (arg0 m c) (arg1 m c) (arg2 m c) (arg3 m c) (arg4 m c)  = scaleArr m c :=
  funext fun i => by
    obtain ⟨b, r, rfl⟩ := split_scales i
    exact ref_scale_at m c b r

/-- The two programs, from the same arguments, end with the same results. -/
theorem algebraic [Cert.QkvIdeal.Facts] [Cert.QkvRefIdeal.Facts] : Cert.algebraic_QkvIdeal_QkvRefIdeal := by
  intro m g m' g' _ hag
  refine ⟨qArr m, kArr m, vArr m, codeArr m, scaleArr m, ?_, ?_⟩
  · exact (θ_run defs _ _).mono (fun _ h c => by
      obtain ⟨h0, h1, h2, h3, h4⟩ := results m h c
      exact ⟨h0, h1, h2, h3, h4, args_kept h c⟩) (run_main m g)
  · refine (θ_run Cert.QkvRefIdeal.defs _ _).mono (fun _ h c => ?_) (Cert.QkvRefIdeal.Value.run m' g')
    obtain ⟨h0, h1, h2, h3, h4, hk⟩ := h c
    obtain ⟨a0, a1, a2, a3, a4, a5, a6, a7, a8, a9, a10, a11, a12⟩ := hag c
    refine ⟨h0.trans ?_, h1.trans ?_, h2.trans ?_, h3.trans ?_, h4.trans ?_, hk⟩
    · rw [Cert.QkvRefIdeal.Read.val_main_v41_eq, a0, a1, a2, a3, a4, a5, a8, a11]
      exact ref_q m c
    · rw [Cert.QkvRefIdeal.Read.val_main_v73_eq, a0, a1, a2, a3, a4, a6, a9]
      exact ref_k m c
    · rw [Cert.QkvRefIdeal.Read.val_main_v72_eq, a0, a1, a2, a3, a4, a7, a10, a12]
      exact ref_v m c
    · rw [Cert.QkvRefIdeal.Read.val_main_v24_eq, a0, a1, a2, a3, a4]
      exact ref_codes m c
    · rw [Cert.QkvRefIdeal.Read.val_main_v17_eq, a0, a1, a2, a3, a4]
      exact ref_scale m c

end Cert.QkvIdeal.Hand
-- ==== Proof.Qkv.Constants.lean ====
module

public import proofs.«01_k».proof.Defs
public import Idealize.ShloMosaic.PureOps.IdealRules

/-! The named constant of the projection call: the binary float printed for it is the float nearest the real number it
stands for. -/

@[expose] public section

noncomputable section

namespace Cert.QkvIdeal.Hand

open Idealize.ShloMosaic

/-- Putting the real in place of the constant of the call changes nothing in floating point. -/
theorem preserves : Cert.preserves_Qkv_QkvIdeal :=
  IdealRules.named_const.statement Cert.QkvIdeal.κ "inv_127" .f32 0x3C010204#32 ((1/127 : ℝ) : EReal) rfl

end Cert.QkvIdeal.Hand
-- ==== Proof.lean ====
module

public import proofs.«01_k».proof.Defs
public import proofs.«01_k».proof.Proof.Gen.Attn
public import proofs.«01_k».proof.Proof.Gen.AttnIdeal
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Qkv
public import proofs.«01_k».proof.Proof.Gen.QkvIdeal
public import proofs.«01_k».proof.Proof.Gen.QkvRefIdeal
public import proofs.«01_k».proof.Proof.Gen.QkvRefIdeal.Run
public import proofs.«01_k».proof.Proof.Gen.QkvRefIdeal.Read
public import proofs.«01_k».proof.Proof.Given.Args
public import proofs.«01_k».proof.Proof.Attention.Args
public import proofs.«01_k».proof.Proof.Attention.Claims
public import proofs.«01_k».proof.Proof.Attention.Constants
public import proofs.«01_k».proof.Proof.QkvGiven.Args
public import proofs.«01_k».proof.Proof.Qkv.Args
public import proofs.«01_k».proof.Proof.Qkv.Claims
public import proofs.«01_k».proof.Proof.Qkv.Constants
public import Idealize.ShloMosaic.Lib.Quiescent

@[expose] public section

noncomputable section

namespace Cert.Proof

open Idealize.ShloMosaic Idealize.SL.Sem

/-! The attention call. -/

/-- The call as given. -/
theorem frame_given : Cert.quiescent_Attn := fun m ρ _ => Cert.Attn.Hand.quiescent (F := Bits) m ρ

/-- The call with the named constants. -/
theorem frame_ideal : Cert.quiescent_AttnIdeal := fun m ρ _ => Cert.AttnIdeal.Hand.quiescent (F := Ideal) m ρ

/-- The reference: it declares no semaphore. -/
theorem frame_reference : Cert.quiescent_AttnRefIdeal := fun m ρ _ =>
  (θ_run Cert.AttnRefIdeal.defs _ _).mono
    (fun r h => ⟨fun c => (h c).2.2.2.2, Idealize.ShloMosaic.sem_eq_zero_of_no_sems (by decide) r.2⟩)
    (Cert.AttnRefIdeal.Value.run (F := Ideal) m ρ)

/-! The projection call. -/

/-- The call as given. -/
theorem frame_qkv_given : Cert.quiescent_Qkv := fun m ρ _ => Cert.Qkv.Hand.quiescent (F := Bits) m ρ

/-- The call with the named constant. -/
theorem frame_qkv_ideal : Cert.quiescent_QkvIdeal := fun m ρ _ => Cert.QkvIdeal.Hand.quiescent (F := Ideal) m ρ

/-- The reference: it declares no semaphore. -/
theorem frame_qkv_reference : Cert.quiescent_QkvRefIdeal := fun m ρ _ =>
  (θ_run Cert.QkvRefIdeal.defs _ _).mono
    (fun r h => ⟨fun c => (h c).2.2.2.2.2, Idealize.ShloMosaic.sem_eq_zero_of_no_sems (by decide) r.2⟩)
    (Cert.QkvRefIdeal.Value.run (F := Ideal) m ρ)

theorem claim : Cert.Claim :=
  ⟨Cert.Attn.Gen.facts, Cert.AttnIdeal.Gen.facts, Cert.AttnRefIdeal.Gen.facts,
    Cert.Qkv.Gen.facts, Cert.QkvIdeal.Gen.facts, Cert.QkvRefIdeal.Gen.facts,
    frame_given, frame_ideal, frame_reference, frame_qkv_given, frame_qkv_ideal, frame_qkv_reference,
    Cert.AttnIdeal.Hand.preserves, Cert.AttnIdeal.Hand.algebraic,
    Cert.QkvIdeal.Hand.preserves, Cert.QkvIdeal.Hand.algebraic⟩

end Cert.Proof

end
